-- ==== Defs.lean ====
def Pre_Kernel [hPre_gather_in_range : Cert.Pre_gather_in_range.Facts] (m : (ℓ : Loc Cert.Kernel.nD Cert.Kernel.τ Cert.Kernel.sig) → Buf (Elt Bits) ℓ) : Prop :=
  ∀ c : Dev Cert.Kernel.nD,
    (Cert.Pre_gather_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_gather_in_range : Cert.Pre_gather_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gather_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_gather_in_range : Cert.Pre_gather_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_gather_in_range : Cert.Pre_gather_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gather_in_range : Cert.Pre_gather_in_range.Facts) (hPre_sorted_segments : Cert.Pre_sorted_segments.Facts),
    quiescent_Kernel (hKernel := hKernel) (hPre_gather_in_range := hPre_gather_in_range)
    ∧ quiescent_KernelIdeal (hKernelIdeal := hKernelIdeal) (hPre_gather_in_range := hPre_gather_in_range)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_gather_in_range.lean ====
abbrev S10000x256 : Shape := ⟨2, ![10000, 256]⟩
abbrev S160000 : Shape := ⟨1, ![160000]⟩
abbrev S_ : Shape := ⟨0, ![]⟩

class Facts : Prop where
  bcast_S_S160000 : S_.BroadcastsInDim S160000 (![] : Fin 0 → Fin S160000.rank)
  reducesTo_S160000_S_d0 : S160000.ReducesTo [0] S_
  h_S_ : 0 < S_.numel

variable [Facts]

def fn {F : FTy → Type} [FloatOps F] (main_arg0 : FVec F S10000x256 .f32) (main_arg1 : IVec S160000 32) (main_arg2 : IVec S160000 32) : IVec S_ 1 :=
  let main_c : IVec S_ 32 := constantI S_ 32 0#32
  let main_v0 : IVec S160000 32 := broadcastInDim S160000 ![] bcast_S_S160000 main_c
  let main_v1 : IVec S160000 1 := cmpi .sge main_arg1 main_v0
  let main_c_0 : IVec S_ 32 := constantI S_ 32 10000#32
  let main_v2 : IVec S160000 32 := broadcastInDim S160000 ![] bcast_S_S160000 main_c_0
  let main_v3 : IVec S160000 1 := cmpi .slt main_arg1 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  main_v5
-- ==== Pre_sorted_segments.lean ====
abbrev S10000x256 : Shape := ⟨2, ![10000, 256]⟩
abbrev S160000 : Shape := ⟨1, ![160000]⟩
abbrev S_ : Shape := ⟨0, ![]⟩
abbrev S159999 : Shape := ⟨1, ![159999]⟩

class Facts : Prop where
  bcast_S_S160000 : S_.BroadcastsInDim S160000 (![] : Fin 0 → Fin S160000.rank)
  reducesTo_S160000_S_d0 : S160000.ReducesTo [0] S_
  h_S_ : 0 < S_.numel
  slices_S160000_S159999_0 : S160000.Slices ![0] S159999
  slices_S160000_S159999_1 : S160000.Slices ![1] S159999
  reducesTo_S159999_S_d0 : S159999.ReducesTo [0] S_

variable [Facts]

def fn {F : FTy → Type} [FloatOps F] (main_arg0 : FVec F S10000x256 .f32) (main_arg1 : IVec S160000 32) (main_arg2 : IVec S160000 32) : IVec S_ 1 :=
  let main_c : IVec S_ 32 := constantI S_ 32 0#32
  let main_v0 : IVec S160000 32 := broadcastInDim S160000 ![] bcast_S_S160000 main_c
  let main_v1 : IVec S160000 1 := cmpi .sge main_arg1 main_v0
  let main_c_0 : IVec S_ 32 := constantI S_ 32 10000#32
  let main_v2 : IVec S160000 32 := broadcastInDim S160000 ![] bcast_S_S160000 main_c_0
  let main_v3 : IVec S160000 1 := cmpi .slt main_arg1 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  let main_v6 : IVec S159999 32 := (extractStridedSlice S159999 ![0] · slices_S160000_S159999_0) main_arg2
  let main_v7 : IVec S159999 32 := (extractStridedSlice S159999 ![1] · slices_S160000_S159999_1) main_arg2
  let main_v8 : IVec S159999 1 := cmpi .sle main_v6 main_v7
  let main_c_2 : IVec S_ 1 := constantI S_ 1 1#1
  let main_v9 : IVec S_ 1 := (fun x v => Host.reduce IntOp.andi x v reducesTo_S159999_S_d0 h_S_) main_v8 main_c_2
  let main_v10 : IVec S_ 1 := andi main_v5 main_v9
  main_v10
-- ==== Kernel.lean ====
abbrev S10000x256 : Shape := ⟨2, ![10000, 256]⟩
abbrev S160000 : Shape := ⟨1, ![160000]⟩
abbrev S20000x128 : Shape := ⟨2, ![20000, 128]⟩
abbrev S_ : Shape := ⟨0, ![]⟩
abbrev S1024 : Shape := ⟨1, ![1024]⟩
abbrev S161024 : Shape := ⟨1, ![161024]⟩
abbrev S2x10240x128 : Shape := ⟨3, ![2, 10240, 128]⟩
abbrev S128x128 : Shape := ⟨2, ![128, 128]⟩
abbrev S328x128 : Shape := ⟨2, ![328, 128]⟩
abbrev S328x16 : Shape := ⟨2, ![328, 16]⟩
abbrev S128 : Shape := ⟨1, ![128]⟩
abbrev S16 : Shape := ⟨1, ![16]⟩
abbrev S1 : Shape := ⟨1, ![1]⟩
abbrev S1x16 : Shape := ⟨2, ![1, 16]⟩
abbrev S320x128 : Shape := ⟨2, ![320, 128]⟩
abbrev S1x10240x128 : Shape := ⟨3, ![1, 10240, 128]⟩
abbrev S10240x128 : Shape := ⟨2, ![10240, 128]⟩
abbrev S1x10000x128 : Shape := ⟨3, ![1, 10000, 128]⟩
abbrev S10000x128 : Shape := ⟨2, ![10000, 128]⟩

abbrev nBuf : Table → Nat
  | .hbm => 16
  | .local .scVector .vmem => 13
  | _ => 0

abbrev bufTy : (tb : Table) → Fin (nBuf tb) → BufTy
  | .hbm, ⟨0, _⟩ => ⟨S10000x256, .f32⟩
  | .hbm, ⟨1, _⟩ => ⟨S160000, .i32⟩
  | .hbm, ⟨2, _⟩ => ⟨S160000, .i32⟩
  | .hbm, ⟨3, _⟩ => ⟨S20000x128, .f32⟩
  | .hbm, ⟨4, _⟩ => ⟨S_, .i32⟩
  | .hbm, ⟨5, _⟩ => ⟨S1024, .i32⟩
  | .hbm, ⟨6, _⟩ => ⟨S161024, .i32⟩
  | .hbm, ⟨7, _⟩ => ⟨S_, .i32⟩
  | .hbm, ⟨8, _⟩ => ⟨S1024, .i32⟩
  | .hbm, ⟨9, _⟩ => ⟨S161024, .i32⟩
  | .hbm, ⟨10, _⟩ => ⟨S2x10240x128, .f32⟩
  | .hbm, ⟨11, _⟩ => ⟨S1x10000x128, .f32⟩
  | .hbm, ⟨12, _⟩ => ⟨S10000x128, .f32⟩
  | .hbm, ⟨13, _⟩ => ⟨S1x10000x128, .f32⟩
  | .hbm, ⟨14, _⟩ => ⟨S10000x128, .f32⟩
  | .hbm, ⟨15, _⟩ => ⟨S10000x256, .f32⟩
  | .local .scVector .vmem, ⟨0, _⟩ => ⟨S128x128, .f32⟩
  | .local .scVector .vmem, ⟨1, _⟩ => ⟨S128x128, .f32⟩
  | .local .scVector .vmem, ⟨2, _⟩ => ⟨S328x128, .f32⟩
  | .local .scVector .vmem, ⟨3, _⟩ => ⟨S328x16, .f32⟩
  | .local .scVector .vmem, ⟨4, _⟩ => ⟨S128, .i32⟩
  | .local .scVector .vmem, ⟨5, _⟩ => ⟨S128, .i32⟩
  | .local .scVector .vmem, ⟨6, _⟩ => ⟨S128, .i32⟩
  | .local .scVector .vmem, ⟨7, _⟩ => ⟨S128, .i32⟩
  | .local .scVector .vmem, ⟨8, _⟩ => ⟨S128, .i32⟩
  | .local .scVector .vmem, ⟨9, _⟩ => ⟨S128, .i32⟩
  | .local .scVector .vmem, ⟨10, _⟩ => ⟨S128, .i32⟩
  | .local .scVector .vmem, ⟨11, _⟩ => ⟨S128, .i32⟩
  | .local .scVector .vmem, ⟨12, _⟩ => ⟨S16, .i32⟩
  | _, _ => ⟨S10000x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v0_scv : Ref sig .scVector := ⟨.hbm, 3, rfl⟩
abbrev main_v2_scv : Ref sig .scVector := ⟨.hbm, 6, rfl⟩
abbrev main_v4_scv : Ref sig .scVector := ⟨.hbm, 9, rfl⟩
abbrev main_v5_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c15_i32 : BitVec 32 := 15#32
  let v4 : BitVec 32 := Scalar.addi c0_i32_1 c15_i32
  let c1_i32 : BitVec 32 := 1#32
  ⟨c0_i32_1, v4, c1_i32⟩
def k0_off1 (k0_t1 : Fin k0_t1_loop.trips) (arg26 : BitVec 32) : Fin 1 → Nat :=
  let c16384_i32 : BitVec 32 := 16384#32
  let c0_i32_1 : BitVec 32 := 0#32
  let c1_i32 : BitVec 32 := 1#32
  let arg25 : BitVec 32 := Scf.iv c0_i32_1 c1_i32 k0_t1
  let v60 : BitVec 32 := Scalar.shrsi c16384_i32 arg25
  let v61 : BitVec 32 := Scalar.addi arg26 v60
  let c20000_i32 : BitVec 32 := 20000#32
  let v62 : BitVec 32 := Scalar.minsi v61 c20000_i32
  let c1_i32_33 : BitVec 32 := 1#32
  let v63 : BitVec 32 := Scalar.subi v62 c1_i32_33
  let c8_i32_34 : BitVec 32 := 8#32
  let v64 : BitVec 32 := Scalar.muli v63 c8_i32_34
  ![v64.toNat]

def k0_chk1 (k0_t1 : Fin k0_t1_loop.trips) (arg26 : BitVec 32) : Prop :=
  (∀ a, (k0_off1 k0_t1 arg26) a + S16.size a ≤ S161024.size a)
theorem k0_off1_inb : ∀ (k0_t1 : Fin k0_t1_loop.trips) (arg26 : BitVec 32) (k0_hw1 : k0_chk1 k0_t1 arg26), ∀ a, (k0_off1 k0_t1 arg26) a + S16.size a ≤ S161024.size a := fun k0_t1 arg26 k0_hw1 => k0_hw1

@[reducible] def k0_t2_loop : Scf.Loop 32 :=
  let c0_i32_4 : BitVec 32 := 0#32
  let c15_i32_5 : BitVec 32 := 15#32
  let v6 : BitVec 32 := Scalar.addi c0_i32_4 c15_i32_5
  let c1_i32_6 : BitVec 32 := 1#32
  ⟨c0_i32_4, v6, c1_i32_6⟩
def k0_off2 (k0_t2 : Fin k0_t2_loop.trips) (arg26 : BitVec 32) : Fin 1 → Nat :=
  let c16384_i32 : BitVec 32 := 16384#32
  let c0_i32_4 : BitVec 32 := 0#32
  let c1_i32_6 : BitVec 32 := 1#32
  let arg25 : BitVec 32 := Scf.iv c0_i32_4 c1_i32_6 k0_t2
  let v60 : BitVec 32 := Scalar.shrsi c16384_i32 arg25
  let v61 : BitVec 32 := Scalar.addi arg26 v60
  let c20000_i32 : BitVec 32 := 20000#32
  let v62 : BitVec 32 := Scalar.minsi v61 c20000_i32
  let c1_i32_33 : BitVec 32 := 1#32
  let v63 : BitVec 32 := Scalar.subi v62 c1_i32_33
  let c8_i32_34 : BitVec 32 := 8#32
  let v64 : BitVec 32 := Scalar.muli v63 c8_i32_34
  ![v64.toNat]

def k0_chk2 (k0_t2 : Fin k0_t2_loop.trips) (arg26 : BitVec 32) : Prop :=
  (∀ a, (k0_off2 k0_t2 arg26) a + S16.size a ≤ S161024.size a)
theorem k0_off2_inb : ∀ (k0_t2 : Fin k0_t2_loop.trips) (arg26 : BitVec 32) (k0_hw2 : k0_chk2 k0_t2 arg26), ∀ a, (k0_off2 k0_t2 arg26) a + S16.size a ≤ S161024.size a := fun k0_t2 arg26 k0_hw2 => k0_hw2

@[reducible] def k0_t3_loop : Scf.Loop 32 :=
  let c0_i32_30 : BitVec 32 := 0#32
  let c2_i32 : BitVec 32 := 2#32
  let v58 : BitVec 32 := Scalar.addi c0_i32_30 c2_i32
  let c1_i32_31 : BitVec 32 := 1#32
  ⟨c0_i32_30, v58, c1_i32_31⟩
@[reducible] def k0_t4_loop : Scf.Loop 32 :=
  let c0_i32_34 : BitVec 32 := 0#32
  let c321_i32 : BitVec 32 := 321#32
  let v60 : BitVec 32 := Scalar.addi c0_i32_34 c321_i32
  let c1_i32_35 : BitVec 32 := 1#32
  ⟨c0_i32_34, v60, c1_i32_35⟩
def k0_off3 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v222 : Index := Scalar.indexCast arg27
  let c0_93 : Index := 0#32
  ![v222.toNat, 0]
def k0_off4 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v226 : Index := Scalar.indexCast arg27
  let c16_94 : Index := 16#32
  ![v226.toNat, 16]
def k0_off5 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v230 : Index := Scalar.indexCast arg27
  let c32_95 : Index := 32#32
  ![v230.toNat, 32]
def k0_off6 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v234 : Index := Scalar.indexCast arg27
  let c48_96 : Index := 48#32
  ![v234.toNat, 48]
def k0_off7 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v238 : Index := Scalar.indexCast arg27
  let c64_97 : Index := 64#32
  ![v238.toNat, 64]
def k0_off8 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v242 : Index := Scalar.indexCast arg27
  let c80_98 : Index := 80#32
  ![v242.toNat, 80]
def k0_off9 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v246 : Index := Scalar.indexCast arg27
  let c96_99 : Index := 96#32
  ![v246.toNat, 96]
def k0_off10 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v250 : Index := Scalar.indexCast arg27
  let c112_100 : Index := 112#32
  ![v250.toNat, 112]
def k0_cond1 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_101 : BitVec 32 := 0#32
  let v254 : BitVec 1 := Scalar.cmpi .eq arg25 c0_i32_101
  let v255 : BitVec 32 := Scalar.extui v254
  let c0_i32_102 : BitVec 32 := 0#32
  let v256 : BitVec 1 := Scalar.cmpi .ne v255 c0_i32_102
  v256

def k0_off11 (k0_t4 : Fin k0_t4_loop.trips) : Fin 2 → Nat :=
  let c0_i32_34 : BitVec 32 := 0#32
  let c1_i32_35 : BitVec 32 := 1#32
  let arg27 : BitVec 32 := Scf.iv c0_i32_34 c1_i32_35 k0_t4
  let v257 : Index := Scalar.indexCast arg27
  let c0_104 : Index := 0#32
  ![v257.toNat, 0]
def k0_off12 (v5 : BitVec 32) : Fin 1 → Nat :=
  let c8_i32 : BitVec 32 := 8#32
  let c1_i32_8 : BitVec 32 := 1#32
  let v8 : BitVec 32 := Scalar.subi v5 c1_i32_8
  let c0_i32_9 : BitVec 32 := 0#32
  let v9 : BitVec 32 := Scalar.maxsi v8 c0_i32_9
  let v10 : BitVec 32 := Scalar.muli c8_i32 v9
  ![v10.toNat]

def k0_off13 (v5 : BitVec 32) : Fin 1 → Nat :=
  let c8_i32 : BitVec 32 := 8#32
  let c1_i32_8 : BitVec 32 := 1#32
  let v8 : BitVec 32 := Scalar.subi v5 c1_i32_8
  let c0_i32_9 : BitVec 32 := 0#32
  let v9 : BitVec 32 := Scalar.maxsi v8 c0_i32_9
  let v10 : BitVec 32 := Scalar.muli c8_i32 v9
  let c128_i32_55 : BitVec 32 := 128#32
  let v135 : BitVec 32 := Scalar.addi v10 c128_i32_55
  ![v135.toNat]

def k0_chk3 (v5 : BitVec 32) : Prop :=
  (∀ a, (k0_off12 v5) a + S128.size a ≤ S161024.size a) ∧
  (∀ a, (k0_off13 v5) a + S128.size a ≤ S161024.size a)
theorem k0_off12_inb : ∀ (v5 : BitVec 32) (k0_hw3 : k0_chk3 v5), ∀ a, (k0_off12 v5) a + S128.size a ≤ S161024.size a := fun v5 k0_hw3 => k0_hw3.1
theorem k0_off13_inb : ∀ (v5 : BitVec 32) (k0_hw3 : k0_chk3 v5), ∀ a, (k0_off13 v5) a + S128.size a ≤ S161024.size a := fun v5 k0_hw3 => k0_hw3.2

@[reducible] def k0_t5_loop (v5 : BitVec 32) (v7 : BitVec 32) : Scf.Loop 32 :=
  let c0_i32_56 : BitVec 32 := 0#32
  let c8_i32_10 : BitVec 32 := 8#32
  let v11 : BitVec 32 := Scalar.muli c8_i32_10 v7
  let c8_i32 : BitVec 32 := 8#32
  let c1_i32_8 : BitVec 32 := 1#32
  let v8 : BitVec 32 := Scalar.subi v5 c1_i32_8
  let c0_i32_9 : BitVec 32 := 0#32
  let v9 : BitVec 32 := Scalar.maxsi v8 c0_i32_9
  let v10 : BitVec 32 := Scalar.muli c8_i32 v9
  let v12 : BitVec 32 := Scalar.subi v11 v10
  let c128_i32 : BitVec 32 := 128#32
  let v13 : BitVec 32 := Scalar.addi v12 c128_i32
  let c1_i32_11 : BitVec 32 := 1#32
  let v14 : BitVec 32 := Scalar.subi v13 c1_i32_11
  let c0_i32_13 : BitVec 32 := 0#32
  let v16 : BitVec 1 := Scalar.cmpi .sgt v14 c0_i32_13
  let v17 : BitVec 32 := Scalar.extui v16
  let c0_i32_14 : BitVec 32 := 0#32
  let v18 : BitVec 1 := Scalar.cmpi .slt v14 c0_i32_14
  let v19 : BitVec 32 := Scalar.extui v18
  let v20 : BitVec 32 := Scalar.subi v17 v19
  let c128_i32_12 : BitVec 32 := 128#32
  let c0_i32_15 : BitVec 32 := 0#32
  let v21 : BitVec 1 := Scalar.cmpi .sgt c128_i32_12 c0_i32_15
  let v22 : BitVec 32 := Scalar.extui v21
  let c0_i32_16 : BitVec 32 := 0#32
  let v23 : BitVec 1 := Scalar.cmpi .slt c128_i32_12 c0_i32_16
  let v24 : BitVec 32 := Scalar.extui v23
  let v25 : BitVec 32 := Scalar.subi v22 v24
  let v26 : BitVec 1 := Scalar.cmpi .ne v20 v25
  let v27 : BitVec 32 := Scalar.remsi v14 c128_i32_12
  let c0_i32_17 : BitVec 32 := 0#32
  let v28 : BitVec 1 := Scalar.cmpi .ne v27 c0_i32_17
  let v29 : BitVec 1 := Scalar.andi v26 v28
  let v15 : BitVec 32 := Scalar.divsi v14 c128_i32_12
  let c1_i32_18 : BitVec 32 := 1#32
  let v30 : BitVec 32 := Scalar.subi v15 c1_i32_18
  let v31 : BitVec 32 := Scalar.select v29 v30 v15
  let c3_i32 : BitVec 32 := 3#32
  let v32 : BitVec 32 := Scalar.addi v31 c3_i32
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c4_i32 : BitVec 32 := 4#32
  let c0_i32_21 : BitVec 32 := 0#32
  let v39 : BitVec 1 := Scalar.cmpi .sgt c4_i32 c0_i32_21
  let v40 : BitVec 32 := Scalar.extui v39
  let c0_i32_22 : BitVec 32 := 0#32
  let v41 : BitVec 1 := Scalar.cmpi .slt c4_i32 c0_i32_22
  let v42 : BitVec 32 := Scalar.extui v41
  let v43 : BitVec 32 := Scalar.subi v40 v42
  let v44 : BitVec 1 := Scalar.cmpi .ne v38 v43
  let v45 : BitVec 32 := Scalar.remsi v32 c4_i32
  let c0_i32_23 : BitVec 32 := 0#32
  let v46 : BitVec 1 := Scalar.cmpi .ne v45 c0_i32_23
  let v47 : BitVec 1 := Scalar.andi v44 v46
  let v33 : BitVec 32 := Scalar.divsi v32 c4_i32
  let c1_i32_24 : BitVec 32 := 1#32
  let v48 : BitVec 32 := Scalar.subi v33 c1_i32_24
  let v49 : BitVec 32 := Scalar.select v47 v48 v33
  let c1_i32_25 : BitVec 32 := 1#32
  let v50 : BitVec 32 := Scalar.maxsi v49 c1_i32_25
  let v140 : BitVec 32 := Scalar.subi v50 c0_i32_56
  let c1_i32_59 : BitVec 32 := 1#32
  let v142 : BitVec 32 := Scalar.divsi v140 c1_i32_59
  let v143 : BitVec 32 := Scalar.muli v142 c1_i32_59
  let v144 : BitVec 32 := Scalar.addi c0_i32_56 v143
  let c1_i32_60 : BitVec 32 := 1#32
  ⟨c0_i32_56, v144, c1_i32_60⟩

def k0_off14 (v5 : BitVec 32) (v7 : BitVec 32) (k0_t5 : Fin (k0_t5_loop v5 v7).trips) (c0_i32_94 : BitVec 32) : Fin 1 → Nat :=
  let c8_i32 : BitVec 32 := 8#32
  let c1_i32_8 : BitVec 32 := 1#32
  let v8 : BitVec 32 := Scalar.subi v5 c1_i32_8
  let c0_i32_9 : BitVec 32 := 0#32
  let v9 : BitVec 32 := Scalar.maxsi v8 c0_i32_9
  let v10 : BitVec 32 := Scalar.muli c8_i32 v9
  let c0_i32_56 : BitVec 32 := 0#32
  let c1_i32_60 : BitVec 32 := 1#32
  let arg27 : BitVec 32 := Scf.iv c0_i32_56 c1_i32_60 k0_t5
  let c4_i32_93 : BitVec 32 := 4#32
  let v222 : BitVec 32 := Scalar.muli arg27 c4_i32_93
  let v223 : BitVec 32 := Scalar.addi v222 c0_i32_94
  let c2_i32_125 : BitVec 32 := 2#32
  let v301 : BitVec 32 := Scalar.addi v223 c2_i32_125
  let c128_i32_126 : BitVec 32 := 128#32
  let v302 : BitVec 32 := Scalar.muli v301 c128_i32_126
  let v303 : BitVec 32 := Scalar.addi v10 v302
  ![v303.toNat]
@[reducible] def k0_t6_loop : Scf.Loop 32 :=
  let c0_i32_129 : BitVec 32 := 0#32
  let c8_i32_130 : BitVec 32 := 8#32
  let v309 : BitVec 32 := Scalar.addi c0_i32_129 c8_i32_130
  let c1_i32_131 : BitVec 32 := 1#32
  ⟨c0_i32_129, v309, c1_i32_131⟩
def k0_off15 (k0_t6 : Fin k0_t6_loop.trips) : Fin 1 → Nat :=
  let c0_i32_129 : BitVec 32 := 0#32
  let c1_i32_131 : BitVec 32 := 1#32
  let arg38 : BitVec 32 := Scf.iv c0_i32_129 c1_i32_131 k0_t6
  let c16_i32_250 : BitVec 32 := 16#32
  let v575 : BitVec 32 := Scalar.muli arg38 c16_i32_250
  let v576 : Index := Scalar.indexCast v575
  ![v576.toNat]
@[reducible] def k0_t7_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off16 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v600 : Index := Scalar.indexCast v599
  let c0_258 : Index := 0#32
  ![v600.toNat, 0]
def k0_off17 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v603 : Index := Scalar.indexCast v599
  let c16_259 : Index := 16#32
  ![v603.toNat, 16]
def k0_off18 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v606 : Index := Scalar.indexCast v599
  let c32_260 : Index := 32#32
  ![v606.toNat, 32]
def k0_off19 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v609 : Index := Scalar.indexCast v599
  let c48_261 : Index := 48#32
  ![v609.toNat, 48]
def k0_off20 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v612 : Index := Scalar.indexCast v599
  let c64_262 : Index := 64#32
  ![v612.toNat, 64]
def k0_off21 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v615 : Index := Scalar.indexCast v599
  let c80_263 : Index := 80#32
  ![v615.toNat, 80]
def k0_off22 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v618 : Index := Scalar.indexCast v599
  let c96_264 : Index := 96#32
  ![v618.toNat, 96]
def k0_off23 (k0_t6 : Fin k0_t6_loop.trips) (k0_t7 : Fin k0_t7_loop.trips) : Fin 2 → Nat :=
  let c0_i32_129 : BitVec 32 := 0#32
  let c1_i32_131 : BitVec 32 := 1#32
  let arg38 : BitVec 32 := Scf.iv c0_i32_129 c1_i32_131 k0_t6
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t7
  let v599 : BitVec 32 := Scalar.addi v598 arg49
  let v621 : Index := Scalar.indexCast v599
  let c112_265 : Index := 112#32
  ![v621.toNat, 112]
def k0_off24 (arg50 : BitVec 32) : Fin 2 → Nat :=
  let v645 : Index := Scalar.indexCast arg50
  let c0_269 : Index := 0#32
  ![v645.toNat, 0]
def k0_cond2 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off25 (arg50 : BitVec 32) : Fin 2 → Nat :=
  let v653 : Index := Scalar.indexCast arg50
  let c16_271 : Index := 16#32
  ![v653.toNat, 16]
def k0_off26 (arg50 : BitVec 32) : Fin 2 → Nat :=
  let v661 : Index := Scalar.indexCast arg50
  let c32_273 : Index := 32#32
  ![v661.toNat, 32]
def k0_off27 (arg50 : BitVec 32) : Fin 2 → Nat :=
  let v669 : Index := Scalar.indexCast arg50
  let c48_275 : Index := 48#32
  ![v669.toNat, 48]
def k0_off28 (arg50 : BitVec 32) : Fin 2 → Nat :=
  let v677 : Index := Scalar.indexCast arg50
  let c64_277 : Index := 64#32
  ![v677.toNat, 64]
def k0_off29 (arg50 : BitVec 32) : Fin 2 → Nat :=
  let v685 : Index := Scalar.indexCast arg50
  let c80_279 : Index := 80#32
  ![v685.toNat, 80]
def k0_off30 (arg50 : BitVec 32) : Fin 2 → Nat :=
  let v693 : Index := Scalar.indexCast arg50
  let c96_281 : Index := 96#32
  ![v693.toNat, 96]
def k0_off31 (arg50 : BitVec 32) : Fin 2 → Nat :=
  let v701 : Index := Scalar.indexCast arg50
  let c112_283 : Index := 112#32
  ![v701.toNat, 112]
def k0_cond3 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off32 (arg50 : BitVec 32) : Fin 2 → Nat :=
  let v714 : Index := Scalar.indexCast arg50
  let c0_287 : Index := 0#32
  ![v714.toNat, 0]

def k0_chk5 (k0_t3 : Fin k0_t3_loop.trips) (arg50 : BitVec 32) (v597 : BitVec 32) : Prop :=
  (∀ (k0_h2 : k0_cond2 arg50 v597 = 1#1), ∀ a, (k0_off24 arg50) a + S1x16.size a ≤ S328x128.size a) ∧
  (∀ (k0_h2 : k0_cond2 arg50 v597 = 1#1), ∀ a, (k0_off25 arg50) a + S1x16.size a ≤ S328x128.size a) ∧
  (∀ (k0_h2 : k0_cond2 arg50 v597 = 1#1), ∀ a, (k0_off26 arg50) a + S1x16.size a ≤ S328x128.size a) ∧
  (∀ (k0_h2 : k0_cond2 arg50 v597 = 1#1), ∀ a, (k0_off27 arg50) a + S1x16.size a ≤ S328x128.size a) ∧
  (∀ (k0_h2 : k0_cond2 arg50 v597 = 1#1), ∀ a, (k0_off28 arg50) a + S1x16.size a ≤ S328x128.size a) ∧
  (∀ (k0_h2 : k0_cond2 arg50 v597 = 1#1), ∀ a, (k0_off29 arg50) a + S1x16.size a ≤ S328x128.size a) ∧
  (∀ (k0_h2 : k0_cond2 arg50 v597 = 1#1), ∀ a, (k0_off30 arg50) a + S1x16.size a ≤ S328x128.size a) ∧
  (∀ (k0_h2 : k0_cond2 arg50 v597 = 1#1), ∀ a, (k0_off31 arg50) a + S1x16.size a ≤ S328x128.size a) ∧
  (∀ (k0_h2 : k0_cond2 arg50 v597 = 1#1), ∀ (k0_h3 : k0_cond3 k0_t3 = 1#1), ∀ a, (k0_off32 arg50) a + S1x16.size a ≤ S328x16.size a)
theorem k0_off24_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off24 arg50) a + S1x16.size a ≤ S328x128.size a := fun k0_t3 arg50 v597 k0_hw5 k0_h2 => k0_hw5.1 k0_h2
theorem k0_off25_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off25 arg50) a + S1x16.size a ≤ S328x128.size a := fun k0_t3 arg50 v597 k0_hw5 k0_h2 => k0_hw5.2.1 k0_h2
theorem k0_off26_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off26 arg50) a + S1x16.size a ≤ S328x128.size a := fun k0_t3 arg50 v597 k0_hw5 k0_h2 => k0_hw5.2.2.1 k0_h2
theorem k0_off27_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off27 arg50) a + S1x16.size a ≤ S328x128.size a := fun k0_t3 arg50 v597 k0_hw5 k0_h2 => k0_hw5.2.2.2.1 k0_h2
theorem k0_off28_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off28 arg50) a + S1x16.size a ≤ S328x128.size a := fun k0_t3 arg50 v597 k0_hw5 k0_h2 => k0_hw5.2.2.2.2.1 k0_h2
theorem k0_off29_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off29 arg50) a + S1x16.size a ≤ S328x128.size a := fun k0_t3 arg50 v597 k0_hw5 k0_h2 => k0_hw5.2.2.2.2.2.1 k0_h2
theorem k0_off30_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off30 arg50) a + S1x16.size a ≤ S328x128.size a := fun k0_t3 arg50 v597 k0_hw5 k0_h2 => k0_hw5.2.2.2.2.2.2.1 k0_h2
theorem k0_off31_inb : ∀ (k0_t3 : Fin k0_t3_loop.trips) (arg50 : BitVec 32) (v597 : BitVec 32) (k0_hw5 : k0_chk5 k0_t3 arg50 v597), ∀ (k0_h2 : k0_cond2 arg50 v597 = 1#1), ∀ a, (k0_off31 arg50) a + S1x16.size a ≤ S328x128.size a := fun k0_t3 arg50 v597 k0_hw5 k0_h2 => k0_hw5.2.2.2.2.2.2.2.1 k0_h2
theorem k0_off32_inb : ∀ (k0_t3 : Fin k0_t3_loop.trips) (arg50 : BitVec 32) (v597 : BitVec 32) (k0_hw5 : k0_chk5 k0_t3 arg50 v597), ∀ (k0_h2 : k0_cond2 arg50 v597 = 1#1), ∀ (k0_h3 : k0_cond3 k0_t3 = 1#1), ∀ a, (k0_off32 arg50) a + S1x16.size a ≤ S328x16.size a := fun k0_t3 arg50 v597 k0_hw5 k0_h2 k0_h3 => k0_hw5.2.2.2.2.2.2.2.2 k0_h2 k0_h3

@[reducible] def k0_t8_loop : Scf.Loop 32 :=
  let c0_i32_168 : BitVec 32 := 0#32
  let c8_i32_169 : BitVec 32 := 8#32
  let v397 : BitVec 32 := Scalar.addi c0_i32_168 c8_i32_169
  let c1_i32_170 : BitVec 32 := 1#32
  ⟨c0_i32_168, v397, c1_i32_170⟩
def k0_off33 (k0_t8 : Fin k0_t8_loop.trips) : Fin 1 → Nat :=
  let c0_i32_168 : BitVec 32 := 0#32
  let c1_i32_170 : BitVec 32 := 1#32
  let arg38 : BitVec 32 := Scf.iv c0_i32_168 c1_i32_170 k0_t8
  let c16_i32_250 : BitVec 32 := 16#32
  let v575 : BitVec 32 := Scalar.muli arg38 c16_i32_250
  let v576 : Index := Scalar.indexCast v575
  ![v576.toNat]
@[reducible] def k0_t9_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off34 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v600 : Index := Scalar.indexCast v599
  let c0_258 : Index := 0#32
  ![v600.toNat, 0]
def k0_off35 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v603 : Index := Scalar.indexCast v599
  let c16_259 : Index := 16#32
  ![v603.toNat, 16]
def k0_off36 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v606 : Index := Scalar.indexCast v599
  let c32_260 : Index := 32#32
  ![v606.toNat, 32]
def k0_off37 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v609 : Index := Scalar.indexCast v599
  let c48_261 : Index := 48#32
  ![v609.toNat, 48]
def k0_off38 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v612 : Index := Scalar.indexCast v599
  let c64_262 : Index := 64#32
  ![v612.toNat, 64]
def k0_off39 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v615 : Index := Scalar.indexCast v599
  let c80_263 : Index := 80#32
  ![v615.toNat, 80]
def k0_off40 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v618 : Index := Scalar.indexCast v599
  let c96_264 : Index := 96#32
  ![v618.toNat, 96]
def k0_off41 (k0_t8 : Fin k0_t8_loop.trips) (k0_t9 : Fin k0_t9_loop.trips) : Fin 2 → Nat :=
  let c0_i32_168 : BitVec 32 := 0#32
  let c1_i32_170 : BitVec 32 := 1#32
  let arg38 : BitVec 32 := Scf.iv c0_i32_168 c1_i32_170 k0_t8
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t9
  let v599 : BitVec 32 := Scalar.addi v598 arg49
  let v621 : Index := Scalar.indexCast v599
  let c112_265 : Index := 112#32
  ![v621.toNat, 112]
def k0_off42 (arg50 : BitVec 32) : Fin 2 → Nat :=
  let v645 : Index := Scalar.indexCast arg50
  let c0_269 : Index := 0#32
  ![v645.toNat, 0]
def k0_cond4 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off43 (arg50 : BitVec 32) : Fin 2 → Nat :=
  let v653 : Index := Scalar.indexCast arg50
  let c16_271 : Index := 16#32
  ![v653.toNat, 16]
def k0_off44 (arg50 : BitVec 32) : Fin 2 → Nat :=
  let v661 : Index := Scalar.indexCast arg50
  let c32_273 : Index := 32#32
  ![v661.toNat, 32]
def k0_off45 (arg50 : BitVec 32) : Fin 2 → Nat :=
  let v669 : Index := Scalar.indexCast arg50
  let c48_275 : Index := 48#32
  ![v669.toNat, 48]
def k0_off46 (arg50 : BitVec 32) : Fin 2 → Nat :=
  let v677 : Index := Scalar.indexCast arg50
  let c64_277 : Index := 64#32
  ![v677.toNat, 64]
def k0_off47 (arg50 : BitVec 32) : Fin 2 → Nat :=
  let v685 : Index := Scalar.indexCast arg50
  let c80_279 : Index := 80#32
  ![v685.toNat, 80]
def k0_off48 (arg50 : BitVec 32) : Fin 2 → Nat :=
  let v693 : Index := Scalar.indexCast arg50
  let c96_281 : Index := 96#32
  ![v693.toNat, 96]
def k0_off49 (arg50 : BitVec 32) : Fin 2 → Nat :=
  let v701 : Index := Scalar.indexCast arg50
  let c112_283 : Index := 112#32
  ![v701.toNat, 112]
def k0_cond5 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off50 (arg50 : BitVec 32) : Fin 2 → Nat :=
  let v714 : Index := Scalar.indexCast arg50
  let c0_287 : Index := 0#32
  ![v714.toNat, 0]

def k0_chk6 (k0_t3 : Fin k0_t3_loop.trips) (arg50 : BitVec 32) (v597 : BitVec 32) : Prop :=
  (∀ (k0_h4 : k0_cond4 arg50 v597 = 1#1), ∀ a, (k0_off42 arg50) a + S1x16.size a ≤ S328x128.size a) ∧
  (∀ (k0_h4 : k0_cond4 arg50 v597 = 1#1), ∀ a, (k0_off43 arg50) a + S1x16.size a ≤ S328x128.size a) ∧
  (∀ (k0_h4 : k0_cond4 arg50 v597 = 1#1), ∀ a, (k0_off44 arg50) a + S1x16.size a ≤ S328x128.size a) ∧
  (∀ (k0_h4 : k0_cond4 arg50 v597 = 1#1), ∀ a, (k0_off45 arg50) a + S1x16.size a ≤ S328x128.size a) ∧
  (∀ (k0_h4 : k0_cond4 arg50 v597 = 1#1), ∀ a, (k0_off46 arg50) a + S1x16.size a ≤ S328x128.size a) ∧
  (∀ (k0_h4 : k0_cond4 arg50 v597 = 1#1), ∀ a, (k0_off47 arg50) a + S1x16.size a ≤ S328x128.size a) ∧
  (∀ (k0_h4 : k0_cond4 arg50 v597 = 1#1), ∀ a, (k0_off48 arg50) a + S1x16.size a ≤ S328x128.size a) ∧
  (∀ (k0_h4 : k0_cond4 arg50 v597 = 1#1), ∀ a, (k0_off49 arg50) a + S1x16.size a ≤ S328x128.size a) ∧
  (∀ (k0_h4 : k0_cond4 arg50 v597 = 1#1), ∀ (k0_h5 : k0_cond5 k0_t3 = 1#1), ∀ a, (k0_off50 arg50) a + S1x16.size a ≤ S328x16.size a)
theorem k0_off42_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off42 arg50) a + S1x16.size a ≤ S328x128.size a := fun k0_t3 arg50 v597 k0_hw6 k0_h4 => k0_hw6.1 k0_h4
theorem k0_off43_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off43 arg50) a + S1x16.size a ≤ S328x128.size a := fun k0_t3 arg50 v597 k0_hw6 k0_h4 => k0_hw6.2.1 k0_h4
theorem k0_off44_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off44 arg50) a + S1x16.size a ≤ S328x128.size a := fun k0_t3 arg50 v597 k0_hw6 k0_h4 => k0_hw6.2.2.1 k0_h4
theorem k0_off45_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off45 arg50) a + S1x16.size a ≤ S328x128.size a := fun k0_t3 arg50 v597 k0_hw6 k0_h4 => k0_hw6.2.2.2.1 k0_h4
theorem k0_off46_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off46 arg50) a + S1x16.size a ≤ S328x128.size a := fun k0_t3 arg50 v597 k0_hw6 k0_h4 => k0_hw6.2.2.2.2.1 k0_h4
theorem k0_off47_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off47 arg50) a + S1x16.size a ≤ S328x128.size a := fun k0_t3 arg50 v597 k0_hw6 k0_h4 => k0_hw6.2.2.2.2.2.1 k0_h4
theorem k0_off48_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off48 arg50) a + S1x16.size a ≤ S328x128.size a := fun k0_t3 arg50 v597 k0_hw6 k0_h4 => k0_hw6.2.2.2.2.2.2.1 k0_h4
theorem k0_off49_inb : ∀ (k0_t3 : Fin k0_t3_loop.trips) (arg50 : BitVec 32) (v597 : BitVec 32) (k0_hw6 : k0_chk6 k0_t3 arg50 v597), ∀ (k0_h4 : k0_cond4 arg50 v597 = 1#1), ∀ a, (k0_off49 arg50) a + S1x16.size a ≤ S328x128.size a := fun k0_t3 arg50 v597 k0_hw6 k0_h4 => k0_hw6.2.2.2.2.2.2.2.1 k0_h4
theorem k0_off50_inb : ∀ (k0_t3 : Fin k0_t3_loop.trips) (arg50 : BitVec 32) (v597 : BitVec 32) (k0_hw6 : k0_chk6 k0_t3 arg50 v597), ∀ (k0_h4 : k0_cond4 arg50 v597 = 1#1), ∀ (k0_h5 : k0_cond5 k0_t3 = 1#1), ∀ a, (k0_off50 arg50) a + S1x16.size a ≤ S328x16.size a := fun k0_t3 arg50 v597 k0_hw6 k0_h4 k0_h5 => k0_hw6.2.2.2.2.2.2.2.2 k0_h4 k0_h5

@[reducible] def k0_t10_loop : Scf.Loop 32 :=
  let c0_i32_207 : BitVec 32 := 0#32
  let c8_i32_208 : BitVec 32 := 8#32
  let v485 : BitVec 32 := Scalar.addi c0_i32_207 c8_i32_208
  let c1_i32_209 : BitVec 32 := 1#32
  ⟨c0_i32_207, v485, c1_i32_209⟩
def k0_off51 (k0_t10 : Fin k0_t10_loop.trips) : Fin 1 → Nat :=
  let c0_i32_207 : BitVec 32 := 0#32
  let c1_i32_209 : BitVec 32 := 1#32
  let arg38 : BitVec 32 := Scf.iv c0_i32_207 c1_i32_209 k0_t10
  let c16_i32_250 : BitVec 32 := 16#32
  let v575 : BitVec 32 := Scalar.muli arg38 c16_i32_250
  let v576 : Index := Scalar.indexCast v575
  ![v576.toNat]
@[reducible] def k0_t11_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off52 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v600 : Index := Scalar.indexCast v599
  let c0_258 : Index := 0#32
  ![v600.toNat, 0]
def k0_off53 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v603 : Index := Scalar.indexCast v599
  let c16_259 : Index := 16#32
  ![v603.toNat, 16]
def k0_off54 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v606 : Index := Scalar.indexCast v599
  let c32_260 : Index := 32#32
  ![v606.toNat, 32]
def k0_off55 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v609 : Index := Scalar.indexCast v599
  let c48_261 : Index := 48#32
  ![v609.toNat, 48]
def k0_off56 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v612 : Index := Scalar.indexCast v599
  let c64_262 : Index := 64#32
  ![v612.toNat, 64]
def k0_off57 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v615 : Index := Scalar.indexCast v599
  let c80_263 : Index := 80#32
  ![v615.toNat, 80]
def k0_off58 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v618 : Index := Scalar.indexCast v599
  let c96_264 : Index := 96#32
  ![v618.toNat, 96]
def k0_off59 (k0_t10 : Fin k0_t10_loop.trips) (k0_t11 : Fin k0_t11_loop.trips) : Fin 2 → Nat :=
  let c0_i32_207 : BitVec 32 := 0#32
  let c1_i32_209 : BitVec 32 := 1#32
  let arg38 : BitVec 32 := Scf.iv c0_i32_207 c1_i32_209 k0_t10
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t11
  let v599 : BitVec 32 := Scalar.addi v598 arg49
  let v621 : Index := Scalar.indexCast v599
  let c112_265 : Index := 112#32
  ![v621.toNat, 112]
def k0_off60 (arg50 : BitVec 32) : Fin 2 → Nat :=
  let v645 : Index := Scalar.indexCast arg50
  let c0_269 : Index := 0#32
  ![v645.toNat, 0]
def k0_cond6 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off61 (arg50 : BitVec 32) : Fin 2 → Nat :=
  let v653 : Index := Scalar.indexCast arg50
  let c16_271 : Index := 16#32
  ![v653.toNat, 16]
def k0_off62 (arg50 : BitVec 32) : Fin 2 → Nat :=
  let v661 : Index := Scalar.indexCast arg50
  let c32_273 : Index := 32#32
  ![v661.toNat, 32]
def k0_off63 (arg50 : BitVec 32) : Fin 2 → Nat :=
  let v669 : Index := Scalar.indexCast arg50
  let c48_275 : Index := 48#32
  ![v669.toNat, 48]
def k0_off64 (arg50 : BitVec 32) : Fin 2 → Nat :=
  let v677 : Index := Scalar.indexCast arg50
  let c64_277 : Index := 64#32
  ![v677.toNat, 64]
def k0_off65 (arg50 : BitVec 32) : Fin 2 → Nat :=
  let v685 : Index := Scalar.indexCast arg50
  let c80_279 : Index := 80#32
  ![v685.toNat, 80]
def k0_off66 (arg50 : BitVec 32) : Fin 2 → Nat :=
  let v693 : Index := Scalar.indexCast arg50
  let c96_281 : Index := 96#32
  ![v693.toNat, 96]
def k0_off67 (arg50 : BitVec 32) : Fin 2 → Nat :=
  let v701 : Index := Scalar.indexCast arg50
  let c112_283 : Index := 112#32
  ![v701.toNat, 112]
def k0_cond7 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off68 (arg50 : BitVec 32) : Fin 2 → Nat :=
  let v714 : Index := Scalar.indexCast arg50
  let c0_287 : Index := 0#32
  ![v714.toNat, 0]

def k0_chk7 (k0_t3 : Fin k0_t3_loop.trips) (arg50 : BitVec 32) (v597 : BitVec 32) : Prop :=
  (∀ (k0_h6 : k0_cond6 arg50 v597 = 1#1), ∀ a, (k0_off60 arg50) a + S1x16.size a ≤ S328x128.size a) ∧
  (∀ (k0_h6 : k0_cond6 arg50 v597 = 1#1), ∀ a, (k0_off61 arg50) a + S1x16.size a ≤ S328x128.size a) ∧
  (∀ (k0_h6 : k0_cond6 arg50 v597 = 1#1), ∀ a, (k0_off62 arg50) a + S1x16.size a ≤ S328x128.size a) ∧
  (∀ (k0_h6 : k0_cond6 arg50 v597 = 1#1), ∀ a, (k0_off63 arg50) a + S1x16.size a ≤ S328x128.size a) ∧
  (∀ (k0_h6 : k0_cond6 arg50 v597 = 1#1), ∀ a, (k0_off64 arg50) a + S1x16.size a ≤ S328x128.size a) ∧
  (∀ (k0_h6 : k0_cond6 arg50 v597 = 1#1), ∀ a, (k0_off65 arg50) a + S1x16.size a ≤ S328x128.size a) ∧
  (∀ (k0_h6 : k0_cond6 arg50 v597 = 1#1), ∀ a, (k0_off66 arg50) a + S1x16.size a ≤ S328x128.size a) ∧
  (∀ (k0_h6 : k0_cond6 arg50 v597 = 1#1), ∀ a, (k0_off67 arg50) a + S1x16.size a ≤ S328x128.size a) ∧
  (∀ (k0_h6 : k0_cond6 arg50 v597 = 1#1), ∀ (k0_h7 : k0_cond7 k0_t3 = 1#1), ∀ a, (k0_off68 arg50) a + S1x16.size a ≤ S328x16.size a)
theorem k0_off60_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off60 arg50) a + S1x16.size a ≤ S328x128.size a := fun k0_t3 arg50 v597 k0_hw7 k0_h6 => k0_hw7.1 k0_h6
theorem k0_off61_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off61 arg50) a + S1x16.size a ≤ S328x128.size a := fun k0_t3 arg50 v597 k0_hw7 k0_h6 => k0_hw7.2.1 k0_h6
theorem k0_off62_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off62 arg50) a + S1x16.size a ≤ S328x128.size a := fun k0_t3 arg50 v597 k0_hw7 k0_h6 => k0_hw7.2.2.1 k0_h6
theorem k0_off63_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off63 arg50) a + S1x16.size a ≤ S328x128.size a := fun k0_t3 arg50 v597 k0_hw7 k0_h6 => k0_hw7.2.2.2.1 k0_h6
theorem k0_off64_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off64 arg50) a + S1x16.size a ≤ S328x128.size a := fun k0_t3 arg50 v597 k0_hw7 k0_h6 => k0_hw7.2.2.2.2.1 k0_h6
theorem k0_off65_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off65 arg50) a + S1x16.size a ≤ S328x128.size a := fun k0_t3 arg50 v597 k0_hw7 k0_h6 => k0_hw7.2.2.2.2.2.1 k0_h6
theorem k0_off66_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off66 arg50) a + S1x16.size a ≤ S328x128.size a := fun k0_t3 arg50 v597 k0_hw7 k0_h6 => k0_hw7.2.2.2.2.2.2.1 k0_h6
theorem k0_off67_inb : ∀ (k0_t3 : Fin k0_t3_loop.trips) (arg50 : BitVec 32) (v597 : BitVec 32) (k0_hw7 : k0_chk7 k0_t3 arg50 v597), ∀ (k0_h6 : k0_cond6 arg50 v597 = 1#1), ∀ a, (k0_off67 arg50) a + S1x16.size a ≤ S328x128.size a := fun k0_t3 arg50 v597 k0_hw7 k0_h6 => k0_hw7.2.2.2.2.2.2.2.1 k0_h6
theorem k0_off68_inb : ∀ (k0_t3 : Fin k0_t3_loop.trips) (arg50 : BitVec 32) (v597 : BitVec 32) (k0_hw7 : k0_chk7 k0_t3 arg50 v597), ∀ (k0_h6 : k0_cond6 arg50 v597 = 1#1), ∀ (k0_h7 : k0_cond7 k0_t3 = 1#1), ∀ a, (k0_off68 arg50) a + S1x16.size a ≤ S328x16.size a := fun k0_t3 arg50 v597 k0_hw7 k0_h6 k0_h7 => k0_hw7.2.2.2.2.2.2.2.2 k0_h6 k0_h7

@[reducible] def k0_t12_loop : Scf.Loop 32 :=
  let c0_i32_246 : BitVec 32 := 0#32
  let c8_i32_247 : BitVec 32 := 8#32
  let v573 : BitVec 32 := Scalar.addi c0_i32_246 c8_i32_247
  let c1_i32_248 : BitVec 32 := 1#32
  ⟨c0_i32_246, v573, c1_i32_248⟩
def k0_off69 (k0_t12 : Fin k0_t12_loop.trips) : Fin 1 → Nat :=
  let c0_i32_246 : BitVec 32 := 0#32
  let c1_i32_248 : BitVec 32 := 1#32
  let arg38 : BitVec 32 := Scf.iv c0_i32_246 c1_i32_248 k0_t12
  let c16_i32_250 : BitVec 32 := 16#32
  let v575 : BitVec 32 := Scalar.muli arg38 c16_i32_250
  let v576 : Index := Scalar.indexCast v575
  ![v576.toNat]
@[reducible] def k0_t13_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off70 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v600 : Index := Scalar.indexCast v599
  let c0_258 : Index := 0#32
  ![v600.toNat, 0]
def k0_off71 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v603 : Index := Scalar.indexCast v599
  let c16_259 : Index := 16#32
  ![v603.toNat, 16]
def k0_off72 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v606 : Index := Scalar.indexCast v599
  let c32_260 : Index := 32#32
  ![v606.toNat, 32]
def k0_off73 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v609 : Index := Scalar.indexCast v599
  let c48_261 : Index := 48#32
  ![v609.toNat, 48]
def k0_off74 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v612 : Index := Scalar.indexCast v599
  let c64_262 : Index := 64#32
  ![v612.toNat, 64]
def k0_off75 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v615 : Index := Scalar.indexCast v599
  let c80_263 : Index := 80#32
  ![v615.toNat, 80]
def k0_off76 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v618 : Index := Scalar.indexCast v599
  let c96_264 : Index := 96#32
  ![v618.toNat, 96]
def k0_off77 (k0_t12 : Fin k0_t12_loop.trips) (k0_t13 : Fin k0_t13_loop.trips) : Fin 2 → Nat :=
  let c0_i32_246 : BitVec 32 := 0#32
  let c1_i32_248 : BitVec 32 := 1#32
  let arg38 : BitVec 32 := Scf.iv c0_i32_246 c1_i32_248 k0_t12
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t13
  let v599 : BitVec 32 := Scalar.addi v598 arg49
  let v621 : Index := Scalar.indexCast v599
  let c112_265 : Index := 112#32
  ![v621.toNat, 112]
def k0_off78 (arg50 : BitVec 32) : Fin 2 → Nat :=
  let v645 : Index := Scalar.indexCast arg50
  let c0_269 : Index := 0#32
  ![v645.toNat, 0]
def k0_cond8 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off79 (arg50 : BitVec 32) : Fin 2 → Nat :=
  let v653 : Index := Scalar.indexCast arg50
  let c16_271 : Index := 16#32
  ![v653.toNat, 16]
def k0_off80 (arg50 : BitVec 32) : Fin 2 → Nat :=
  let v661 : Index := Scalar.indexCast arg50
  let c32_273 : Index := 32#32
  ![v661.toNat, 32]
def k0_off81 (arg50 : BitVec 32) : Fin 2 → Nat :=
  let v669 : Index := Scalar.indexCast arg50
  let c48_275 : Index := 48#32
  ![v669.toNat, 48]
def k0_off82 (arg50 : BitVec 32) : Fin 2 → Nat :=
  let v677 : Index := Scalar.indexCast arg50
  let c64_277 : Index := 64#32
  ![v677.toNat, 64]
def k0_off83 (arg50 : BitVec 32) : Fin 2 → Nat :=
  let v685 : Index := Scalar.indexCast arg50
  let c80_279 : Index := 80#32
  ![v685.toNat, 80]
def k0_off84 (arg50 : BitVec 32) : Fin 2 → Nat :=
  let v693 : Index := Scalar.indexCast arg50
  let c96_281 : Index := 96#32
  ![v693.toNat, 96]
def k0_off85 (arg50 : BitVec 32) : Fin 2 → Nat :=
  let v701 : Index := Scalar.indexCast arg50
  let c112_283 : Index := 112#32
  ![v701.toNat, 112]
def k0_cond9 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off86 (arg50 : BitVec 32) : Fin 2 → Nat :=
  let v714 : Index := Scalar.indexCast arg50
  let c0_287 : Index := 0#32
  ![v714.toNat, 0]

def k0_chk8 (k0_t3 : Fin k0_t3_loop.trips) (arg50 : BitVec 32) (v597 : BitVec 32) : Prop :=
  (∀ (k0_h8 : k0_cond8 arg50 v597 = 1#1), ∀ a, (k0_off78 arg50) a + S1x16.size a ≤ S328x128.size a) ∧
  (∀ (k0_h8 : k0_cond8 arg50 v597 = 1#1), ∀ a, (k0_off79 arg50) a + S1x16.size a ≤ S328x128.size a) ∧
  (∀ (k0_h8 : k0_cond8 arg50 v597 = 1#1), ∀ a, (k0_off80 arg50) a + S1x16.size a ≤ S328x128.size a) ∧
  (∀ (k0_h8 : k0_cond8 arg50 v597 = 1#1), ∀ a, (k0_off81 arg50) a + S1x16.size a ≤ S328x128.size a) ∧
  (∀ (k0_h8 : k0_cond8 arg50 v597 = 1#1), ∀ a, (k0_off82 arg50) a + S1x16.size a ≤ S328x128.size a) ∧
  (∀ (k0_h8 : k0_cond8 arg50 v597 = 1#1), ∀ a, (k0_off83 arg50) a + S1x16.size a ≤ S328x128.size a) ∧
  (∀ (k0_h8 : k0_cond8 arg50 v597 = 1#1), ∀ a, (k0_off84 arg50) a + S1x16.size a ≤ S328x128.size a) ∧
  (∀ (k0_h8 : k0_cond8 arg50 v597 = 1#1), ∀ a, (k0_off85 arg50) a + S1x16.size a ≤ S328x128.size a) ∧
  (∀ (k0_h8 : k0_cond8 arg50 v597 = 1#1), ∀ (k0_h9 : k0_cond9 k0_t3 = 1#1), ∀ a, (k0_off86 arg50) a + S1x16.size a ≤ S328x16.size a)
theorem k0_off78_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off78 arg50) a + S1x16.size a ≤ S328x128.size a := fun k0_t3 arg50 v597 k0_hw8 k0_h8 => k0_hw8.1 k0_h8
theorem k0_off79_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off79 arg50) a + S1x16.size a ≤ S328x128.size a := fun k0_t3 arg50 v597 k0_hw8 k0_h8 => k0_hw8.2.1 k0_h8
theorem k0_off80_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off80 arg50) a + S1x16.size a ≤ S328x128.size a := fun k0_t3 arg50 v597 k0_hw8 k0_h8 => k0_hw8.2.2.1 k0_h8
theorem k0_off81_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off81 arg50) a + S1x16.size a ≤ S328x128.size a := fun k0_t3 arg50 v597 k0_hw8 k0_h8 => k0_hw8.2.2.2.1 k0_h8
theorem k0_off82_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off82 arg50) a + S1x16.size a ≤ S328x128.size a := fun k0_t3 arg50 v597 k0_hw8 k0_h8 => k0_hw8.2.2.2.2.1 k0_h8
theorem k0_off83_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off83 arg50) a + S1x16.size a ≤ S328x128.size a := fun k0_t3 arg50 v597 k0_hw8 k0_h8 => k0_hw8.2.2.2.2.2.1 k0_h8
theorem k0_off84_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off84 arg50) a + S1x16.size a ≤ S328x128.size a := fun k0_t3 arg50 v597 k0_hw8 k0_h8 => k0_hw8.2.2.2.2.2.2.1 k0_h8
theorem k0_off85_inb : ∀ (k0_t3 : Fin k0_t3_loop.trips) (arg50 : BitVec 32) (v597 : BitVec 32) (k0_hw8 : k0_chk8 k0_t3 arg50 v597), ∀ (k0_h8 : k0_cond8 arg50 v597 = 1#1), ∀ a, (k0_off85 arg50) a + S1x16.size a ≤ S328x128.size a := fun k0_t3 arg50 v597 k0_hw8 k0_h8 => k0_hw8.2.2.2.2.2.2.2.1 k0_h8
theorem k0_off86_inb : ∀ (k0_t3 : Fin k0_t3_loop.trips) (arg50 : BitVec 32) (v597 : BitVec 32) (k0_hw8 : k0_chk8 k0_t3 arg50 v597), ∀ (k0_h8 : k0_cond8 arg50 v597 = 1#1), ∀ (k0_h9 : k0_cond9 k0_t3 = 1#1), ∀ a, (k0_off86 arg50) a + S1x16.size a ≤ S328x16.size a := fun k0_t3 arg50 v597 k0_hw8 k0_h8 k0_h9 => k0_hw8.2.2.2.2.2.2.2.2 k0_h8 k0_h9

@[reducible] def k0_t14_loop (v5 : BitVec 32) (v7 : BitVec 32) : Scf.Loop 32 :=
  let c0_i32_56 : BitVec 32 := 0#32
  let c8_i32_10 : BitVec 32 := 8#32
  let v11 : BitVec 32 := Scalar.muli c8_i32_10 v7
  let c8_i32 : BitVec 32 := 8#32
  let c1_i32_8 : BitVec 32 := 1#32
  let v8 : BitVec 32 := Scalar.subi v5 c1_i32_8
  let c0_i32_9 : BitVec 32 := 0#32
  let v9 : BitVec 32 := Scalar.maxsi v8 c0_i32_9
  let v10 : BitVec 32 := Scalar.muli c8_i32 v9
  let v12 : BitVec 32 := Scalar.subi v11 v10
  let c128_i32 : BitVec 32 := 128#32
  let v13 : BitVec 32 := Scalar.addi v12 c128_i32
  let c1_i32_11 : BitVec 32 := 1#32
  let v14 : BitVec 32 := Scalar.subi v13 c1_i32_11
  let c0_i32_13 : BitVec 32 := 0#32
  let v16 : BitVec 1 := Scalar.cmpi .sgt v14 c0_i32_13
  let v17 : BitVec 32 := Scalar.extui v16
  let c0_i32_14 : BitVec 32 := 0#32
  let v18 : BitVec 1 := Scalar.cmpi .slt v14 c0_i32_14
  let v19 : BitVec 32 := Scalar.extui v18
  let v20 : BitVec 32 := Scalar.subi v17 v19
  let c128_i32_12 : BitVec 32 := 128#32
  let c0_i32_15 : BitVec 32 := 0#32
  let v21 : BitVec 1 := Scalar.cmpi .sgt c128_i32_12 c0_i32_15
  let v22 : BitVec 32 := Scalar.extui v21
  let c0_i32_16 : BitVec 32 := 0#32
  let v23 : BitVec 1 := Scalar.cmpi .slt c128_i32_12 c0_i32_16
  let v24 : BitVec 32 := Scalar.extui v23
  let v25 : BitVec 32 := Scalar.subi v22 v24
  let v26 : BitVec 1 := Scalar.cmpi .ne v20 v25
  let v27 : BitVec 32 := Scalar.remsi v14 c128_i32_12
  let c0_i32_17 : BitVec 32 := 0#32
  let v28 : BitVec 1 := Scalar.cmpi .ne v27 c0_i32_17
  let v29 : BitVec 1 := Scalar.andi v26 v28
  let v15 : BitVec 32 := Scalar.divsi v14 c128_i32_12
  let c1_i32_18 : BitVec 32 := 1#32
  let v30 : BitVec 32 := Scalar.subi v15 c1_i32_18
  let v31 : BitVec 32 := Scalar.select v29 v30 v15
  let c3_i32 : BitVec 32 := 3#32
  let v32 : BitVec 32 := Scalar.addi v31 c3_i32
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c4_i32 : BitVec 32 := 4#32
  let c0_i32_21 : BitVec 32 := 0#32
  let v39 : BitVec 1 := Scalar.cmpi .sgt c4_i32 c0_i32_21
  let v40 : BitVec 32 := Scalar.extui v39
  let c0_i32_22 : BitVec 32 := 0#32
  let v41 : BitVec 1 := Scalar.cmpi .slt c4_i32 c0_i32_22
  let v42 : BitVec 32 := Scalar.extui v41
  let v43 : BitVec 32 := Scalar.subi v40 v42
  let v44 : BitVec 1 := Scalar.cmpi .ne v38 v43
  let v45 : BitVec 32 := Scalar.remsi v32 c4_i32
  let c0_i32_23 : BitVec 32 := 0#32
  let v46 : BitVec 1 := Scalar.cmpi .ne v45 c0_i32_23
  let v47 : BitVec 1 := Scalar.andi v44 v46
  let v33 : BitVec 32 := Scalar.divsi v32 c4_i32
  let c1_i32_24 : BitVec 32 := 1#32
  let v48 : BitVec 32 := Scalar.subi v33 c1_i32_24
  let v49 : BitVec 32 := Scalar.select v47 v48 v33
  let c1_i32_25 : BitVec 32 := 1#32
  let v50 : BitVec 32 := Scalar.maxsi v49 c1_i32_25
  let v140 : BitVec 32 := Scalar.subi v50 c0_i32_56
  let c1_i32_59 : BitVec 32 := 1#32
  let v142 : BitVec 32 := Scalar.divsi v140 c1_i32_59
  let v143 : BitVec 32 := Scalar.muli v142 c1_i32_59
  let v144 : BitVec 32 := Scalar.addi c0_i32_56 v143
  let v141 : BitVec 32 := Scalar.addi c0_i32_56 v140
  let c1_i32_61 : BitVec 32 := 1#32
  ⟨v144, v141, c1_i32_61⟩
def k0_off87 (v5 : BitVec 32) (v7 : BitVec 32) (k0_t14 : Fin (k0_t14_loop v5 v7).trips) (c0_i32_94 : BitVec 32) : Fin 1 → Nat :=
  let c8_i32 : BitVec 32 := 8#32
  let c1_i32_8 : BitVec 32 := 1#32
  let v8 : BitVec 32 := Scalar.subi v5 c1_i32_8
  let c0_i32_9 : BitVec 32 := 0#32
  let v9 : BitVec 32 := Scalar.maxsi v8 c0_i32_9
  let v10 : BitVec 32 := Scalar.muli c8_i32 v9
  let c0_i32_56 : BitVec 32 := 0#32
  let c8_i32_10 : BitVec 32 := 8#32
  let v11 : BitVec 32 := Scalar.muli c8_i32_10 v7
  let v12 : BitVec 32 := Scalar.subi v11 v10
  let c128_i32 : BitVec 32 := 128#32
  let v13 : BitVec 32 := Scalar.addi v12 c128_i32
  let c1_i32_11 : BitVec 32 := 1#32
  let v14 : BitVec 32 := Scalar.subi v13 c1_i32_11
  let c0_i32_13 : BitVec 32 := 0#32
  let v16 : BitVec 1 := Scalar.cmpi .sgt v14 c0_i32_13
  let v17 : BitVec 32 := Scalar.extui v16
  let c0_i32_14 : BitVec 32 := 0#32
  let v18 : BitVec 1 := Scalar.cmpi .slt v14 c0_i32_14
  let v19 : BitVec 32 := Scalar.extui v18
  let v20 : BitVec 32 := Scalar.subi v17 v19
  let c128_i32_12 : BitVec 32 := 128#32
  let c0_i32_15 : BitVec 32 := 0#32
  let v21 : BitVec 1 := Scalar.cmpi .sgt c128_i32_12 c0_i32_15
  let v22 : BitVec 32 := Scalar.extui v21
  let c0_i32_16 : BitVec 32 := 0#32
  let v23 : BitVec 1 := Scalar.cmpi .slt c128_i32_12 c0_i32_16
  let v24 : BitVec 32 := Scalar.extui v23
  let v25 : BitVec 32 := Scalar.subi v22 v24
  let v26 : BitVec 1 := Scalar.cmpi .ne v20 v25
  let v27 : BitVec 32 := Scalar.remsi v14 c128_i32_12
  let c0_i32_17 : BitVec 32 := 0#32
  let v28 : BitVec 1 := Scalar.cmpi .ne v27 c0_i32_17
  let v29 : BitVec 1 := Scalar.andi v26 v28
  let v15 : BitVec 32 := Scalar.divsi v14 c128_i32_12
  let c1_i32_18 : BitVec 32 := 1#32
  let v30 : BitVec 32 := Scalar.subi v15 c1_i32_18
  let v31 : BitVec 32 := Scalar.select v29 v30 v15
  let c3_i32 : BitVec 32 := 3#32
  let v32 : BitVec 32 := Scalar.addi v31 c3_i32
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c4_i32 : BitVec 32 := 4#32
  let c0_i32_21 : BitVec 32 := 0#32
  let v39 : BitVec 1 := Scalar.cmpi .sgt c4_i32 c0_i32_21
  let v40 : BitVec 32 := Scalar.extui v39
  let c0_i32_22 : BitVec 32 := 0#32
  let v41 : BitVec 1 := Scalar.cmpi .slt c4_i32 c0_i32_22
  let v42 : BitVec 32 := Scalar.extui v41
  let v43 : BitVec 32 := Scalar.subi v40 v42
  let v44 : BitVec 1 := Scalar.cmpi .ne v38 v43
  let v45 : BitVec 32 := Scalar.remsi v32 c4_i32
  let c0_i32_23 : BitVec 32 := 0#32
  let v46 : BitVec 1 := Scalar.cmpi .ne v45 c0_i32_23
  let v47 : BitVec 1 := Scalar.andi v44 v46
  let v33 : BitVec 32 := Scalar.divsi v32 c4_i32
  let c1_i32_24 : BitVec 32 := 1#32
  let v48 : BitVec 32 := Scalar.subi v33 c1_i32_24
  let v49 : BitVec 32 := Scalar.select v47 v48 v33
  let c1_i32_25 : BitVec 32 := 1#32
  let v50 : BitVec 32 := Scalar.maxsi v49 c1_i32_25
  let v140 : BitVec 32 := Scalar.subi v50 c0_i32_56
  let c1_i32_59 : BitVec 32 := 1#32
  let v142 : BitVec 32 := Scalar.divsi v140 c1_i32_59
  let v143 : BitVec 32 := Scalar.muli v142 c1_i32_59
  let v144 : BitVec 32 := Scalar.addi c0_i32_56 v143
  let c1_i32_61 : BitVec 32 := 1#32
  let arg27 : BitVec 32 := Scf.iv v144 c1_i32_61 k0_t14
  let c4_i32_93 : BitVec 32 := 4#32
  let v222 : BitVec 32 := Scalar.muli arg27 c4_i32_93
  let v223 : BitVec 32 := Scalar.addi v222 c0_i32_94
  let c2_i32_125 : BitVec 32 := 2#32
  let v301 : BitVec 32 := Scalar.addi v223 c2_i32_125
  let c128_i32_126 : BitVec 32 := 128#32
  let v302 : BitVec 32 := Scalar.muli v301 c128_i32_126
  let v303 : BitVec 32 := Scalar.addi v10 v302
  ![v303.toNat]

def k0_chk4 (v5 : BitVec 32) (v7 : BitVec 32) : Prop :=
  ((k0_t5_loop v5 v7).OK) ∧
  (∀ k0_t5 : Fin (k0_t5_loop v5 v7).trips, ∀ (r : Fin 4), ∀ a, (k0_off14 v5 v7 k0_t5 (BitVec.ofNat 32 r.val)) a + S128.size a ≤ S161024.size a) ∧
  ((k0_t14_loop v5 v7).OK) ∧
  (∀ k0_t14 : Fin (k0_t14_loop v5 v7).trips, ∀ (r : Fin 4), ∀ a, (k0_off87 v5 v7 k0_t14 (BitVec.ofNat 32 r.val)) a + S128.size a ≤ S161024.size a)
theorem k0_t5_ok : ∀ (v5 : BitVec 32) (v7 : BitVec 32) (k0_hw4 : k0_chk4 v5 v7), (k0_t5_loop v5 v7).OK := fun v5 v7 k0_hw4 => k0_hw4.1
theorem k0_off14_inb : ∀ (v5 : BitVec 32) (v7 : BitVec 32) (k0_hw4 : k0_chk4 v5 v7) (k0_t5 : Fin (k0_t5_loop v5 v7).trips), ∀ (r : Fin 4), ∀ a, (k0_off14 v5 v7 k0_t5 (BitVec.ofNat 32 r.val)) a + S128.size a ≤ S161024.size a := fun v5 v7 k0_hw4 k0_t5 r => k0_hw4.2.1 k0_t5 r
theorem k0_t14_ok : ∀ (v5 : BitVec 32) (v7 : BitVec 32) (k0_hw4 : k0_chk4 v5 v7), (k0_t14_loop v5 v7).OK := fun v5 v7 k0_hw4 => k0_hw4.2.2.1
theorem k0_off87_inb : ∀ (v5 : BitVec 32) (v7 : BitVec 32) (k0_hw4 : k0_chk4 v5 v7) (k0_t14 : Fin (k0_t14_loop v5 v7).trips), ∀ (r : Fin 4), ∀ a, (k0_off87 v5 v7 k0_t14 (BitVec.ofNat 32 r.val)) a + S128.size a ≤ S161024.size a := fun v5 v7 k0_hw4 k0_t14 r => k0_hw4.2.2.2 k0_t14 r

@[reducible] def k0_t15_loop : Scf.Loop 32 :=
  let c0_i32_129 : BitVec 32 := 0#32
  let c8_i32_130 : BitVec 32 := 8#32
  let v309 : BitVec 32 := Scalar.addi c0_i32_129 c8_i32_130
  let c1_i32_131 : BitVec 32 := 1#32
  ⟨c0_i32_129, v309, c1_i32_131⟩
def k0_off88 (k0_t15 : Fin k0_t15_loop.trips) : Fin 1 → Nat :=
  let c0_i32_129 : BitVec 32 := 0#32
  let c1_i32_131 : BitVec 32 := 1#32
  let arg38 : BitVec 32 := Scf.iv c0_i32_129 c1_i32_131 k0_t15
  let c16_i32_250 : BitVec 32 := 16#32
  let v575 : BitVec 32 := Scalar.muli arg38 c16_i32_250
  let v576 : Index := Scalar.indexCast v575
  ![v576.toNat]
@[reducible] def k0_t16_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off89 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v600 : Index := Scalar.indexCast v599
  let c0_258 : Index := 0#32
  ![v600.toNat, 0]
def k0_off90 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v603 : Index := Scalar.indexCast v599
  let c16_259 : Index := 16#32
  ![v603.toNat, 16]
def k0_off91 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v606 : Index := Scalar.indexCast v599
  let c32_260 : Index := 32#32
  ![v606.toNat, 32]
def k0_off92 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v609 : Index := Scalar.indexCast v599
  let c48_261 : Index := 48#32
  ![v609.toNat, 48]
def k0_off93 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v612 : Index := Scalar.indexCast v599
  let c64_262 : Index := 64#32
  ![v612.toNat, 64]
def k0_off94 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v615 : Index := Scalar.indexCast v599
  let c80_263 : Index := 80#32
  ![v615.toNat, 80]
def k0_off95 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v618 : Index := Scalar.indexCast v599
  let c96_264 : Index := 96#32
  ![v618.toNat, 96]
def k0_off96 (k0_t15 : Fin k0_t15_loop.trips) (k0_t16 : Fin k0_t16_loop.trips) : Fin 2 → Nat :=
  let c0_i32_129 : BitVec 32 := 0#32
  let c1_i32_131 : BitVec 32 := 1#32
  let arg38 : BitVec 32 := Scf.iv c0_i32_129 c1_i32_131 k0_t15
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t16
  let v599 : BitVec 32 := Scalar.addi v598 arg49
  let v621 : Index := Scalar.indexCast v599
  let c112_265 : Index := 112#32
  ![v621.toNat, 112]
def k0_off97 (arg50 : BitVec 32) : Fin 2 → Nat :=
  let v645 : Index := Scalar.indexCast arg50
  let c0_269 : Index := 0#32
  ![v645.toNat, 0]
def k0_cond10 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off98 (arg50 : BitVec 32) : Fin 2 → Nat :=
  let v653 : Index := Scalar.indexCast arg50
  let c16_271 : Index := 16#32
  ![v653.toNat, 16]
def k0_off99 (arg50 : BitVec 32) : Fin 2 → Nat :=
  let v661 : Index := Scalar.indexCast arg50
  let c32_273 : Index := 32#32
  ![v661.toNat, 32]
def k0_off100 (arg50 : BitVec 32) : Fin 2 → Nat :=
  let v669 : Index := Scalar.indexCast arg50
  let c48_275 : Index := 48#32
  ![v669.toNat, 48]
def k0_off101 (arg50 : BitVec 32) : Fin 2 → Nat :=
  let v677 : Index := Scalar.indexCast arg50
  let c64_277 : Index := 64#32
  ![v677.toNat, 64]
def k0_off102 (arg50 : BitVec 32) : Fin 2 → Nat :=
  let v685 : Index := Scalar.indexCast arg50
  let c80_279 : Index := 80#32
  ![v685.toNat, 80]
def k0_off103 (arg50 : BitVec 32) : Fin 2 → Nat :=
  let v693 : Index := Scalar.indexCast arg50
  let c96_281 : Index := 96#32
  ![v693.toNat, 96]
def k0_off104 (arg50 : BitVec 32) : Fin 2 → Nat :=
  let v701 : Index := Scalar.indexCast arg50
  let c112_283 : Index := 112#32
  ![v701.toNat, 112]
def k0_cond11 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off105 (arg50 : BitVec 32) : Fin 2 → Nat :=
  let v714 : Index := Scalar.indexCast arg50
  let c0_287 : Index := 0#32
  ![v714.toNat, 0]

def k0_chk9 (k0_t3 : Fin k0_t3_loop.trips) (arg50 : BitVec 32) (v597 : BitVec 32) : Prop :=
  (∀ (k0_h10 : k0_cond10 arg50 v597 = 1#1), ∀ a, (k0_off97 arg50) a + S1x16.size a ≤ S328x128.size a) ∧
  (∀ (k0_h10 : k0_cond10 arg50 v597 = 1#1), ∀ a, (k0_off98 arg50) a + S1x16.size a ≤ S328x128.size a) ∧
  (∀ (k0_h10 : k0_cond10 arg50 v597 = 1#1), ∀ a, (k0_off99 arg50) a + S1x16.size a ≤ S328x128.size a) ∧
  (∀ (k0_h10 : k0_cond10 arg50 v597 = 1#1), ∀ a, (k0_off100 arg50) a + S1x16.size a ≤ S328x128.size a) ∧
  (∀ (k0_h10 : k0_cond10 arg50 v597 = 1#1), ∀ a, (k0_off101 arg50) a + S1x16.size a ≤ S328x128.size a) ∧
  (∀ (k0_h10 : k0_cond10 arg50 v597 = 1#1), ∀ a, (k0_off102 arg50) a + S1x16.size a ≤ S328x128.size a) ∧
  (∀ (k0_h10 : k0_cond10 arg50 v597 = 1#1), ∀ a, (k0_off103 arg50) a + S1x16.size a ≤ S328x128.size a) ∧
  (∀ (k0_h10 : k0_cond10 arg50 v597 = 1#1), ∀ a, (k0_off104 arg50) a + S1x16.size a ≤ S328x128.size a) ∧
  (∀ (k0_h10 : k0_cond10 arg50 v597 = 1#1), ∀ (k0_h11 : k0_cond11 k0_t3 = 1#1), ∀ a, (k0_off105 arg50) a + S1x16.size a ≤ S328x16.size a)
theorem k0_off97_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off97 arg50) a + S1x16.size a ≤ S328x128.size a := fun k0_t3 arg50 v597 k0_hw9 k0_h10 => k0_hw9.1 k0_h10
theorem k0_off98_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off98 arg50) a + S1x16.size a ≤ S328x128.size a := fun k0_t3 arg50 v597 k0_hw9 k0_h10 => k0_hw9.2.1 k0_h10
theorem k0_off99_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off99 arg50) a + S1x16.size a ≤ S328x128.size a := fun k0_t3 arg50 v597 k0_hw9 k0_h10 => k0_hw9.2.2.1 k0_h10
theorem k0_off100_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off100 arg50) a + S1x16.size a ≤ S328x128.size a := fun k0_t3 arg50 v597 k0_hw9 k0_h10 => k0_hw9.2.2.2.1 k0_h10
theorem k0_off101_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off101 arg50) a + S1x16.size a ≤ S328x128.size a := fun k0_t3 arg50 v597 k0_hw9 k0_h10 => k0_hw9.2.2.2.2.1 k0_h10
theorem k0_off102_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off102 arg50) a + S1x16.size a ≤ S328x128.size a := fun k0_t3 arg50 v597 k0_hw9 k0_h10 => k0_hw9.2.2.2.2.2.1 k0_h10
theorem k0_off103_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off103 arg50) a + S1x16.size a ≤ S328x128.size a := fun k0_t3 arg50 v597 k0_hw9 k0_h10 => k0_hw9.2.2.2.2.2.2.1 k0_h10
theorem k0_off104_inb : ∀ (k0_t3 : Fin k0_t3_loop.trips) (arg50 : BitVec 32) (v597 : BitVec 32) (k0_hw9 : k0_chk9 k0_t3 arg50 v597), ∀ (k0_h10 : k0_cond10 arg50 v597 = 1#1), ∀ a, (k0_off104 arg50) a + S1x16.size a ≤ S328x128.size a := fun k0_t3 arg50 v597 k0_hw9 k0_h10 => k0_hw9.2.2.2.2.2.2.2.1 k0_h10
theorem k0_off105_inb : ∀ (k0_t3 : Fin k0_t3_loop.trips) (arg50 : BitVec 32) (v597 : BitVec 32) (k0_hw9 : k0_chk9 k0_t3 arg50 v597), ∀ (k0_h10 : k0_cond10 arg50 v597 = 1#1), ∀ (k0_h11 : k0_cond11 k0_t3 = 1#1), ∀ a, (k0_off105 arg50) a + S1x16.size a ≤ S328x16.size a := fun k0_t3 arg50 v597 k0_hw9 k0_h10 k0_h11 => k0_hw9.2.2.2.2.2.2.2.2 k0_h10 k0_h11

@[reducible] def k0_t17_loop : Scf.Loop 32 :=
  let c0_i32_168 : BitVec 32 := 0#32
  let c8_i32_169 : BitVec 32 := 8#32
  let v397 : BitVec 32 := Scalar.addi c0_i32_168 c8_i32_169
  let c1_i32_170 : BitVec 32 := 1#32
  ⟨c0_i32_168, v397, c1_i32_170⟩
def k0_off106 (k0_t17 : Fin k0_t17_loop.trips) : Fin 1 → Nat :=
  let c0_i32_168 : BitVec 32 := 0#32
  let c1_i32_170 : BitVec 32 := 1#32
  let arg38 : BitVec 32 := Scf.iv c0_i32_168 c1_i32_170 k0_t17
  let c16_i32_250 : BitVec 32 := 16#32
  let v575 : BitVec 32 := Scalar.muli arg38 c16_i32_250
  let v576 : Index := Scalar.indexCast v575
  ![v576.toNat]
@[reducible] def k0_t18_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off107 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v600 : Index := Scalar.indexCast v599
  let c0_258 : Index := 0#32
  ![v600.toNat, 0]
def k0_off108 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v603 : Index := Scalar.indexCast v599
  let c16_259 : Index := 16#32
  ![v603.toNat, 16]
def k0_off109 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v606 : Index := Scalar.indexCast v599
  let c32_260 : Index := 32#32
  ![v606.toNat, 32]
def k0_off110 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v609 : Index := Scalar.indexCast v599
  let c48_261 : Index := 48#32
  ![v609.toNat, 48]
def k0_off111 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v612 : Index := Scalar.indexCast v599
  let c64_262 : Index := 64#32
  ![v612.toNat, 64]
def k0_off112 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v615 : Index := Scalar.indexCast v599
  let c80_263 : Index := 80#32
  ![v615.toNat, 80]
def k0_off113 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v618 : Index := Scalar.indexCast v599
  let c96_264 : Index := 96#32
  ![v618.toNat, 96]
def k0_off114 (k0_t17 : Fin k0_t17_loop.trips) (k0_t18 : Fin k0_t18_loop.trips) : Fin 2 → Nat :=
  let c0_i32_168 : BitVec 32 := 0#32
  let c1_i32_170 : BitVec 32 := 1#32
  let arg38 : BitVec 32 := Scf.iv c0_i32_168 c1_i32_170 k0_t17
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t18
  let v599 : BitVec 32 := Scalar.addi v598 arg49
  let v621 : Index := Scalar.indexCast v599
  let c112_265 : Index := 112#32
  ![v621.toNat, 112]
def k0_off115 (arg50 : BitVec 32) : Fin 2 → Nat :=
  let v645 : Index := Scalar.indexCast arg50
  let c0_269 : Index := 0#32
  ![v645.toNat, 0]
def k0_cond12 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off116 (arg50 : BitVec 32) : Fin 2 → Nat :=
  let v653 : Index := Scalar.indexCast arg50
  let c16_271 : Index := 16#32
  ![v653.toNat, 16]
def k0_off117 (arg50 : BitVec 32) : Fin 2 → Nat :=
  let v661 : Index := Scalar.indexCast arg50
  let c32_273 : Index := 32#32
  ![v661.toNat, 32]
def k0_off118 (arg50 : BitVec 32) : Fin 2 → Nat :=
  let v669 : Index := Scalar.indexCast arg50
  let c48_275 : Index := 48#32
  ![v669.toNat, 48]
def k0_off119 (arg50 : BitVec 32) : Fin 2 → Nat :=
  let v677 : Index := Scalar.indexCast arg50
  let c64_277 : Index := 64#32
  ![v677.toNat, 64]
def k0_off120 (arg50 : BitVec 32) : Fin 2 → Nat :=
  let v685 : Index := Scalar.indexCast arg50
  let c80_279 : Index := 80#32
  ![v685.toNat, 80]
def k0_off121 (arg50 : BitVec 32) : Fin 2 → Nat :=
  let v693 : Index := Scalar.indexCast arg50
  let c96_281 : Index := 96#32
  ![v693.toNat, 96]
def k0_off122 (arg50 : BitVec 32) : Fin 2 → Nat :=
  let v701 : Index := Scalar.indexCast arg50
  let c112_283 : Index := 112#32
  ![v701.toNat, 112]
def k0_cond13 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off123 (arg50 : BitVec 32) : Fin 2 → Nat :=
  let v714 : Index := Scalar.indexCast arg50
  let c0_287 : Index := 0#32
  ![v714.toNat, 0]

def k0_chk10 (k0_t3 : Fin k0_t3_loop.trips) (arg50 : BitVec 32) (v597 : BitVec 32) : Prop :=
  (∀ (k0_h12 : k0_cond12 arg50 v597 = 1#1), ∀ a, (k0_off115 arg50) a + S1x16.size a ≤ S328x128.size a) ∧
  (∀ (k0_h12 : k0_cond12 arg50 v597 = 1#1), ∀ a, (k0_off116 arg50) a + S1x16.size a ≤ S328x128.size a) ∧
  (∀ (k0_h12 : k0_cond12 arg50 v597 = 1#1), ∀ a, (k0_off117 arg50) a + S1x16.size a ≤ S328x128.size a) ∧
  (∀ (k0_h12 : k0_cond12 arg50 v597 = 1#1), ∀ a, (k0_off118 arg50) a + S1x16.size a ≤ S328x128.size a) ∧
  (∀ (k0_h12 : k0_cond12 arg50 v597 = 1#1), ∀ a, (k0_off119 arg50) a + S1x16.size a ≤ S328x128.size a) ∧
  (∀ (k0_h12 : k0_cond12 arg50 v597 = 1#1), ∀ a, (k0_off120 arg50) a + S1x16.size a ≤ S328x128.size a) ∧
  (∀ (k0_h12 : k0_cond12 arg50 v597 = 1#1), ∀ a, (k0_off121 arg50) a + S1x16.size a ≤ S328x128.size a) ∧
  (∀ (k0_h12 : k0_cond12 arg50 v597 = 1#1), ∀ a, (k0_off122 arg50) a + S1x16.size a ≤ S328x128.size a) ∧
  (∀ (k0_h12 : k0_cond12 arg50 v597 = 1#1), ∀ (k0_h13 : k0_cond13 k0_t3 = 1#1), ∀ a, (k0_off123 arg50) a + S1x16.size a ≤ S328x16.size a)
theorem k0_off115_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off115 arg50) a + S1x16.size a ≤ S328x128.size a := fun k0_t3 arg50 v597 k0_hw10 k0_h12 => k0_hw10.1 k0_h12
theorem k0_off116_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off116 arg50) a + S1x16.size a ≤ S328x128.size a := fun k0_t3 arg50 v597 k0_hw10 k0_h12 => k0_hw10.2.1 k0_h12
theorem k0_off117_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off117 arg50) a + S1x16.size a ≤ S328x128.size a := fun k0_t3 arg50 v597 k0_hw10 k0_h12 => k0_hw10.2.2.1 k0_h12
theorem k0_off118_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off118 arg50) a + S1x16.size a ≤ S328x128.size a := fun k0_t3 arg50 v597 k0_hw10 k0_h12 => k0_hw10.2.2.2.1 k0_h12
theorem k0_off119_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off119 arg50) a + S1x16.size a ≤ S328x128.size a := fun k0_t3 arg50 v597 k0_hw10 k0_h12 => k0_hw10.2.2.2.2.1 k0_h12
theorem k0_off120_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off120 arg50) a + S1x16.size a ≤ S328x128.size a := fun k0_t3 arg50 v597 k0_hw10 k0_h12 => k0_hw10.2.2.2.2.2.1 k0_h12
theorem k0_off121_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off121 arg50) a + S1x16.size a ≤ S328x128.size a := fun k0_t3 arg50 v597 k0_hw10 k0_h12 => k0_hw10.2.2.2.2.2.2.1 k0_h12
theorem k0_off122_inb : ∀ (k0_t3 : Fin k0_t3_loop.trips) (arg50 : BitVec 32) (v597 : BitVec 32) (k0_hw10 : k0_chk10 k0_t3 arg50 v597), ∀ (k0_h12 : k0_cond12 arg50 v597 = 1#1), ∀ a, (k0_off122 arg50) a + S1x16.size a ≤ S328x128.size a := fun k0_t3 arg50 v597 k0_hw10 k0_h12 => k0_hw10.2.2.2.2.2.2.2.1 k0_h12
theorem k0_off123_inb : ∀ (k0_t3 : Fin k0_t3_loop.trips) (arg50 : BitVec 32) (v597 : BitVec 32) (k0_hw10 : k0_chk10 k0_t3 arg50 v597), ∀ (k0_h12 : k0_cond12 arg50 v597 = 1#1), ∀ (k0_h13 : k0_cond13 k0_t3 = 1#1), ∀ a, (k0_off123 arg50) a + S1x16.size a ≤ S328x16.size a := fun k0_t3 arg50 v597 k0_hw10 k0_h12 k0_h13 => k0_hw10.2.2.2.2.2.2.2.2 k0_h12 k0_h13

@[reducible] def k0_t19_loop : Scf.Loop 32 :=
  let c0_i32_207 : BitVec 32 := 0#32
  let c8_i32_208 : BitVec 32 := 8#32
  let v485 : BitVec 32 := Scalar.addi c0_i32_207 c8_i32_208
  let c1_i32_209 : BitVec 32 := 1#32
  ⟨c0_i32_207, v485, c1_i32_209⟩
def k0_off124 (k0_t19 : Fin k0_t19_loop.trips) : Fin 1 → Nat :=
  let c0_i32_207 : BitVec 32 := 0#32
  let c1_i32_209 : BitVec 32 := 1#32
  let arg38 : BitVec 32 := Scf.iv c0_i32_207 c1_i32_209 k0_t19
  let c16_i32_250 : BitVec 32 := 16#32
  let v575 : BitVec 32 := Scalar.muli arg38 c16_i32_250
  let v576 : Index := Scalar.indexCast v575
  ![v576.toNat]
@[reducible] def k0_t20_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off125 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v600 : Index := Scalar.indexCast v599
  let c0_258 : Index := 0#32
  ![v600.toNat, 0]
def k0_off126 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v603 : Index := Scalar.indexCast v599
  let c16_259 : Index := 16#32
  ![v603.toNat, 16]
def k0_off127 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v606 : Index := Scalar.indexCast v599
  let c32_260 : Index := 32#32
  ![v606.toNat, 32]
def k0_off128 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v609 : Index := Scalar.indexCast v599
  let c48_261 : Index := 48#32
  ![v609.toNat, 48]
def k0_off129 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v612 : Index := Scalar.indexCast v599
  let c64_262 : Index := 64#32
  ![v612.toNat, 64]
def k0_off130 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v615 : Index := Scalar.indexCast v599
  let c80_263 : Index := 80#32
  ![v615.toNat, 80]
def k0_off131 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v618 : Index := Scalar.indexCast v599
  let c96_264 : Index := 96#32
  ![v618.toNat, 96]
def k0_off132 (k0_t19 : Fin k0_t19_loop.trips) (k0_t20 : Fin k0_t20_loop.trips) : Fin 2 → Nat :=
  let c0_i32_207 : BitVec 32 := 0#32
  let c1_i32_209 : BitVec 32 := 1#32
  let arg38 : BitVec 32 := Scf.iv c0_i32_207 c1_i32_209 k0_t19
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t20
  let v599 : BitVec 32 := Scalar.addi v598 arg49
  let v621 : Index := Scalar.indexCast v599
  let c112_265 : Index := 112#32
  ![v621.toNat, 112]
def k0_off133 (arg50 : BitVec 32) : Fin 2 → Nat :=
  let v645 : Index := Scalar.indexCast arg50
  let c0_269 : Index := 0#32
  ![v645.toNat, 0]
def k0_cond14 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off134 (arg50 : BitVec 32) : Fin 2 → Nat :=
  let v653 : Index := Scalar.indexCast arg50
  let c16_271 : Index := 16#32
  ![v653.toNat, 16]
def k0_off135 (arg50 : BitVec 32) : Fin 2 → Nat :=
  let v661 : Index := Scalar.indexCast arg50
  let c32_273 : Index := 32#32
  ![v661.toNat, 32]
def k0_off136 (arg50 : BitVec 32) : Fin 2 → Nat :=
  let v669 : Index := Scalar.indexCast arg50
  let c48_275 : Index := 48#32
  ![v669.toNat, 48]
def k0_off137 (arg50 : BitVec 32) : Fin 2 → Nat :=
  let v677 : Index := Scalar.indexCast arg50
  let c64_277 : Index := 64#32
  ![v677.toNat, 64]
def k0_off138 (arg50 : BitVec 32) : Fin 2 → Nat :=
  let v685 : Index := Scalar.indexCast arg50
  let c80_279 : Index := 80#32
  ![v685.toNat, 80]
def k0_off139 (arg50 : BitVec 32) : Fin 2 → Nat :=
  let v693 : Index := Scalar.indexCast arg50
  let c96_281 : Index := 96#32
  ![v693.toNat, 96]
def k0_off140 (arg50 : BitVec 32) : Fin 2 → Nat :=
  let v701 : Index := Scalar.indexCast arg50
  let c112_283 : Index := 112#32
  ![v701.toNat, 112]
def k0_cond15 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off141 (arg50 : BitVec 32) : Fin 2 → Nat :=
  let v714 : Index := Scalar.indexCast arg50
  let c0_287 : Index := 0#32
  ![v714.toNat, 0]

def k0_chk11 (k0_t3 : Fin k0_t3_loop.trips) (arg50 : BitVec 32) (v597 : BitVec 32) : Prop :=
  (∀ (k0_h14 : k0_cond14 arg50 v597 = 1#1), ∀ a, (k0_off133 arg50) a + S1x16.size a ≤ S328x128.size a) ∧
  (∀ (k0_h14 : k0_cond14 arg50 v597 = 1#1), ∀ a, (k0_off134 arg50) a + S1x16.size a ≤ S328x128.size a) ∧
  (∀ (k0_h14 : k0_cond14 arg50 v597 = 1#1), ∀ a, (k0_off135 arg50) a + S1x16.size a ≤ S328x128.size a) ∧
  (∀ (k0_h14 : k0_cond14 arg50 v597 = 1#1), ∀ a, (k0_off136 arg50) a + S1x16.size a ≤ S328x128.size a) ∧
  (∀ (k0_h14 : k0_cond14 arg50 v597 = 1#1), ∀ a, (k0_off137 arg50) a + S1x16.size a ≤ S328x128.size a) ∧
  (∀ (k0_h14 : k0_cond14 arg50 v597 = 1#1), ∀ a, (k0_off138 arg50) a + S1x16.size a ≤ S328x128.size a) ∧
  (∀ (k0_h14 : k0_cond14 arg50 v597 = 1#1), ∀ a, (k0_off139 arg50) a + S1x16.size a ≤ S328x128.size a) ∧
  (∀ (k0_h14 : k0_cond14 arg50 v597 = 1#1), ∀ a, (k0_off140 arg50) a + S1x16.size a ≤ S328x128.size a) ∧
  (∀ (k0_h14 : k0_cond14 arg50 v597 = 1#1), ∀ (k0_h15 : k0_cond15 k0_t3 = 1#1), ∀ a, (k0_off141 arg50) a + S1x16.size a ≤ S328x16.size a)
theorem k0_off133_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off133 arg50) a + S1x16.size a ≤ S328x128.size a := fun k0_t3 arg50 v597 k0_hw11 k0_h14 => k0_hw11.1 k0_h14
theorem k0_off134_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off134 arg50) a + S1x16.size a ≤ S328x128.size a := fun k0_t3 arg50 v597 k0_hw11 k0_h14 => k0_hw11.2.1 k0_h14
theorem k0_off135_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off135 arg50) a + S1x16.size a ≤ S328x128.size a := fun k0_t3 arg50 v597 k0_hw11 k0_h14 => k0_hw11.2.2.1 k0_h14
theorem k0_off136_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off136 arg50) a + S1x16.size a ≤ S328x128.size a := fun k0_t3 arg50 v597 k0_hw11 k0_h14 => k0_hw11.2.2.2.1 k0_h14
theorem k0_off137_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off137 arg50) a + S1x16.size a ≤ S328x128.size a := fun k0_t3 arg50 v597 k0_hw11 k0_h14 => k0_hw11.2.2.2.2.1 k0_h14
theorem k0_off138_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off138 arg50) a + S1x16.size a ≤ S328x128.size a := fun k0_t3 arg50 v597 k0_hw11 k0_h14 => k0_hw11.2.2.2.2.2.1 k0_h14
theorem k0_off139_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off139 arg50) a + S1x16.size a ≤ S328x128.size a := fun k0_t3 arg50 v597 k0_hw11 k0_h14 => k0_hw11.2.2.2.2.2.2.1 k0_h14
theorem k0_off140_inb : ∀ (k0_t3 : Fin k0_t3_loop.trips) (arg50 : BitVec 32) (v597 : BitVec 32) (k0_hw11 : k0_chk11 k0_t3 arg50 v597), ∀ (k0_h14 : k0_cond14 arg50 v597 = 1#1), ∀ a, (k0_off140 arg50) a + S1x16.size a ≤ S328x128.size a := fun k0_t3 arg50 v597 k0_hw11 k0_h14 => k0_hw11.2.2.2.2.2.2.2.1 k0_h14
theorem k0_off141_inb : ∀ (k0_t3 : Fin k0_t3_loop.trips) (arg50 : BitVec 32) (v597 : BitVec 32) (k0_hw11 : k0_chk11 k0_t3 arg50 v597), ∀ (k0_h14 : k0_cond14 arg50 v597 = 1#1), ∀ (k0_h15 : k0_cond15 k0_t3 = 1#1), ∀ a, (k0_off141 arg50) a + S1x16.size a ≤ S328x16.size a := fun k0_t3 arg50 v597 k0_hw11 k0_h14 k0_h15 => k0_hw11.2.2.2.2.2.2.2.2 k0_h14 k0_h15

@[reducible] def k0_t21_loop : Scf.Loop 32 :=
  let c0_i32_246 : BitVec 32 := 0#32
  let c8_i32_247 : BitVec 32 := 8#32
  let v573 : BitVec 32 := Scalar.addi c0_i32_246 c8_i32_247
  let c1_i32_248 : BitVec 32 := 1#32
  ⟨c0_i32_246, v573, c1_i32_248⟩
def k0_off142 (k0_t21 : Fin k0_t21_loop.trips) : Fin 1 → Nat :=
  let c0_i32_246 : BitVec 32 := 0#32
  let c1_i32_248 : BitVec 32 := 1#32
  let arg38 : BitVec 32 := Scf.iv c0_i32_246 c1_i32_248 k0_t21
  let c16_i32_250 : BitVec 32 := 16#32
  let v575 : BitVec 32 := Scalar.muli arg38 c16_i32_250
  let v576 : Index := Scalar.indexCast v575
  ![v576.toNat]
@[reducible] def k0_t22_loop : Scf.Loop 32 :=
  let c0_i32_252 : BitVec 32 := 0#32
  let c16_i32_253 : BitVec 32 := 16#32
  let v588 : BitVec 32 := Scalar.addi c0_i32_252 c16_i32_253
  let c1_i32_254 : BitVec 32 := 1#32
  ⟨c0_i32_252, v588, c1_i32_254⟩
def k0_off143 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v600 : Index := Scalar.indexCast v599
  let c0_258 : Index := 0#32
  ![v600.toNat, 0]
def k0_off144 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v603 : Index := Scalar.indexCast v599
  let c16_259 : Index := 16#32
  ![v603.toNat, 16]
def k0_off145 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v606 : Index := Scalar.indexCast v599
  let c32_260 : Index := 32#32
  ![v606.toNat, 32]
def k0_off146 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v609 : Index := Scalar.indexCast v599
  let c48_261 : Index := 48#32
  ![v609.toNat, 48]
def k0_off147 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v612 : Index := Scalar.indexCast v599
  let c64_262 : Index := 64#32
  ![v612.toNat, 64]
def k0_off148 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v615 : Index := Scalar.indexCast v599
  let c80_263 : Index := 80#32
  ![v615.toNat, 80]
def k0_off149 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v618 : Index := Scalar.indexCast v599
  let c96_264 : Index := 96#32
  ![v618.toNat, 96]
def k0_off150 (k0_t21 : Fin k0_t21_loop.trips) (k0_t22 : Fin k0_t22_loop.trips) : Fin 2 → Nat :=
  let c0_i32_246 : BitVec 32 := 0#32
  let c1_i32_248 : BitVec 32 := 1#32
  let arg38 : BitVec 32 := Scf.iv c0_i32_246 c1_i32_248 k0_t21
  let c16_i32_257 : BitVec 32 := 16#32
  let v598 : BitVec 32 := Scalar.muli arg38 c16_i32_257
  let c0_i32_252 : BitVec 32 := 0#32
  let c1_i32_254 : BitVec 32 := 1#32
  let arg49 : BitVec 32 := Scf.iv c0_i32_252 c1_i32_254 k0_t22
  let v599 : BitVec 32 := Scalar.addi v598 arg49
  let v621 : Index := Scalar.indexCast v599
  let c112_265 : Index := 112#32
  ![v621.toNat, 112]
def k0_off151 (arg50 : BitVec 32) : Fin 2 → Nat :=
  let v645 : Index := Scalar.indexCast arg50
  let c0_269 : Index := 0#32
  ![v645.toNat, 0]
def k0_cond16 (arg50 : BitVec 32) (v597 : BitVec 32) : BitVec 1 :=
  let v624 : BitVec 1 := Scalar.cmpi .ne v597 arg50
  let v625 : BitVec 32 := Scalar.extui v624
  let c0_i32_266 : BitVec 32 := 0#32
  let v626 : BitVec 1 := Scalar.cmpi .ne v625 c0_i32_266
  v626

def k0_off152 (arg50 : BitVec 32) : Fin 2 → Nat :=
  let v653 : Index := Scalar.indexCast arg50
  let c16_271 : Index := 16#32
  ![v653.toNat, 16]
def k0_off153 (arg50 : BitVec 32) : Fin 2 → Nat :=
  let v661 : Index := Scalar.indexCast arg50
  let c32_273 : Index := 32#32
  ![v661.toNat, 32]
def k0_off154 (arg50 : BitVec 32) : Fin 2 → Nat :=
  let v669 : Index := Scalar.indexCast arg50
  let c48_275 : Index := 48#32
  ![v669.toNat, 48]
def k0_off155 (arg50 : BitVec 32) : Fin 2 → Nat :=
  let v677 : Index := Scalar.indexCast arg50
  let c64_277 : Index := 64#32
  ![v677.toNat, 64]
def k0_off156 (arg50 : BitVec 32) : Fin 2 → Nat :=
  let v685 : Index := Scalar.indexCast arg50
  let c80_279 : Index := 80#32
  ![v685.toNat, 80]
def k0_off157 (arg50 : BitVec 32) : Fin 2 → Nat :=
  let v693 : Index := Scalar.indexCast arg50
  let c96_281 : Index := 96#32
  ![v693.toNat, 96]
def k0_off158 (arg50 : BitVec 32) : Fin 2 → Nat :=
  let v701 : Index := Scalar.indexCast arg50
  let c112_283 : Index := 112#32
  ![v701.toNat, 112]
def k0_cond17 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_285 : BitVec 32 := 0#32
  let v709 : BitVec 1 := Scalar.cmpi .eq arg25 c0_i32_285
  let v710 : BitVec 32 := Scalar.extui v709
  let c0_i32_286 : BitVec 32 := 0#32
  let v711 : BitVec 1 := Scalar.cmpi .ne v710 c0_i32_286
  v711

def k0_off159 (arg50 : BitVec 32) : Fin 2 → Nat :=
  let v714 : Index := Scalar.indexCast arg50
  let c0_287 : Index := 0#32
  ![v714.toNat, 0]

def k0_chk12 (k0_t3 : Fin k0_t3_loop.trips) (arg50 : BitVec 32) (v597 : BitVec 32) : Prop :=
  (∀ (k0_h16 : k0_cond16 arg50 v597 = 1#1), ∀ a, (k0_off151 arg50) a + S1x16.size a ≤ S328x128.size a) ∧
  (∀ (k0_h16 : k0_cond16 arg50 v597 = 1#1), ∀ a, (k0_off152 arg50) a + S1x16.size a ≤ S328x128.size a) ∧
  (∀ (k0_h16 : k0_cond16 arg50 v597 = 1#1), ∀ a, (k0_off153 arg50) a + S1x16.size a ≤ S328x128.size a) ∧
  (∀ (k0_h16 : k0_cond16 arg50 v597 = 1#1), ∀ a, (k0_off154 arg50) a + S1x16.size a ≤ S328x128.size a) ∧
  (∀ (k0_h16 : k0_cond16 arg50 v597 = 1#1), ∀ a, (k0_off155 arg50) a + S1x16.size a ≤ S328x128.size a) ∧
  (∀ (k0_h16 : k0_cond16 arg50 v597 = 1#1), ∀ a, (k0_off156 arg50) a + S1x16.size a ≤ S328x128.size a) ∧
  (∀ (k0_h16 : k0_cond16 arg50 v597 = 1#1), ∀ a, (k0_off157 arg50) a + S1x16.size a ≤ S328x128.size a) ∧
  (∀ (k0_h16 : k0_cond16 arg50 v597 = 1#1), ∀ a, (k0_off158 arg50) a + S1x16.size a ≤ S328x128.size a) ∧
  (∀ (k0_h16 : k0_cond16 arg50 v597 = 1#1), ∀ (k0_h17 : k0_cond17 k0_t3 = 1#1), ∀ a, (k0_off159 arg50) a + S1x16.size a ≤ S328x16.size a)
theorem k0_off151_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off151 arg50) a + S1x16.size a ≤ S328x128.size a := fun k0_t3 arg50 v597 k0_hw12 k0_h16 => k0_hw12.1 k0_h16
theorem k0_off152_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off152 arg50) a + S1x16.size a ≤ S328x128.size a := fun k0_t3 arg50 v597 k0_hw12 k0_h16 => k0_hw12.2.1 k0_h16
theorem k0_off153_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off153 arg50) a + S1x16.size a ≤ S328x128.size a := fun k0_t3 arg50 v597 k0_hw12 k0_h16 => k0_hw12.2.2.1 k0_h16
theorem k0_off154_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off154 arg50) a + S1x16.size a ≤ S328x128.size a := fun k0_t3 arg50 v597 k0_hw12 k0_h16 => k0_hw12.2.2.2.1 k0_h16
theorem k0_off155_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off155 arg50) a + S1x16.size a ≤ S328x128.size a := fun k0_t3 arg50 v597 k0_hw12 k0_h16 => k0_hw12.2.2.2.2.1 k0_h16
theorem k0_off156_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off156 arg50) a + S1x16.size a ≤ S328x128.size a := fun k0_t3 arg50 v597 k0_hw12 k0_h16 => k0_hw12.2.2.2.2.2.1 k0_h16
theorem k0_off157_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off157 arg50) a + S1x16.size a ≤ S328x128.size a := fun k0_t3 arg50 v597 k0_hw12 k0_h16 => k0_hw12.2.2.2.2.2.2.1 k0_h16
theorem k0_off158_inb : ∀ (k0_t3 : Fin k0_t3_loop.trips) (arg50 : BitVec 32) (v597 : BitVec 32) (k0_hw12 : k0_chk12 k0_t3 arg50 v597), ∀ (k0_h16 : k0_cond16 arg50 v597 = 1#1), ∀ a, (k0_off158 arg50) a + S1x16.size a ≤ S328x128.size a := fun k0_t3 arg50 v597 k0_hw12 k0_h16 => k0_hw12.2.2.2.2.2.2.2.1 k0_h16
theorem k0_off159_inb : ∀ (k0_t3 : Fin k0_t3_loop.trips) (arg50 : BitVec 32) (v597 : BitVec 32) (k0_hw12 : k0_chk12 k0_t3 arg50 v597), ∀ (k0_h16 : k0_cond16 arg50 v597 = 1#1), ∀ (k0_h17 : k0_cond17 k0_t3 = 1#1), ∀ a, (k0_off159 arg50) a + S1x16.size a ≤ S328x16.size a := fun k0_t3 arg50 v597 k0_hw12 k0_h16 k0_h17 => k0_hw12.2.2.2.2.2.2.2.2 k0_h16 k0_h17

def k0_off160 (v146_0 : BitVec 32) : Fin 2 → Nat :=
  let v147 : Index := Scalar.indexCast v146_0
  let c0_62 : Index := 0#32
  ![v147.toNat, 0]

def k0_off161 (v146_0 : BitVec 32) : Fin 2 → Nat :=
  let v155 : Index := Scalar.indexCast v146_0
  let c16_64 : Index := 16#32
  ![v155.toNat, 16]
def k0_off162 (v146_0 : BitVec 32) : Fin 2 → Nat :=
  let v163 : Index := Scalar.indexCast v146_0
  let c32_66 : Index := 32#32
  ![v163.toNat, 32]
def k0_off163 (v146_0 : BitVec 32) : Fin 2 → Nat :=
  let v171 : Index := Scalar.indexCast v146_0
  let c48_68 : Index := 48#32
  ![v171.toNat, 48]
def k0_off164 (v146_0 : BitVec 32) : Fin 2 → Nat :=
  let v179 : Index := Scalar.indexCast v146_0
  let c64_70 : Index := 64#32
  ![v179.toNat, 64]
def k0_off165 (v146_0 : BitVec 32) : Fin 2 → Nat :=
  let v187 : Index := Scalar.indexCast v146_0
  let c80_72 : Index := 80#32
  ![v187.toNat, 80]
def k0_off166 (v146_0 : BitVec 32) : Fin 2 → Nat :=
  let v195 : Index := Scalar.indexCast v146_0
  let c96_74 : Index := 96#32
  ![v195.toNat, 96]
def k0_off167 (v146_0 : BitVec 32) : Fin 2 → Nat :=
  let v203 : Index := Scalar.indexCast v146_0
  let c112_76 : Index := 112#32
  ![v203.toNat, 112]
def k0_cond18 (k0_t3 : Fin k0_t3_loop.trips) : BitVec 1 :=
  let c0_i32_30 : BitVec 32 := 0#32
  let c1_i32_31 : BitVec 32 := 1#32
  let arg25 : BitVec 32 := Scf.iv c0_i32_30 c1_i32_31 k0_t3
  let c0_i32_78 : BitVec 32 := 0#32
  let v211 : BitVec 1 := Scalar.cmpi .eq arg25 c0_i32_78
  let v212 : BitVec 32 := Scalar.extui v211
  let c0_i32_79 : BitVec 32 := 0#32
  let v213 : BitVec 1 := Scalar.cmpi .ne v212 c0_i32_79
  v213

def k0_off168 (v146_0 : BitVec 32) : Fin 2 → Nat :=
  let v224 : Index := Scalar.indexCast v146_0
  let c0_93 : Index := 0#32
  ![v224.toNat, 0]

def k0_chk13 (k0_t3 : Fin k0_t3_loop.trips) (v146_0 : BitVec 32) : Prop :=
  (∀ a, (k0_off160 v146_0) a + S1x16.size a ≤ S328x128.size a) ∧
  (∀ a, (k0_off161 v146_0) a + S1x16.size a ≤ S328x128.size a) ∧
  (∀ a, (k0_off162 v146_0) a + S1x16.size a ≤ S328x128.size a) ∧
  (∀ a, (k0_off163 v146_0) a + S1x16.size a ≤ S328x128.size a) ∧
  (∀ a, (k0_off164 v146_0) a + S1x16.size a ≤ S328x128.size a) ∧
  (∀ a, (k0_off165 v146_0) a + S1x16.size a ≤ S328x128.size a) ∧
  (∀ a, (k0_off166 v146_0) a + S1x16.size a ≤ S328x128.size a) ∧
  (∀ a, (k0_off167 v146_0) a + S1x16.size a ≤ S328x128.size a) ∧
  (∀ (k0_h18 : k0_cond18 k0_t3 = 1#1), ∀ a, (k0_off168 v146_0) a + S1x16.size a ≤ S328x16.size a)
theorem k0_off160_inb : ∀ (k0_t3 : Fin k0_t3_loop.trips) (v146_0 : BitVec 32) (k0_hw13 : k0_chk13 k0_t3 v146_0), ∀ a, (k0_off160 v146_0) a + S1x16.size a ≤ S328x128.size a := fun k0_t3 v146_0 k0_hw13 => k0_hw13.1
theorem k0_off161_inb : ∀ (k0_t3 : Fin k0_t3_loop.trips) (v146_0 : BitVec 32) (k0_hw13 : k0_chk13 k0_t3 v146_0), ∀ a, (k0_off161 v146_0) a + S1x16.size a ≤ S328x128.size a := fun k0_t3 v146_0 k0_hw13 => k0_hw13.2.1
theorem k0_off162_inb : ∀ (k0_t3 : Fin k0_t3_loop.trips) (v146_0 : BitVec 32) (k0_hw13 : k0_chk13 k0_t3 v146_0), ∀ a, (k0_off162 v146_0) a + S1x16.size a ≤ S328x128.size a := fun k0_t3 v146_0 k0_hw13 => k0_hw13.2.2.1
theorem k0_off163_inb : ∀ (k0_t3 : Fin k0_t3_loop.trips) (v146_0 : BitVec 32) (k0_hw13 : k0_chk13 k0_t3 v146_0), ∀ a, (k0_off163 v146_0) a + S1x16.size a ≤ S328x128.size a := fun k0_t3 v146_0 k0_hw13 => k0_hw13.2.2.2.1
theorem k0_off164_inb : ∀ (k0_t3 : Fin k0_t3_loop.trips) (v146_0 : BitVec 32) (k0_hw13 : k0_chk13 k0_t3 v146_0), ∀ a, (k0_off164 v146_0) a + S1x16.size a ≤ S328x128.size a := fun k0_t3 v146_0 k0_hw13 => k0_hw13.2.2.2.2.1
theorem k0_off165_inb : ∀ (k0_t3 : Fin k0_t3_loop.trips) (v146_0 : BitVec 32) (k0_hw13 : k0_chk13 k0_t3 v146_0), ∀ a, (k0_off165 v146_0) a + S1x16.size a ≤ S328x128.size a := fun k0_t3 v146_0 k0_hw13 => k0_hw13.2.2.2.2.2.1
theorem k0_off166_inb : ∀ (k0_t3 : Fin k0_t3_loop.trips) (v146_0 : BitVec 32) (k0_hw13 : k0_chk13 k0_t3 v146_0), ∀ a, (k0_off166 v146_0) a + S1x16.size a ≤ S328x128.size a := fun k0_t3 v146_0 k0_hw13 => k0_hw13.2.2.2.2.2.2.1
theorem k0_off167_inb : ∀ (k0_t3 : Fin k0_t3_loop.trips) (v146_0 : BitVec 32) (k0_hw13 : k0_chk13 k0_t3 v146_0), ∀ a, (k0_off167 v146_0) a + S1x16.size a ≤ S328x128.size a := fun k0_t3 v146_0 k0_hw13 => k0_hw13.2.2.2.2.2.2.2.1
theorem k0_off168_inb : ∀ (k0_t3 : Fin k0_t3_loop.trips) (v146_0 : BitVec 32) (k0_hw13 : k0_chk13 k0_t3 v146_0), ∀ (k0_h18 : k0_cond18 k0_t3 = 1#1), ∀ a, (k0_off168 v146_0) a + S1x16.size a ≤ S328x16.size a := fun k0_t3 v146_0 k0_hw13 k0_h18 => k0_hw13.2.2.2.2.2.2.2.2 k0_h18

@[reducible] def k0_t23_loop : Scf.Loop 32 :=
  let c0_i32_87 : BitVec 32 := 0#32
  let c320_i32_88 : BitVec 32 := 320#32
  let v219 : BitVec 32 := Scalar.addi c0_i32_87 c320_i32_88
  let c1_i32_89 : BitVec 32 := 1#32
  ⟨c0_i32_87, v219, c1_i32_89⟩
def k0_off169 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v222 : Index := Scalar.indexCast arg27
  let c0_93 : Index := 0#32
  ![v222.toNat, 0]
def k0_off170 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v232 : Index := Scalar.indexCast arg27
  let c0_96 : Index := 0#32
  ![v232.toNat, 0]
def k0_off171 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v240 : Index := Scalar.indexCast arg27
  let c16_98 : Index := 16#32
  ![v240.toNat, 16]
def k0_off172 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v248 : Index := Scalar.indexCast arg27
  let c32_100 : Index := 32#32
  ![v248.toNat, 32]
def k0_off173 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v256 : Index := Scalar.indexCast arg27
  let c48_102 : Index := 48#32
  ![v256.toNat, 48]
def k0_off174 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v264 : Index := Scalar.indexCast arg27
  let c64_104 : Index := 64#32
  ![v264.toNat, 64]
def k0_off175 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v272 : Index := Scalar.indexCast arg27
  let c80_106 : Index := 80#32
  ![v272.toNat, 80]
def k0_off176 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v280 : Index := Scalar.indexCast arg27
  let c96_108 : Index := 96#32
  ![v280.toNat, 96]
def k0_off177 (k0_t23 : Fin k0_t23_loop.trips) : Fin 2 → Nat :=
  let c0_i32_87 : BitVec 32 := 0#32
  let c1_i32_89 : BitVec 32 := 1#32
  let arg27 : BitVec 32 := Scf.iv c0_i32_87 c1_i32_89 k0_t23
  let v288 : Index := Scalar.indexCast arg27
  let c112_110 : Index := 112#32
  ![v288.toNat, 112]
def k0_off178 (k0_t3 : Fin k0_t3_loop.trips) : Fin 3 → Nat :=
  let c0_i32_30 : BitVec 32 := 0#32
  let c1_i32_31 : BitVec 32 := 1#32
  let arg25 : BitVec 32 := Scf.iv c0_i32_30 c1_i32_31 k0_t3
  let c0_i32_95_r4 : BitVec 32 := 0#32
  let c0_i32_96_r4 : BitVec 32 := 0#32
  ![arg25.toNat, 0, 0]
def k0_off179 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32_91 : BitVec 32 := 320#32
  let v221 : BitVec 32 := Scalar.muli v1 c320_i32_91
  let c0_i32_97_r4 : BitVec 32 := 0#32
  ![v221.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x256 : Shape := ⟨2, ![10000, 256]⟩
abbrev S160000 : Shape := ⟨1, ![160000]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x256 : Shape := ⟨2, ![160000, 256]⟩
abbrev S10000 : Shape := ⟨1, ![10000]⟩
abbrev S10000x1 : Shape := ⟨2, ![10000, 1]⟩

abbrev nBuf : Space → Nat
  | .hbm => 42
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000, .i32⟩
  | .hbm, ⟨2, _⟩ => ⟨S160000, .i32⟩
  | .hbm, ⟨3, _⟩ => ⟨S_, .i32⟩
  | .hbm, ⟨4, _⟩ => ⟨S160000, .i32⟩
  | .hbm, ⟨5, _⟩ => ⟨S160000, .i1⟩
  | .hbm, ⟨6, _⟩ => ⟨S_, .i32⟩
  | .hbm, ⟨7, _⟩ => ⟨S160000, .i32⟩
  | .hbm, ⟨8, _⟩ => ⟨S160000, .i32⟩
  | .hbm, ⟨9, _⟩ => ⟨S160000, .i32⟩
  | .hbm, ⟨10, _⟩ => ⟨S160000x1, .i32⟩
  | .hbm, ⟨11, _⟩ => ⟨S1, .i32⟩
  | .hbm, ⟨12, _⟩ => ⟨S_, .i32⟩
  | .hbm, ⟨13, _⟩ => ⟨S160000x1, .i32⟩
  | .hbm, ⟨14, _⟩ => ⟨S160000x1, .i1⟩
  | .hbm, ⟨15, _⟩ => ⟨S1x1, .i32⟩
  | .hbm, ⟨16, _⟩ => ⟨S160000x1, .i32⟩
  | .hbm, ⟨17, _⟩ => ⟨S160000x1, .i1⟩
  | .hbm, ⟨18, _⟩ => ⟨S160000x1, .i1⟩
  | .hbm, ⟨19, _⟩ => ⟨S_, .i1⟩
  | .hbm, ⟨20, _⟩ => ⟨S160000, .i1⟩
  | .hbm, ⟨21, _⟩ => ⟨S160000x256, .f32⟩
  | .hbm, ⟨22, _⟩ => ⟨S160000x256, .i1⟩
  | .hbm, ⟨23, _⟩ => ⟨S_, .f32⟩
  | .hbm, ⟨24, _⟩ => ⟨S160000x256, .f32⟩
  | .hbm, ⟨25, _⟩ => ⟨S160000x256, .f32⟩
  | .hbm, ⟨26, _⟩ => ⟨S_, .f32⟩
  | .hbm, ⟨27, _⟩ => ⟨S10000x256, .f32⟩
  | .hbm, ⟨28, _⟩ => ⟨S160000x1, .i32⟩
  | .hbm, ⟨29, _⟩ => ⟨S10000x256, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x256, .f32⟩
  | .hbm, ⟨41, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]
-- ==== Proof.Base.lean ====
/-
  The program as the launch theorem sees it: the SparseCore configuration, the resource algebra, the vector
  subcore's thread, and names for the kernel's memrefs.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The vector subcore at grid coordinates `L` of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev xW : Memref sig .scVector .hbm S20000x128 .f32 := Memref.whole main_v0_scv
abbrev gW : Memref sig .scVector .hbm S161024 .i32 := Memref.whole main_v2_scv
abbrev sW : Memref sig .scVector .hbm S161024 .i32 := Memref.whole main_v4_scv
abbrev oW : Memref sig .scVector .hbm S2x10240x128 .f32 := Memref.whole main_v5_scv
abbrev raW : Memref sig .scVector .vmem S128x128 .f32 := Memref.whole cc0_scratch0
abbrev rbW : Memref sig .scVector .vmem S128x128 .f32 := Memref.whole cc0_scratch1
abbrev accW : Memref sig .scVector .vmem S328x128 .f32 := Memref.whole cc0_scratch2
abbrev cntW : Memref sig .scVector .vmem S328x16 .f32 := Memref.whole cc0_scratch3
abbrev s0W : Memref sig .scVector .vmem S128 .i32 := Memref.whole cc0_scratch4
abbrev s1W : Memref sig .scVector .vmem S128 .i32 := Memref.whole cc0_scratch5
abbrev s2W : Memref sig .scVector .vmem S128 .i32 := Memref.whole cc0_scratch6
abbrev s3W : Memref sig .scVector .vmem S128 .i32 := Memref.whole cc0_scratch7
abbrev g0W : Memref sig .scVector .vmem S128 .i32 := Memref.whole cc0_scratch8
abbrev g1W : Memref sig .scVector .vmem S128 .i32 := Memref.whole cc0_scratch9
abbrev g2W : Memref sig .scVector .vmem S128 .i32 := Memref.whole cc0_scratch10
abbrev g3W : Memref sig .scVector .vmem S128 .i32 := Memref.whole cc0_scratch11
abbrev bW : Memref sig .scVector .vmem S16 .i32 := Memref.whole cc0_scratch12

end Cert.Proof.Run

end
-- ==== Proof.Spec.lean ====
/-
  What one tile computes, as plain functions: the running state of the segmented sum (current local row, its count,
  its partial sum, the accumulator and the counters), one edge's step, and the fold over a window of edges.
-/
module

public import proofs.«01_k».proof.Proof.Base
public import Idealize.ShloMosaic.Lib.Pointwise.Index
public import Idealize.ShloMosaic.Lib.Pipeline.Value

@[expose] public section

noncomputable section

namespace Cert.Proof.Run

open Cert.KernelIdeal Cert.KernelIdeal.Gen

open Idealize.ShloMosaic

variable {F : FTy → Type} [FloatOps F]

/-- The state the inner loop carries: the row being summed, how many edges it has taken, their partial sum, and the two
    scratch tables. -/
structure St (F : FTy → Type) where
  prev : BitVec 32
  rc : BitVec 32
  r : Fin 128 → F .f32
  acc : FVec F S328x128 .f32
  cnt : FVec F S328x16 .f32

/-- A window's edges: the local row of each and the values it adds. -/
structure Edges (F : FTy → Type) where
  le : ℕ → BitVec 32
  row : ℕ → Fin 128 → F .f32

/-- Sixteen consecutive columns of a row of 128, as a register. -/
def chunk (r : Fin 128 → F .f32) (j : Fin 8) : FVec F S16 .f32 :=
  fun i => r ⟨16 * j.val + (i 0).val, by have h : (i 0).val < 16 := (i 0).isLt; have := j.isLt; omega⟩

/-- The partial sum added into row `p` of the accumulator. -/
def flushAcc (p : ℕ) (r : Fin 128 → F .f32) (acc : FVec F S328x128 .f32) : FVec F S328x128 .f32 :=
  fun x => if (x 0).val = p then FloatOps.addf (acc x) (r (x 1)) else acc x

/-- The first `n` columns of that. -/
def flushUpTo (n p : ℕ) (r : Fin 128 → F .f32) (acc : FVec F S328x128 .f32) : FVec F S328x128 .f32 :=
  fun x => if (x 0).val = p ∧ (x 1).val < n then FloatOps.addf (acc x) (r (x 1)) else acc x

/-- The row's count added into row `p` of the counters: `oh` is one in lane 0 and zero elsewhere. -/
def flushCnt (oh : FVec F S16 .f32) (p : ℕ) (rc : BitVec 32) (cnt : FVec F S328x16 .f32) : FVec F S328x16 .f32 :=
  fun x => if (x 0).val = p then FloatOps.addf (cnt x) (FloatOps.mulf (oh (ix1 (x 1))) (Scalar.sitofp .f32 rc)) else cnt x

/-- Both tables after a row is closed; the counters are kept in the first half only. -/
def flush (oh : FVec F S16 .f32) (h : ℕ) (s : St F) : St F :=
  { s with acc := flushAcc s.prev.toNat s.r s.acc, cnt := if h = 0 then flushCnt oh s.prev.toNat s.rc s.cnt else s.cnt }

/-- One edge. -/
def step (oh : FVec F S16 .f32) (h : ℕ) (le : BitVec 32) (row : Fin 128 → F .f32) (s : St F) : St F :=
  if le = s.prev then { s with rc := s.rc + 1#32, r := fun c => FloatOps.addf (s.r c) (row c) }
  else { flush oh h s with prev := le, rc := 1#32, r := row }

/-- The state after the window's first `n` edges. -/
def run (oh : FVec F S16 .f32) (h : ℕ) (E : Edges F) (s : St F) : ℕ → St F
  | 0 => s
  | n + 1 => step oh h (E.le n) (E.row n) (run oh h E s n)

theorem run_prev_le (oh : FVec F S16 .f32) (h : ℕ) (E : Edges F) (s : St F) (hs : s.prev.toNat ≤ 320) (hE : ∀ n, (E.le n).toNat ≤ 320) :
    ∀ n, (run oh h E s n).prev.toNat ≤ 320
  | 0 => hs
  | n + 1 => by
    have ih := run_prev_le oh h E s hs hE n
    unfold run step
    split
    · exact ih
    · exact hE n

abbrev Tup (F : FTy → Type) : Type :=
  BitVec 32 × BitVec 32 × FVec F S16 .f32 × FVec F S16 .f32 × FVec F S16 .f32 × FVec F S16 .f32 × FVec F S16 .f32 × FVec F S16 .f32 ×
    FVec F S16 .f32 × FVec F S16 .f32

/-- The state's registers as the loops carry them. -/
def St.tup (s : St F) : Tup F :=
  (s.prev, s.rc, chunk s.r 0, chunk s.r 1, chunk s.r 2, chunk s.r 3, chunk s.r 4, chunk s.r 5, chunk s.r 6, chunk s.r 7)

/-- An edge's row in the table of the tile's own 320 rows, 320 for an edge of another tile. -/
def laneOf (g0 g1 s : BitVec 32) : BitVec 32 :=
  if s.slt g0 = false ∧ s.slt g1 = true then s - g0 else 320#32

theorem flushUpTo_full (p : ℕ) (r : Fin 128 → F .f32) (acc : FVec F S328x128 .f32) : flushUpTo 128 p r acc = flushAcc p r acc := by
  funext x
  have h : (x 1).val < 128 := (x 1).isLt
  simp [flushUpTo, flushAcc, h]

theorem flushUpTo_zero (p : ℕ) (r : Fin 128 → F .f32) (acc : FVec F S328x128 .f32) : flushUpTo 0 p r acc = acc := by
  funext x
  simp [flushUpTo]

end Cert.Proof.Run

end
-- ==== Proof.Vec.lean ====
/-
  The kernel's register arithmetic read element by element: the lane picked by a masked sum, the local row of a lane, a
  stretch of sixteen columns of a table, and the eight stores that add a partial sum into one row.
-/
module

public import proofs.«01_k».proof.Proof.Spec

@[expose] public section

noncomputable section

namespace Cert.Proof.Run

open Cert.KernelIdeal Cert.KernelIdeal.Gen

open Idealize.ShloMosaic

variable {F : FTy → Type} [FloatOps F]

theorem eq_ix1_S16 (i : S16.Idx) : i = ix1 (n0 := 16) (i 0) := eq_ix1 (n0 := 16) i

theorem bit_eq_one_iff (b : Bool) : BitVec.ofBool b = 1#1 ↔ b = true := by cases b <;> decide

theorem foldl_pick {n : ℕ} (x : BitVec 32) (t : Fin n) : ∀ (l : List (Fin n)) (_ : l.Nodup) (r : BitVec 32),
    l.foldl (fun r k => IntOp.addi r (if k = t then x else 0#32)) r = r + (if t ∈ l then x else 0#32)
  | [], _, r => by simp
  | a :: l, hl, r => by
    obtain ⟨ha, hl'⟩ := List.nodup_cons.mp hl
    rw [List.foldl_cons, foldl_pick x t l hl']
    by_cases h : a = t
    · subst h; simp [ha, IntOp.addi]
    · have h' : t ≠ a := fun e => h e.symm
      simp [h, h', IntOp.addi]

/-- The lanes of the masked vector that `pick_lane` sums. -/
theorem masked_apply (v : IVec S16 32) (t : Fin 16) (a : Fin 16) :
    select (cmpi .eq (iota .scVector S16 32 [0] iota_S16_d0_w32_scVector) (broadcast S16 (BitVec.ofNat 32 t.val))) v (broadcast S16 0#32) (Shape.ofLane (d := ![16]) a)
      = if a = t then v (ix1 (n0 := 16) t) else 0#32 := by
  have e : (Shape.ofLane (d := ![16]) a : S16.Idx) = ix1 (n0 := 16) a := eq_ix1_S16 _
  rw [e]
  have hc : (cmpi .eq (iota .scVector S16 32 [0] iota_S16_d0_w32_scVector) (broadcast S16 (BitVec.ofNat 32 t.val)) (ix1 (n0 := 16) a) = 1#1) ↔ a = t := by
    show BitVec.ofBool (BitVec.ofNat 32 (0 * _ + a.val) == BitVec.ofNat 32 t.val) = 1#1 ↔ _
    rw [bit_eq_one_iff, beq_iff_eq, Nat.zero_mul, Nat.zero_add]
    constructor
    · intro h
      have h := congrArg BitVec.toNat h
      simp only [BitVec.toNat_ofNat] at h
      have := a.isLt; have := t.isLt
      exact Fin.ext (by omega)
    · rintro rfl; rfl
  by_cases h : a = t
  · rw [if_pos h]; exact (if_pos (hc.mpr h)).trans (by rw [h])
  · rw [if_neg h]; exact if_neg (fun h' => h (hc.mp h'))

/-- Summing a vector that is zero outside one lane gives that lane. -/
theorem pick_lane (v : IVec S16 32) (t : Fin k0_t7_loop.trips) (ht : t.val < 16) :
    extractAt ![15] (k0_pay9 v 0#32 1#32 t) inpos_S16_p15 = v (ix1 (n0 := 16) ⟨t.val, ht⟩) := by
  have hiv : (Scf.iv 0#32 1#32 t : BitVec 32) = BitVec.ofNat 32 t.val := by simp [Scf.iv]
  unfold k0_pay9
  simp only [hiv]
  have hm := masked_apply v ⟨t.val, ht⟩
  revert hm
  generalize select (cmpi .eq (iota .scVector S16 32 [0] iota_S16_d0_w32_scVector) (broadcast S16 (BitVec.ofNat 32 t.val))) v (broadcast S16 0#32) = w
  intro hm
  show List.foldl (fun r (k : Fin 16) => IntOp.addi r (w (Shape.ofLane (d := ![16]) k))) (w (Shape.ofLane (d := ![16]) (0 : Fin 16)))
    (List.filter (fun k => decide (0 < k.val ∧ k.val ≤ 15)) (List.finRange 16)) = _
  simp only [hm]
  rw [foldl_pick _ _ _ ((List.nodup_finRange _).filter _)]
  by_cases h0 : t.val = 0
  · have e : (⟨t.val, ht⟩ : Fin 16) = 0 := Fin.ext h0
    rw [e]; simp
  · have h1 : 0 < t.val := by omega
    have h2 : t.val ≤ 15 := by omega
    have e : ¬ (0 : Fin 16) = ⟨t.val, ht⟩ := fun e => h0 (congrArg Fin.val e).symm
    rw [if_neg e, if_pos (List.mem_filter.mpr ⟨List.mem_finRange _, decide_eq_true ⟨h1, h2⟩⟩)]; simp

/-- An edge's local row. -/
theorem pay88_apply (v2 v3 : BitVec 32) (x : Vec F S16 .i32) (i : S16.Idx) : k0_pay88 v2 v3 x i = laneOf v2 v3 (x i) := by
  have e : shapeCast S16 x shapeCasts_S16_S16 i = x i := shapeCast_apply x _ i i rfl
  unfold k0_pay88 laneOf
  simp only [select, cmpi, andi, subi, broadcast, e]
  unfold Scalar.select IntOp.subi
  refine if_congr ?_ rfl rfl
  show BitVec.ofBool (v2.sle (x i)) &&& BitVec.ofBool ((x i).slt v3) = 1#1 ↔ _
  rw [BitVec.sle_eq_not_slt]
  cases (x i).slt v2 <;> cases (x i).slt v3 <;> decide

theorem cast_row (x : Vec F S1x16 .f32) (i : S16.Idx) : shapeCast S16 x shapeCasts_S1x16_S16 i = x (ix2 (n0 := 1) (n1 := 16) 0 (i 0)) := by
  refine shapeCast_apply x _ i _ ?_
  rw [Shape.rowMajor_val_two, Shape.rowMajor_val_one]
  simp

theorem cast_flat (x : FVec F S16 .f32) (i : S1x16.Idx) : shapeCast S1x16 x shapeCasts_S16_S1x16 i = x (ix1 (n0 := 16) (i 1)) := by
  refine shapeCast_apply x _ i _ ?_
  rw [Shape.rowMajor_val_two, Shape.rowMajor_val_one]
  have h : (i 0).val < 1 := (i 0).isLt
  simp; omega

/-- Sixteen columns of a row of a table, loaded. -/
theorem load_chunk {κ : Kind} {sp : Space} {n : ℕ} (v : View sig κ sp ⟨2, ![n, 128]⟩ .f32) (f : v.ty.Contents (Elt F)) (off : Fin 2 → ℕ) (i : Fin n) (j : Fin 8)
    (hoff : off = ![i.val, 16 * j.val]) (inb) :
    shapeCast S16 (v.readAt (Elt F) (Rect.unit (s := ⟨2, ![n, 128]⟩) off S1x16.size inb).toLoadRect f : Vec F S1x16 .f32) shapeCasts_S1x16_S16
      = chunk (fun c => v.read (Elt F) f (ix2 i c)) j := by
  subst hoff
  funext x
  rw [cast_row, View.readAt_apply]
  refine congrArg (v.read (Elt F) f) (funext fun a => ?_)
  match a with
  | ⟨0, _⟩ => exact Fin.ext (by simp [LoadRect.idx, Rect.unit])
  | ⟨1, _⟩ => exact Fin.ext (by simp [LoadRect.idx, Rect.unit])

/-- One of the eight stores that add a partial sum into row `p`: the columns below `16 k` are already added. -/
theorem flush_store (v : View sig .scVector .vmem S328x128 .f32) (f : v.ty.Contents (Elt F)) (Ls : List (View.Piece (Elt F) S328x128 .f32)) (p : ℕ)
    (k : Fin 8) (off : Fin 2 → ℕ) (hoff : off = ![p, 16 * k.val]) (inb) (r : Fin 128 → F .f32) (acc : FVec F S328x128 .f32)
    (hL : v.read (Elt F) (v.writes (Elt F) f Ls) = flushUpTo (16 * k.val) p r acc) :
    v.read (Elt F) (v.writes (Elt F) f (⟨Rect.unit (s := S328x128) off S1x16.size inb,
        shapeCast S1x16 (addf (shapeCast S16 (v.readAt (Elt F) (Rect.unit (s := S328x128) off S1x16.size inb).toLoadRect (v.writes (Elt F) f Ls) : Vec F S1x16 .f32)
          shapeCasts_S1x16_S16) (chunk r k)) shapeCasts_S16_S1x16⟩ :: Ls)) = flushUpTo (16 * k.val + 16) p r acc := by
  subst hoff
  funext y
  have hy1 : (y 1).val < 128 := (y 1).isLt
  have hLy := congrFun hL y
  by_cases hy : (y 0).val = p ∧ 16 * k.val ≤ (y 1).val ∧ (y 1).val < 16 * k.val + 16
  · obtain ⟨h0, h1, h2⟩ := hy
    rw [View.read_writes_cons_hit_of_coords v f _ _ Ls (ix2 (n0 := 1) (n1 := 16) 0 ⟨(y 1).val - 16 * k.val, by omega⟩) y (fun a => ?_)]
    · rw [cast_flat]
      show FloatOps.addf (shapeCast S16 _ shapeCasts_S1x16_S16 (ix1 _)) _ = _
      rw [cast_row, View.readAt_apply]
      have hidx : (Rect.unit (s := S328x128) ![p, 16 * k.val] S1x16.size inb).toLoadRect.idx
          (ix2 (n0 := 1) (n1 := 16) 0 ((ix1 (n0 := 16) ((ix2 (n0 := 1) (n1 := 16) 0 ⟨(y 1).val - 16 * k.val, by omega⟩ : S1x16.Idx) 1) : S16.Idx) 0)) = y := by
        funext a
        match a with
        | ⟨0, _⟩ => exact Fin.ext (by simp [LoadRect.idx, Rect.unit, h0])
        | ⟨1, _⟩ => exact Fin.ext (by simp [LoadRect.idx, Rect.unit]; omega)
      rw [hidx, hLy]
      unfold flushUpTo chunk
      have e1 : ¬ ((y 0).val = p ∧ (y 1).val < 16 * k.val) := by omega
      have e2 : ((y 0).val = p ∧ (y 1).val < 16 * k.val + 16) := by omega
      rw [if_neg e1, if_pos e2]
      refine congrArg (fun c => FloatOps.addf (acc y) (r c)) (Fin.ext ?_)
      simp; omega
    · match a with
      | ⟨0, _⟩ => simp [Rect.unit, h0]
      | ⟨1, _⟩ => simp [Rect.unit]; omega
  · have hmiss : v.read (Elt F) (v.writes (Elt F) f (⟨Rect.unit (s := S328x128) ![p, 16 * k.val] S1x16.size inb,
        shapeCast S1x16 (addf (shapeCast S16 (v.readAt (Elt F) (Rect.unit (s := S328x128) ![p, 16 * k.val] S1x16.size inb).toLoadRect (v.writes (Elt F) f Ls) : Vec F S1x16 .f32)
          shapeCasts_S1x16_S16) (chunk r k)) shapeCasts_S16_S1x16⟩ :: Ls)) y = v.read (Elt F) (v.writes (Elt F) f Ls) y := by
      by_cases h0 : (y 0).val = p
      · exact View.read_writes_cons_miss_of_axis v f _ Ls y 1 (16 * k.val) 16 rfl rfl rfl (by omega)
      · exact View.read_writes_cons_miss_of_axis v f _ Ls y 0 p 1 rfl rfl rfl (by omega)
    rw [hmiss, hLy]
    unfold flushUpTo
    refine if_congr ⟨fun h => ?_, fun h => ?_⟩ rfl rfl <;> omega

theorem rowBox_inb {m : ℕ} (p n : ℕ) (hp : p ≤ 320) (hn : n + 16 ≤ m) : ∀ a : Fin 2, (![p, n] : Fin 2 → ℕ) a + S1x16.size a ≤ (![328, m] : Fin 2 → ℕ) a := by
  intro a
  match a with
  | ⟨0, _⟩ => show p + 1 ≤ 328; omega
  | ⟨1, _⟩ => show n + 16 ≤ m; omega

/-- One more of the eight stores. -/
abbrev addPiece (v : View sig .scVector .vmem S328x128 .f32) (f : v.ty.Contents (Elt F)) (p : ℕ) (hp : p ≤ 320) (r : Fin 128 → F .f32) (k : Fin 8)
    (Ls : List (View.Piece (Elt F) S328x128 .f32)) : List (View.Piece (Elt F) S328x128 .f32) :=
  ⟨Rect.unit (s := S328x128) ![p, 16 * k.val] S1x16.size (rowBox_inb (m := 128) p _ hp (by have := k.isLt; omega)),
    shapeCast S1x16 (addf (shapeCast S16 (v.readAt (Elt F) (Rect.unit (s := S328x128) ![p, 16 * k.val] S1x16.size
      (rowBox_inb (m := 128) p _ hp (by have := k.isLt; omega))).toLoadRect (v.writes (Elt F) f Ls) : Vec F S1x16 .f32)
      shapeCasts_S1x16_S16) (chunk r k)) shapeCasts_S16_S1x16⟩ :: Ls

/-- The eight stores add the partial sum into row `p`. -/
theorem flush_row (v : View sig .scVector .vmem S328x128 .f32) (f : v.ty.Contents (Elt F)) (p : ℕ) (r : Fin 128 → F .f32) (acc : FVec F S328x128 .f32)
    (hf : v.read (Elt F) f = acc) (hp : p ≤ 320) :
    v.read (Elt F) (v.writes (Elt F) f (addPiece v f p hp r 7 (addPiece v f p hp r 6 (addPiece v f p hp r 5 (addPiece v f p hp r 4
      (addPiece v f p hp r 3 (addPiece v f p hp r 2 (addPiece v f p hp r 1 (addPiece v f p hp r 0 []))))))))) = flushAcc p r acc := by
  rw [← flushUpTo_full]
  refine flush_store v f _ p 7 _ rfl _ r acc (flush_store v f _ p 6 _ rfl _ r acc (flush_store v f _ p 5 _ rfl _ r acc
    (flush_store v f _ p 4 _ rfl _ r acc (flush_store v f _ p 3 _ rfl _ r acc (flush_store v f _ p 2 _ rfl _ r acc
      (flush_store v f _ p 1 _ rfl _ r acc (flush_store v f [] p 0 _ rfl _ r acc ?_)))))))
  exact hf.trans (flushUpTo_zero p r acc).symm

/-- The store that adds a row's count into the counters. -/
theorem flush_count (v : View sig .scVector .vmem S328x16 .f32) (f : v.ty.Contents (Elt F)) (p : ℕ)
    (off : Fin 2 → ℕ) (hoff : off = ![p, 0]) (inb) (oh : FVec F S16 .f32) (rc : BitVec 32) (cnt : FVec F S328x16 .f32)
    (hL : v.read (Elt F) f = cnt) :
    v.read (Elt F) (v.writes (Elt F) f [⟨Rect.unit (s := S328x16) off S1x16.size inb,
        k0_pay17 oh rc (v.readAt (Elt F) (Rect.unit (s := S328x16) off S1x16.size inb).toLoadRect f)⟩]) = flushCnt oh p rc cnt := by
  subst hoff hL
  funext y
  have hy1 : (y 1).val < 16 := (y 1).isLt
  by_cases h0 : (y 0).val = p
  · rw [View.read_writes_cons_hit_of_coords v f _ _ [] (ix2 (n0 := 1) (n1 := 16) 0 ⟨(y 1).val, by omega⟩) y (fun a => ?_)]
    · unfold k0_pay17
      rw [cast_flat]
      show FloatOps.addf (shapeCast S16 _ shapeCasts_S1x16_S16 (ix1 _)) _ = _
      rw [cast_row, View.readAt_apply]
      have hidx : (Rect.unit (s := S328x16) ![p, 0] S1x16.size inb).toLoadRect.idx
          (ix2 (n0 := 1) (n1 := 16) 0 ((ix1 (n0 := 16) ((ix2 (n0 := 1) (n1 := 16) 0 ⟨(y 1).val, by omega⟩ : S1x16.Idx) 1) : S16.Idx) 0)) = y := by
        funext a
        match a with
        | ⟨0, _⟩ => exact Fin.ext (by simp [LoadRect.idx, Rect.unit, h0])
        | ⟨1, _⟩ => exact Fin.ext (by simp [LoadRect.idx, Rect.unit])
      rw [hidx]
      unfold flushCnt
      rw [if_pos h0]
      rfl
    · match a with
      | ⟨0, _⟩ => simp [Rect.unit, h0]
      | ⟨1, _⟩ => simp [Rect.unit]
  · rw [View.read_writes_cons_miss_of_axis v f _ [] y 0 p 1 rfl rfl rfl (by omega)]
    unfold flushCnt
    rw [if_neg h0]
    rfl

end Cert.Proof.Run

end
-- ==== Proof.Elem.lean ====
/-
  One edge of the inner loop, and the two counted loops that take a chunk's 128 edges.
-/
module

public import proofs.«01_k».proof.Proof.Vec

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A scratch table of the tile held whole, with its contents as a table of values. -/
def tbl {s : Shape} {e : EltTy} (d : Dev nD) (L : grid0.Coords) (m : Memref sig .scVector .vmem s e) (x : s.Idx → Elt F e) : sProp 𝕄 :=
  iprop(∃ f : Buf (Elt F) (m.view.loc (thr d L)), ⌜m.view.read (Elt F) f = x⌝ ∗ (m.view.loc (thr d L) ↦[m.view.set]{fullShare} f))

theorem cond3_iff (t3 : Fin k0_t3_loop.trips) : k0_cond3 t3 = 1#1 ↔ t3.val = 0 := by
  revert t3; decide

theorem cond2_iff (p le : BitVec 32) : k0_cond2 p le = 1#1 ↔ le ≠ p := by
  unfold k0_cond2
  show BitVec.ofBool ((BitVec.setWidth 32 (BitVec.ofBool (le != p))) != 0#32) = 1#1 ↔ _
  by_cases h : le = p
  · subst h; simp
  · have : (le != p) = true := by simpa using h
    rw [this]; simp [h]

theorem chk5_of {t3 : Fin k0_t3_loop.trips} {p le : BitVec 32} (hp : p.toNat ≤ 320) : k0_chk5 t3 p le :=
  ⟨fun _ => rowBox_inb _ 0 hp (by omega), fun _ => rowBox_inb _ 16 hp (by omega), fun _ => rowBox_inb _ 32 hp (by omega),
    fun _ => rowBox_inb _ 48 hp (by omega), fun _ => rowBox_inb _ 64 hp (by omega), fun _ => rowBox_inb _ 80 hp (by omega),
    fun _ => rowBox_inb _ 96 hp (by omega), fun _ => rowBox_inb _ 112 hp (by omega), fun _ _ => rowBox_inb (m := 16) _ 0 hp (by omega)⟩

/-- What the loop carries out of an edge is the stepped state's registers. -/
theorem tup_post (oh : FVec F S16 .f32) (h : ℕ) (le : BitVec 32) (row : Fin 128 → F .f32) (st : St F) (x : Fin 8 → FVec F S16 .f32)
    (hx : ∀ j, x j = chunk row j) :
    ((le, Scalar.select (Scalar.cmpi .ne le st.prev) 1#32 (Scalar.addi st.rc 1#32),
      Scalar.select (Scalar.cmpi .ne le st.prev) (x 0) (addf (chunk st.r 0) (x 0)), Scalar.select (Scalar.cmpi .ne le st.prev) (x 1) (addf (chunk st.r 1) (x 1)),
      Scalar.select (Scalar.cmpi .ne le st.prev) (x 2) (addf (chunk st.r 2) (x 2)), Scalar.select (Scalar.cmpi .ne le st.prev) (x 3) (addf (chunk st.r 3) (x 3)),
      Scalar.select (Scalar.cmpi .ne le st.prev) (x 4) (addf (chunk st.r 4) (x 4)), Scalar.select (Scalar.cmpi .ne le st.prev) (x 5) (addf (chunk st.r 5) (x 5)),
      Scalar.select (Scalar.cmpi .ne le st.prev) (x 6) (addf (chunk st.r 6) (x 6)), Scalar.select (Scalar.cmpi .ne le st.prev) (x 7) (addf (chunk st.r 7) (x 7))) : Tup F)
      = (step oh h le row st).tup := by
  simp only [hx]
  by_cases e : le = st.prev
  · have hc : Scalar.cmpi .ne le st.prev ≠ 1 := by rw [e]; simp [Scalar.cmpi, IntOp.cmpi]
    unfold step Scalar.select
    simp only [if_neg hc, if_pos e]
    rw [e]; rfl
  · have hc : Scalar.cmpi .ne le st.prev = 1 := by
      have e' : (le != st.prev) = true := by simpa using e
      show BitVec.ofBool (le != st.prev) = 1
      rw [e']; rfl
    unfold step Scalar.select
    simp only [if_pos hc, if_neg e]
    rfl

/-- Sixteen columns of the rows buffer as a register. -/
abbrev ldx (a6 : View sig .scVector .vmem S128x128 .f32) (fr : a6.ty.Contents (Elt F)) (off : Fin 2 → ℕ) (inb : ∀ a, off a + S1x16.size a ≤ S128x128.size a) : FVec F S16 .f32 :=
  shapeCast S16 (a6.readAt (Elt F) (Rect.unit (s := S128x128) off S1x16.size inb).toLoadRect fr : Vec F S1x16 .f32) shapeCasts_S1x16_S16

/-- The eight columns stretches of row `16 t6 + t7` of the rows buffer, as the body loads them. -/
theorem load_row (a6 : View sig .scVector .vmem S128x128 .f32) (fr : a6.ty.Contents (Elt F)) (row : Fin 128 → F .f32) (i : Fin 128)
    (hrow : ∀ c : Fin 128, a6.read (Elt F) fr (ix2 (n0 := 128) i c) = row c) (off : Fin 2 → ℕ) (j : Fin 8) (hoff : off = ![i.val, 16 * j.val]) (inb) :
    shapeCast S16 (a6.readAt (Elt F) (Rect.unit (s := S128x128) off S1x16.size inb).toLoadRect fr : Vec F S1x16 .f32) shapeCasts_S1x16_S16 = chunk row j :=
  (load_chunk a6 fr off i j hoff inb).trans (congrArg (fun r => chunk r j) (funext hrow))

/-- The inner loop's body at the tile's own scratch, over the rows buffer `a6` and the segment chunk `a10`. -/
abbrev body7 (L : grid0.Coords) (a6 : Memref sig .scVector .vmem S128x128 .f32) (h6 : a6.IsWhole) (a10 : Memref sig .scVector .vmem S128 .i32) (h10 : a10.IsWhole) :=
  k0_t7_body (F := F) L xW (Memref.isWhole_whole _) gW (Memref.isWhole_whole _) sW (Memref.isWhole_whole _) oW (Memref.isWhole_whole _)
    a6 h6 rbW (Memref.isWhole_whole _) accW (Memref.isWhole_whole _) cntW (Memref.isWhole_whole _)
    a10 h10 s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- Between two edges: the state's registers carried, its tables in the two scratch buffers, the rows buffer as gathered. -/
def inv7 (d : Dev nD) (L : grid0.Coords) (a6 : Memref sig .scVector .vmem S128x128 .f32) (fr : Buf (Elt F) (a6.view.loc (thr d L))) (s : St F) (c : Tup F) : sProp 𝕄 :=
  iprop(⌜c = s.tup⌝ ∗ (a6.view.loc (thr d L) ↦[a6.view.set]{fullShare} fr) ∗ tbl d L accW s.acc ∗ tbl d L cntW s.cnt)

set_option maxHeartbeats 4000000 in
theorem trip7 (d : Dev nD) (L : grid0.Coords) (a6 : Memref sig .scVector .vmem S128x128 .f32) (h6 : a6.IsWhole) (a10 : Memref sig .scVector .vmem S128 .i32) (h10 : a10.IsWhole)
    (v2 v3 v5 v7 : BitVec 32) (hw4 : k0_chk4 v5 v7) (v10 : BitVec 32) (oh : FVec F S16 .f32) (t3 : Fin k0_t3_loop.trips) (a25 : BitVec 32)
    (t5 : Fin (k0_t5_loop v5 v7).trips) (b0 b1 : BitVec 32) (q0 q1 q2 q3 q4 q5 q6 q7 : FVec F S16 .f32) (w0 w1 : BitVec 32) (t6 : Fin k0_t6_loop.trips)
    (a38 : BitVec 32) (sv : Vec F S16 .i32) (t7 : Fin k0_t7_loop.trips)
    (fr : Buf (Elt F) (a6.view.loc (thr d L))) (st : St F) (le : BitVec 32) (row : Fin 128 → F .f32) (hp : st.prev.toNat ≤ 320)
    (hle : extractAt ![15] (k0_pay9 (k0_pay88 v2 v3 sv) 0#32 1#32 t7) inpos_S16_p15 = le)
    (i : Fin 128) (hi : i.val = 16 * t6.val + t7.val) (hrow : ∀ (c : Fin 128), a6.view.read (Elt F) fr (ix2 (n0 := 128) i c) = row c)
    (c : Tup F) :
    inv7 d L a6 fr st c
      ⊢ wp frame (wpE (defs₀ (F := F)) 𝒱₀ (thr d L) none) Set.univ
          (body7 L a6 h6 a10 h10 v2 v3 v5 v7 hw4 v10 oh t3 a25 t5 b0 b1 q0 q1 q2 q3 q4 q5 q6 q7 w0 w1 t6 a38 sv t7 c)
          (inv7 d L a6 fr (step oh t3.val le row st)) := by
  unfold inv7 tbl
  iintro ⟨%hcar, Hr, ⟨%fa, %hfa, Ha⟩, ⟨%fc, %hfc, Hc⟩⟩
  subst hcar
  unfold St.tup body7 k0_t7_body
  rw [k0_part2_eq_skeleton]; unfold k0_part2_skel; rw [k0_part1_eq_skeleton]; unfold k0_part1_skel
  have hc : ∀ le, k0_chk5 t3 st.prev le := fun le => chk5_of hp
  have hoff : ∀ n : ℕ, (![16 * t6.val + t7.val, n] : Fin 2 → ℕ) = ![i.val, n] := fun n => by rw [hi]
  have hld := load_row a6.view fr row i hrow
  subst hle
  have hT := tup_post oh t3.val (extractAt ![15] (k0_pay9 (k0_pay88 v2 v3 sv) 0#32 1#32 t7) inpos_S16_p15) row st (fun j => match j with
      | 0 => ldx a6.view fr _ (k0_off16_inb t6 t7) | 1 => ldx a6.view fr _ (k0_off17_inb t6 t7) | 2 => ldx a6.view fr _ (k0_off18_inb t6 t7)
      | 3 => ldx a6.view fr _ (k0_off19_inb t6 t7) | 4 => ldx a6.view fr _ (k0_off20_inb t6 t7) | 5 => ldx a6.view fr _ (k0_off21_inb t6 t7)
      | 6 => ldx a6.view fr _ (k0_off22_inb t6 t7) | 7 => ldx a6.view fr _ (k0_off23_inb t6 t7)) (fun j => match j with
      | 0 => hld _ 0 ((k0_off16_eq t6 t7).trans (hoff _)) (k0_off16_inb t6 t7) | 1 => hld _ 1 ((k0_off17_eq t6 t7).trans (hoff _)) (k0_off17_inb t6 t7)
      | 2 => hld _ 2 ((k0_off18_eq t6 t7).trans (hoff _)) (k0_off18_inb t6 t7) | 3 => hld _ 3 ((k0_off19_eq t6 t7).trans (hoff _)) (k0_off19_inb t6 t7)
      | 4 => hld _ 4 ((k0_off20_eq t6 t7).trans (hoff _)) (k0_off20_inb t6 t7) | 5 => hld _ 5 ((k0_off21_eq t6 t7).trans (hoff _)) (k0_off21_inb t6 t7)
      | 6 => hld _ 6 ((k0_off22_eq t6 t7).trans (hoff _)) (k0_off22_inb t6 t7) | 7 => hld _ 7 ((k0_off23_eq t6 t7).trans (hoff _)) (k0_off23_inb t6 t7))
  by_cases h2 : k0_cond2 st.prev (extractAt ![15] (k0_pay9 (k0_pay88 v2 v3 sv) 0#32 1#32 t7) inpos_S16_p15) = 1#1
  · have hne := (cond2_iff _ _).mp h2
    have hacc : (step oh t3.val (extractAt ![15] (k0_pay9 (k0_pay88 v2 v3 sv) 0#32 1#32 t7) inpos_S16_p15) row st).acc = flushAcc st.prev.toNat st.r st.acc := by
      unfold step; rw [if_neg hne]; rfl
    have hcnt : (step oh t3.val (extractAt ![15] (k0_pay9 (k0_pay88 v2 v3 sv) 0#32 1#32 t7) inpos_S16_p15) row st).cnt
        = if t3.val = 0 then flushCnt oh st.prev.toNat st.rc st.cnt else st.cnt := by
      unfold step; rw [if_neg hne]; rfl
    by_cases h3 : k0_cond3 t3 = 1#1
    · sl_exec
      sl_step
      isplitr
      · ipureintro; exact hT
      isplitl [Hr]; · iexact Hr
      isplitl [Ha]
      · iexists _; isplitr
        · ipureintro; rw [hacc]; exact flush_row accW.view fa st.prev.toNat st.r st.acc hfa hp
        · iexact Ha
      · iexists _; isplitr
        · ipureintro; rw [hcnt, if_pos ((cond3_iff t3).mp h3)]; exact flush_count cntW.view fc st.prev.toNat _ rfl (rowBox_inb (m := 16) _ 0 hp (by omega)) oh st.rc st.cnt hfc
        · iexact Hc
    · sl_exec
      sl_step
      isplitr
      · ipureintro; exact hT
      isplitl [Hr]; · iexact Hr
      isplitl [Ha]
      · iexists _; isplitr
        · ipureintro; rw [hacc]; exact flush_row accW.view fa st.prev.toNat st.r st.acc hfa hp
        · iexact Ha
      · iexists _; isplitr
        · ipureintro; rw [hcnt, if_neg (fun h => h3 ((cond3_iff t3).mpr h))]; exact hfc
        · iexact Hc
  · have heq : extractAt ![15] (k0_pay9 (k0_pay88 v2 v3 sv) 0#32 1#32 t7) inpos_S16_p15 = st.prev := by
      by_contra h; exact h2 ((cond2_iff _ _).mpr h)
    have hacc : (step oh t3.val (extractAt ![15] (k0_pay9 (k0_pay88 v2 v3 sv) 0#32 1#32 t7) inpos_S16_p15) row st).acc = st.acc := by
      unfold step; rw [if_pos heq]
    have hcnt : (step oh t3.val (extractAt ![15] (k0_pay9 (k0_pay88 v2 v3 sv) 0#32 1#32 t7) inpos_S16_p15) row st).cnt = st.cnt := by
      unfold step; rw [if_pos heq]
    sl_exec
    sl_step
    isplitr
    · ipureintro; exact hT
    isplitl [Hr]; · iexact Hr
    isplitl [Ha]
    · iexists _; isplitr
      · ipureintro; rw [hacc]; exact hfa
      · iexact Ha
    · iexists _; isplitr
      · ipureintro; rw [hcnt]; exact hfc
      · iexact Hc

/-- The group loop's body at the tile's own scratch. -/
abbrev body6 (L : grid0.Coords) (a6 : Memref sig .scVector .vmem S128x128 .f32) (h6 : a6.IsWhole) (a10 : Memref sig .scVector .vmem S128 .i32) (h10 : a10.IsWhole) :=
  k0_t6_body (F := F) L xW (Memref.isWhole_whole _) gW (Memref.isWhole_whole _) sW (Memref.isWhole_whole _) oW (Memref.isWhole_whole _)
    a6 h6 rbW (Memref.isWhole_whole _) accW (Memref.isWhole_whole _) cntW (Memref.isWhole_whole _)
    a10 h10 s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- Between two groups of sixteen edges: `inv7` beside the chunk's segment ids. -/
def inv6 (d : Dev nD) (L : grid0.Coords) (a6 : Memref sig .scVector .vmem S128x128 .f32) (fr : Buf (Elt F) (a6.view.loc (thr d L)))
    (a10 : Memref sig .scVector .vmem S128 .i32) (fs : Buf (Elt F) (a10.view.loc (thr d L))) (s : St F) (c : Tup F) : sProp 𝕄 :=
  iprop(inv7 d L a6 fr s c ∗ (a10.view.loc (thr d L) ↦[a10.view.set]{fullShare} fs))

theorem lane_load (v : View sig .scVector .vmem S128 .i32) (f : v.ty.Contents (Elt F)) (off : Fin 1 → ℕ) (t : Fin 8) (hoff : off = ![16 * t.val]) (inb) (i : Fin 16) :
    (v.readAt (Elt F) (Rect.unit (s := S128) off S16.size inb).toLoadRect f : Vec F S16 .i32) (ix1 i)
      = v.read (Elt F) f (ix1 (n0 := 128) ⟨16 * t.val + i.val, by have := t.isLt; have := i.isLt; omega⟩) := by
  subst hoff
  rw [View.readAt_apply]
  refine congrArg (v.read (Elt F) f) (funext fun a => ?_)
  match a with
  | ⟨0, _⟩ => exact Fin.ext (by simp [LoadRect.idx, Rect.unit])

set_option maxHeartbeats 4000000 in
theorem trip6 (d : Dev nD) (L : grid0.Coords) (a6 : Memref sig .scVector .vmem S128x128 .f32) (h6 : a6.IsWhole) (a10 : Memref sig .scVector .vmem S128 .i32) (h10 : a10.IsWhole)
    (v2 v3 v5 v7 : BitVec 32) (hw4 : k0_chk4 v5 v7) (v10 : BitVec 32) (oh : FVec F S16 .f32) (t3 : Fin k0_t3_loop.trips) (a25 : BitVec 32)
    (t5 : Fin (k0_t5_loop v5 v7).trips) (b0 b1 : BitVec 32) (q0 q1 q2 q3 q4 q5 q6 q7 : FVec F S16 .f32) (w0 w1 : BitVec 32) (t6 : Fin k0_t6_loop.trips)
    (fr : Buf (Elt F) (a6.view.loc (thr d L))) (fs : Buf (Elt F) (a10.view.loc (thr d L))) (E : Edges F) (s : St F) (n0 : ℕ)
    (hs : ∀ n, (run oh t3.val E s n).prev.toNat ≤ 320)
    (hseg : ∀ i : Fin 128, laneOf v2 v3 (a10.view.read (Elt F) fs (ix1 (n0 := 128) i)) = E.le (n0 + i.val))
    (hrow : ∀ (i c : Fin 128), a6.view.read (Elt F) fr (ix2 (n0 := 128) i c) = E.row (n0 + i.val) c)
    (c : Tup F) :
    inv6 d L a6 fr a10 fs (run oh t3.val E s (n0 + 16 * t6.val)) c
      ⊢ wp frame (wpE (defs₀ (F := F)) 𝒱₀ (thr d L) none) Set.univ
          (body6 L a6 h6 a10 h10 v2 v3 v5 v7 hw4 v10 oh t3 a25 t5 b0 b1 q0 q1 q2 q3 q4 q5 q6 q7 w0 w1 t6 c)
          (inv6 d L a6 fr a10 fs (run oh t3.val E s (n0 + 16 * (t6.val + 1)))) := by
  have ht6 : t6.val < 8 := t6.isLt
  unfold inv6 body6 k0_t6_body
  iintro ⟨Hi, Hs⟩
  sl_exec
  sl_for (fun k c => inv7 d L a6 fr (run oh t3.val E s (n0 + 16 * t6.val + k)) c) $$ [Hi]
  case region =>
    intro k c
    have hk : k.val < 16 := k.isLt
    refine trip7 d L a6 h6 a10 h10 v2 v3 v5 v7 hw4 v10 oh t3 a25 t5 b0 b1 q0 q1 q2 q3 q4 q5 q6 q7 w0 w1 t6 _ _ k fr _
      (E.le (n0 + 16 * t6.val + k.val)) (E.row (n0 + 16 * t6.val + k.val)) (hs _) ?_ ⟨16 * t6.val + k.val, by omega⟩ rfl (fun c => ?_) c
    · refine (pick_lane _ k hk).trans ((pay88_apply v2 v3 _ _).trans ?_)
      rw [lane_load a10.view fs _ ⟨t6.val, ht6⟩ (k0_off15_eq t6) _ ⟨k.val, hk⟩, hseg, Nat.add_assoc]
    · rw [hrow, Nat.add_assoc]
  · iexact Hi
  iintro %acc Hi
  sl_exec
  sl_step
  isplitl [Hi]
  · have e : n0 + 16 * (t6.val + 1) = n0 + 16 * t6.val + Scf.trips k0_t7_loop.lb k0_t7_loop.ub k0_t7_loop.st := by
      have : Scf.trips k0_t7_loop.lb k0_t7_loop.ub k0_t7_loop.st = 16 := by decide
      omega
    rw [e]
    iexact Hi
  · iexact Hs

end Cert.Proof.Run

end
-- ==== Proof.Chunk.lean ====
/-
  A chunk's 128 indices turned into row numbers of the half's table: eight loads and stores of sixteen.
-/
module

public import proofs.«01_k».proof.Proof.Elem

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A row of the values array named by its index and the half `a`. -/
def rowWord (a x : BitVec 32) : BitVec 32 := x * 2#32 + a

theorem pay79_apply (a : BitVec 32) (x : Vec F S16 .i32) (i : S16.Idx) : k0_pay79 (F := F) a x i = rowWord a (x i) := by
  unfold k0_pay79
  simp only [shapeCast_self]
  rfl

theorem lane_inb (k : Fin 8) : ∀ a : Fin 1, (![16 * k.val] : Fin 1 → ℕ) a + S16.size a ≤ S128.size a := by
  intro a
  have := k.isLt
  match a with
  | ⟨0, _⟩ => show 16 * k.val + 16 ≤ 128; omega

/-- The `k`-th store of the eight. -/
def trPiece (v : View sig .scVector .vmem S128 .i32) (a : BitVec 32) (k : Fin 8) (Ls : List (View.Piece (Elt F) S128 .i32)) : List (View.Piece (Elt F) S128 .i32) :=
  ⟨Rect.unit (s := S128) ![16 * k.val] S16.size (lane_inb k),
    k0_pay79 (F := F) a (v.readCov Ls (Rect.unit (s := S128) ![16 * k.val] S16.size (lane_inb k)).toLoadRect)⟩ :: Ls

/-- What the index buffer holds once its first `n` words are turned. -/
def trUpTo (n : ℕ) (a : BitVec 32) (x : S128.Idx → BitVec 32) : S128.Idx → BitVec 32 :=
  fun i => if (i 0).val < n then rowWord a (x i) else x i

theorem trStore (v : View sig .scVector .vmem S128 .i32) (a : BitVec 32) (x : S128.Idx → BitVec 32) (k : Fin 8) (Ls : List (View.Piece (Elt F) S128 .i32))
    (hL : ∀ f, v.read (Elt F) (v.writes (Elt F) f Ls) = trUpTo (16 * k.val) a x) (f : v.ty.Contents (Elt F)) :
    v.read (Elt F) (v.writes (Elt F) f (trPiece v a k Ls)) = trUpTo (16 * k.val + 16) a x := by
  funext y
  have hLy := congrFun (hL f) y
  have hy1 : (y 0).val < 128 := (y 0).isLt
  unfold trPiece
  by_cases hy : 16 * k.val ≤ (y 0).val ∧ (y 0).val < 16 * k.val + 16
  · obtain ⟨h1, h2⟩ := hy
    rw [View.read_writes_cons_hit_of_coords v f _ _ Ls (ix1 (n0 := 16) ⟨(y 0).val - 16 * k.val, by omega⟩) y (fun a => ?_)]
    · rw [pay79_apply]
      unfold View.readCov
      rw [View.readAt_apply]
      have hidx : (Rect.unit (s := S128) ![16 * k.val] S16.size (lane_inb k)).toLoadRect.idx (ix1 (n0 := 16) ⟨(y 0).val - 16 * k.val, by omega⟩) = y := by
        funext a
        match a with
        | ⟨0, _⟩ => exact Fin.ext (by simp [LoadRect.idx, Rect.unit]; omega)
      rw [hidx, hL]
      unfold trUpTo
      rw [if_neg (by omega), if_pos h2]
    · match a with
      | ⟨0, _⟩ => simp [Rect.unit]; omega
  · rw [View.read_writes_cons_miss_of_axis v f _ Ls y 0 (16 * k.val) 16 rfl rfl rfl (by omega), hLy]
    unfold trUpTo
    refine if_congr ⟨fun h => ?_, fun h => ?_⟩ rfl rfl <;> omega

/-- All eight stores over freshly landed indices `x`. -/
abbrev trList (v : View sig .scVector .vmem S128 .i32) (a : BitVec 32) (x : S128.Idx → Elt F .i32) : List (View.Piece (Elt F) S128 .i32) :=
  trPiece v a 7 (trPiece v a 6 (trPiece v a 5 (trPiece v a 4 (trPiece v a 3 (trPiece v a 2 (trPiece v a 1 (trPiece v a 0 [⟨Rect.whole S128, x⟩])))))))

theorem trList_read (v : View sig .scVector .vmem S128 .i32) (a : BitVec 32) (x : S128.Idx → Elt F .i32) (f : v.ty.Contents (Elt F)) (i : S128.Idx) :
    v.read (Elt F) (v.writes (Elt F) f (trList v a x)) i = rowWord a (x i) := by
  have h : v.read (Elt F) (v.writes (Elt F) f (trList v a x)) = trUpTo 128 a x :=
    trStore v a x 7 _ (trStore v a x 6 _ (trStore v a x 5 _ (trStore v a x 4 _ (trStore v a x 3 _ (trStore v a x 2 _ (trStore v a x 1 _ (trStore v a x 0 _
      (fun f => (View.read_writes_whole v f x).trans (funext fun i => by simp [trUpTo]))))))))) f
  rw [h]
  have : (i 0).val < 128 := (i 0).isLt
  simp [trUpTo, this]

/-- A window of 128 words of a long array. -/
abbrev win (d : Dev nD) (L : grid0.Coords) (m : Memref sig .scVector .hbm S161024 .i32) (off : Fin 1 → ℕ) (inb : ∀ a, off a + S128.size a ≤ S161024.size a)
    (f : Buf (Elt F) (m.view.loc (thr d L))) : S128.Idx → Elt F .i32 :=
  (m.slice (Rect.unit (s := S161024) off S128.size inb) (fun _ => rfl)).view.read (Elt F) f

/-- The turned index buffer, its contents named by what they read. -/
theorem trDone (d : Dev nD) (L : grid0.Coords) (g : Memref sig .scVector .vmem S128 .i32) (a : BitVec 32) (x : S128.Idx → Elt F .i32)
    (f : Buf (Elt F) (g.view.loc (thr d L))) (Ls : List (View.Piece (Elt F) S128 .i32)) (hL : Ls = trList g.view a x) :
    (g.view.loc (thr d L) ↦[g.view.set]{fullShare} g.view.writes (Elt F) f Ls : sProp 𝕄)
      ⊢ iprop(∃ f' : Buf (Elt F) (g.view.loc (thr d L)), ⌜∀ i, g.view.read (Elt F) f' i = rowWord a (x i)⌝ ∗ (g.view.loc (thr d L) ↦[g.view.set]{fullShare} f')) := by
  subst hL
  iintro H
  iexists _
  isplitr
  · ipureintro; exact trList_read g.view a x f
  · iexact H

end Cert.Proof.Run

end
-- ==== Proof.Bodies.lean ====
/-
  The four chunk loops of a trip run the same program over different buffers.
-/
module

public import proofs.«01_k».proof.Proof.Elem
public import Idealize.ShloMosaic.Lib.Pipeline.Regions

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The second chunk's loop body at the tile's own scratch. -/
abbrev body8 (L : grid0.Coords) :=
  k0_t8_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- The third chunk's. -/
abbrev body10 (L : grid0.Coords) :=
  k0_t10_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- The fourth chunk's. -/
abbrev body12 (L : grid0.Coords) :=
  k0_t12_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

set_option maxRecDepth 65536 in
theorem body8_eq (L : grid0.Coords) (v2 v3 v5 v7 : BitVec 32) (hw4 : k0_chk4 v5 v7) (v10 : BitVec 32) (oh : FVec F S16 .f32) (t3 : Fin k0_t3_loop.trips) (a25 : BitVec 32)
    (t5 : Fin (k0_t5_loop v5 v7).trips) (w : BitVec 32) (b0 b1 : BitVec 32) (q0 q1 q2 q3 q4 q5 q6 q7 : FVec F S16 .f32) (w' : BitVec 32) (u : IVec S16 32) :
    body8 (F := F) L v2 v3 v5 v7 hw4 v10 oh t3 a25 t5 w b0 b1 q0 q1 q2 q3 q4 q5 q6 q7 w' u
      = body6 (F := F) L rbW (Memref.isWhole_whole _) s1W (Memref.isWhole_whole _) v2 v3 v5 v7 hw4 v10 oh t3 a25 t5 b0 b1 q0 q1 q2 q3 q4 q5 q6 q7 w w' := by
  chain_rfl

set_option maxRecDepth 65536 in
theorem body10_eq (L : grid0.Coords) (v2 v3 v5 v7 : BitVec 32) (hw4 : k0_chk4 v5 v7) (v10 : BitVec 32) (oh : FVec F S16 .f32) (t3 : Fin k0_t3_loop.trips) (a25 : BitVec 32)
    (t5 : Fin (k0_t5_loop v5 v7).trips) (w : BitVec 32) (b0 b1 : BitVec 32) (q0 q1 q2 q3 q4 q5 q6 q7 : FVec F S16 .f32) :
    body10 (F := F) L v2 v3 oh t3 a25 w b0 b1 q0 q1 q2 q3 q4 q5 q6 q7
      = body6 (F := F) L raW (Memref.isWhole_whole _) s2W (Memref.isWhole_whole _) v2 v3 v5 v7 hw4 v10 oh t3 a25 t5 b0 b1 q0 q1 q2 q3 q4 q5 q6 q7 w w := by
  chain_rfl

set_option maxRecDepth 65536 in
theorem body12_eq (L : grid0.Coords) (v2 v3 v5 : BitVec 32) (hw3 : k0_chk3 v5) (v7 : BitVec 32) (hw4 : k0_chk4 v5 v7) (v10 v50 : BitVec 32) (z oh : FVec F S16 .f32) (t3 : Fin k0_t3_loop.trips) (a25 : BitVec 32)
    (v130 : IVec S16 32) (t5 : Fin (k0_t5_loop v5 v7).trips) :
    body12 (F := F) L v2 v3 v5 hw3 v7 hw4 v10 v50 z oh t3 a25 v130
      = body6 (F := F) L rbW (Memref.isWhole_whole _) s3W (Memref.isWhole_whole _) v2 v3 v5 v7 hw4 v10 oh t3 a25 t5 v10 v10 z z z z z z z z v10 v10 := by
  chain_rfl

end Cert.Proof.Run

end
-- ==== Proof.Inv5.lean ====
/-
  The quad loop: four chunks of 128 edges a trip, each with its gathered rows, two gathers and one batch of index
  copies in flight between trips.
-/
module

public import proofs.«01_k».proof.Proof.Chunk
public import proofs.«01_k».proof.Proof.Bodies

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The quad loop's body at the tile's own scratch. -/
abbrev body5 (L : grid0.Coords) :=
  k0_t5_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- A buffer with some contents. -/
abbrev some_ {sp : Space} {s : Shape} {e : EltTy} (d : Dev nD) (L : grid0.Coords) (m : Memref sig .scVector sp s e) : sProp 𝕄 :=
  iprop(∃ f : Buf (Elt F) (m.view.loc (thr d L)), (m.view.loc (thr d L) ↦[m.view.set]{fullShare} f))

/-- The values array, as the gather names it: its whole box. -/
abbrev xS : Memref sig .scVector .hbm S20000x128 .f32 :=
  xW.slice (Rect.unit (s := S20000x128) ![0, 0] S20000x128.size inb_S20000x128_S20000x128_0_0) (fun _ => rfl)

/-- A window of a long index array, as a memref. -/
abbrev winM (m : Memref sig .scVector .hbm S161024 .i32) (off : Fin 1 → ℕ) (inb : ∀ a, off a + S128.size a ≤ S161024.size a) : Memref sig .scVector .hbm S128 .i32 :=
  m.slice (Rect.unit (s := S161024) off S128.size inb) (fun _ => rfl)

/-- What the three arrays give the window of edges `E` that starts at `n0`: each segment id its local row, each index a
    row of the values array, the row's entries. -/
structure Feed (d : Dev nD) (L : grid0.Coords) (v2 v3 a25 : BitVec 32) (fx : Buf (Elt F) (xW.view.loc (thr d L))) (fg : Buf (Elt F) (gW.view.loc (thr d L)))
    (fs : Buf (Elt F) (sW.view.loc (thr d L))) (E : Edges F) (n0 : ℕ) : Prop where
  seg : ∀ (j : ℕ) (off : Fin 1 → ℕ) (inb : ∀ a, off a + S128.size a ≤ S161024.size a) (i : Fin 128), off = ![n0 + 128 * j] →
    laneOf v2 v3 (win d L sW off inb fs (ix1 i)) = E.le (128 * j + i.val)
  inr : ∀ (off : Fin 1 → ℕ) (inb : ∀ a, off a + S128.size a ≤ S161024.size a) (i : S128.Idx), (rowWord a25 (win d L gW off inb fg i)).toNat < 20000
  row : ∀ (j : ℕ) (off : Fin 1 → ℕ) (inb : ∀ a, off a + S128.size a ≤ S161024.size a) (i c : Fin 128), off = ![n0 + 128 * j] →
    xS.view.read (Elt F) fx (ix2 (n0 := 20000) ⟨_, inr off inb (ix1 i)⟩ c) = E.row (128 * j + i.val) c

/-- A gathered block read at an entry. -/
theorem gather_apply (g : S20000x128.Idx → Elt F .f32) (idx : S128.Idx → BitVec 32) (hn) (h : ∀ x, (idx x).toNat < S20000x128.size (gathers_S20000x128_S128x128).axis)
    (i c : Fin 128) :
    SparseCore.gatherPayload (F := F) gathers_S20000x128_S128x128 g (SparseCore.rows (F := F) idx hn h) (ix2 (n0 := 128) i c)
      = g (ix2 (n0 := 20000) ⟨(idx (ix1 (n0 := 128) i)).toNat, h _⟩ c) := by
  unfold SparseCore.gatherPayload
  congr 1
  funext a
  match a with
  | ⟨0, _⟩ =>
    refine ((gathers_S20000x128_S128x128).idx_axis _ _).trans (Fin.ext ?_)
    show (idx (S128.rowMajor.symm _)).toNat = _
    have e : S128.rowMajor.symm ((i : Fin 128).cast hn.symm) = ix1 (n0 := 128) i := by
      rw [Equiv.symm_apply_eq]
      exact Fin.ext (Shape.rowMajor_val_one (d := S128.size) (ix1 (n0 := 128) i)).symm
    exact congrArg (fun y => (idx y).toNat) e
  | ⟨1, _⟩ => exact Fin.ext ((gathers_S20000x128_S128x128).idx_of_ne _ _ ⟨1, by decide⟩ (by decide))

/-- A chunk's segment ids and indices on their way into the tile's memory: both copies on one semaphore. -/
abbrev fetch (d : Dev nD) (L : grid0.Coords) (sem : SemLoc sig) (ms mg : Memref sig .scVector .vmem S128 .i32) (q : PosShare TreeShare)
    (fs : Buf (Elt F) (sW.view.loc (thr d L))) (fg : Buf (Elt F) (gW.view.loc (thr d L))) (off : Fin 1 → ℕ) (inb : ∀ a, off a + S128.size a ≤ S161024.size a)
    (es : Buf (Elt F) (ms.view.loc (thr d L))) (eg : Buf (Elt F) (mg.view.loc (thr d L))) : sProp 𝕄 :=
  Transfers.Batched countersEmb (thr d L) sem (default : HIx 1) 4096 2
    [iprop((ms.view.loc (thr d L) ↦[ms.view.set]{fullShare} ms.view.writes (Elt F) es [⟨Rect.whole S128, win d L sW off inb fs⟩])
        ∗ (sW.view.loc (thr d L) ↦[(winM sW off inb).view.set]{q} fs)),
      iprop((mg.view.loc (thr d L) ↦[mg.view.set]{fullShare} mg.view.writes (Elt F) eg [⟨Rect.whole S128, win d L gW off inb fg⟩])
        ∗ (gW.view.loc (thr d L) ↦[(winM gW off inb).view.set]{q} fg))] 0

/-- Between two trips of the quad loop, `4 N` chunks done: the fold over their edges in the tables and the registers; the
    next chunk's rows being gathered, its segment ids landed; the indices of the chunk after it being copied. -/
def inv5 (d : Dev nD) (L : grid0.Coords) (v2 v3 : BitVec 32) (oh : FVec F S16 .f32) (h : ℕ) (O : CellTallies nD τ sig (HIx 1)) (W : Waits sig (HIx 1))
    (qx qy qg : PosShare TreeShare) (fx : Buf (Elt F) (xW.view.loc (thr d L))) (fg : Buf (Elt F) (gW.view.loc (thr d L)))
    (fs : Buf (Elt F) (sW.view.loc (thr d L))) (E : Edges F) (s : St F) (n0 : ℕ) (N : ℕ) (c : Tup F) : sProp 𝕄 :=
  iprop(∃ (fra : Buf (Elt F) (raW.view.loc (thr d L))) (fg0 : Buf (Elt F) (g0W.view.loc (thr d L))) (fs0 : Buf (Elt F) (s0W.view.loc (thr d L)))
      (es : Buf (Elt F) (s1W.view.loc (thr d L))) (eg : Buf (Elt F) (g1W.view.loc (thr d L)))
      (off : Fin 1 → ℕ) (inb : ∀ a, off a + S128.size a ≤ S161024.size a) (W' : Waits sig (HIx 1)),
    ⌜c = (run oh h E s (512 * N)).tup ∧ (∀ (i c : Fin 128), raW.view.read (Elt F) fra (ix2 (n0 := 128) i c) = E.row (512 * N + i.val) c)
      ∧ (∀ i : Fin 128, laneOf v2 v3 (s0W.view.read (Elt F) fs0 (ix1 (n0 := 128) i)) = E.le (512 * N + i.val))
      ∧ off = ![n0 + 128 * (4 * N + 1)] ∧ (∀ p ∈ W', p ∈ W ∨ p.2 = none)⌝
    ∗ Transfers.MayWaits (thr d L) (default : HIx 1) O ∗ owes (thr d L) O W'
    ∗ tbl d L accW (run oh h E s (512 * N)).acc ∗ tbl d L cntW (run oh h E s (512 * N)).cnt
    ∗ Transfers.Flight countersEmb (thr d L) (SemLoc.dma cc0_scratch13.sem) (default : HIx 1) raW.view.dmaCredit
        iprop(((raW.view.loc (thr d L) ↦[raW.view.set]{fullShare} fra) ∗ (g0W.view.loc (thr d L) ↦[g0W.view.set]{fullShare} fg0))
          ∗ (xS.view.loc (thr d L) ↦[xS.view.set]{qx} fx))
    ∗ (xS.view.loc (thr d L) ↦[xS.view.set]{qy} fx)
    ∗ (s0W.view.loc (thr d L) ↦[s0W.view.set]{fullShare} fs0)
    ∗ fetch d L (SemLoc.dma cc0_scratch16.sem) s1W g1W qg fs fg off inb es eg
    ∗ (sW.view.loc (thr d L) ↦[sW.view.set \ (winM sW off inb).view.set]{qg} fs)
    ∗ (gW.view.loc (thr d L) ↦[gW.view.set \ (winM gW off inb).view.set]{qg} fg)
    ∗ some_ d L rbW ∗ some_ d L s2W ∗ some_ d L g2W ∗ some_ d L s3W ∗ some_ d L g3W
    ∗ semVal (thr d L, SemLoc.dma cc0_scratch14.sem) 0 ∗ semVal (thr d L, SemLoc.dma cc0_scratch15.sem) 0
    ∗ semVal (thr d L, SemLoc.dma cc0_scratch17.sem) 0 ∗ semVal (thr d L, SemLoc.dma cc0_scratch18.sem) 0)

/-- A window's copy back: the array whole again. -/
theorem winJoin (d : Dev nD) (L : grid0.Coords) (m : Memref sig .scVector .hbm S161024 .i32) (q : PosShare TreeShare) (off : Fin 1 → ℕ)
    (inb : ∀ a, off a + S128.size a ≤ S161024.size a) (f : Buf (Elt F) (m.view.loc (thr d L))) :
    iprop((m.view.loc (thr d L) ↦[m.view.set \ (winM m off inb).view.set]{q} f) ∗ (m.view.loc (thr d L) ↦[(winM m off inb).view.set]{q} f))
      ⊢ (m.view.loc (thr d L) ↦[m.view.set]{q} f : sProp 𝕄) :=
  sep_comm.1.trans (pointsTo_split_subset (View.set_slice_subset m.view _)).2

/-- What a gathered rows buffer reads. -/
theorem rows_pure (d : Dev nD) (L : grid0.Coords) (v2 v3 a25 : BitVec 32) (fx : Buf (Elt F) (xW.view.loc (thr d L))) (fg : Buf (Elt F) (gW.view.loc (thr d L)))
    (fs : Buf (Elt F) (sW.view.loc (thr d L))) (E : Edges F) (n0 : ℕ) (hF : Feed d L v2 v3 a25 fx fg fs E n0)
    (m : Memref sig .scVector .vmem S128x128 .f32) (f : Buf (Elt F) (m.view.loc (thr d L))) (idx : S128.Idx → BitVec 32) (hn)
    (h : ∀ x, (idx x).toNat < S20000x128.size (gathers_S20000x128_S128x128).axis) (P : S128x128.Idx → Elt F .f32)
    (hP : P = SparseCore.gatherPayload (F := F) gathers_S20000x128_S128x128 (xS.view.read (Elt F) fx) (SparseCore.rows (F := F) idx hn h))
    (off : Fin 1 → ℕ) (inb : ∀ a, off a + S128.size a ≤ S161024.size a) (hidx : ∀ i, idx i = rowWord a25 (win d L gW off inb fg i))
    (j : ℕ) (hoff : off = ![n0 + 128 * j]) (N : ℕ) (hN : N = 128 * j) (i c : Fin 128) :
    m.view.read (Elt F) (m.view.writes (Elt F) f [⟨Rect.whole S128x128, P⟩]) (ix2 (n0 := 128) i c) = E.row (N + i.val) c := by
  rw [View.read_writes_whole, hP, gather_apply, hN, ← hF.row j off inb i c hoff]
  congr 2
  exact Fin.ext (congrArg BitVec.toNat (hidx _))

/-- A gathered rows buffer holds its chunk's rows. -/
theorem rows_at (d : Dev nD) (L : grid0.Coords) (v2 v3 a25 : BitVec 32) (fx : Buf (Elt F) (xW.view.loc (thr d L))) (fg : Buf (Elt F) (gW.view.loc (thr d L)))
    (fs : Buf (Elt F) (sW.view.loc (thr d L))) (E : Edges F) (n0 : ℕ) (hF : Feed d L v2 v3 a25 fx fg fs E n0)
    (m : Memref sig .scVector .vmem S128x128 .f32) (f : Buf (Elt F) (m.view.loc (thr d L))) (idx : S128.Idx → BitVec 32) (hn)
    (h : ∀ x, (idx x).toNat < S20000x128.size (gathers_S20000x128_S128x128).axis) (P : S128x128.Idx → Elt F .f32)
    (hP : P = SparseCore.gatherPayload (F := F) gathers_S20000x128_S128x128 (xS.view.read (Elt F) fx) (SparseCore.rows (F := F) idx hn h))
    (off : Fin 1 → ℕ) (inb : ∀ a, off a + S128.size a ≤ S161024.size a) (hidx : ∀ i, idx i = rowWord a25 (win d L gW off inb fg i))
    (j : ℕ) (hoff : off = ![n0 + 128 * j]) (N : ℕ) (hN : N = 128 * j) :
    (m.view.loc (thr d L) ↦[m.view.set]{fullShare} m.view.writes (Elt F) f [⟨Rect.whole S128x128, P⟩] : sProp 𝕄)
      ⊢ iprop(∃ f' : Buf (Elt F) (m.view.loc (thr d L)), ⌜∀ (i c : Fin 128), m.view.read (Elt F) f' (ix2 (n0 := 128) i c) = E.row (N + i.val) c⌝
          ∗ (m.view.loc (thr d L) ↦[m.view.set]{fullShare} f')) := by
  iintro H
  iexists _
  isplitr [H]
  swap; · iexact H
  ipureintro
  exact rows_pure d L v2 v3 a25 fx fg fs E n0 hF m f idx hn h P hP off inb hidx j hoff N hN

/-- A landed segment buffer holds its chunk's local rows. -/
theorem segs_at (d : Dev nD) (L : grid0.Coords) (v2 v3 a25 : BitVec 32) (fx : Buf (Elt F) (xW.view.loc (thr d L))) (fg : Buf (Elt F) (gW.view.loc (thr d L)))
    (fs : Buf (Elt F) (sW.view.loc (thr d L))) (E : Edges F) (n0 : ℕ) (hF : Feed d L v2 v3 a25 fx fg fs E n0)
    (m : Memref sig .scVector .vmem S128 .i32) (f : Buf (Elt F) (m.view.loc (thr d L))) (P : S128.Idx → Elt F .i32)
    (off : Fin 1 → ℕ) (inb : ∀ a, off a + S128.size a ≤ S161024.size a) (hP : P = win d L sW off inb fs)
    (j : ℕ) (hoff : off = ![n0 + 128 * j]) (N : ℕ) (hN : N = 128 * j) :
    (m.view.loc (thr d L) ↦[m.view.set]{fullShare} m.view.writes (Elt F) f [⟨Rect.whole S128, P⟩] : sProp 𝕄)
      ⊢ iprop(∃ f' : Buf (Elt F) (m.view.loc (thr d L)), ⌜∀ i : Fin 128, laneOf v2 v3 (m.view.read (Elt F) f' (ix1 (n0 := 128) i)) = E.le (N + i.val)⌝
          ∗ (m.view.loc (thr d L) ↦[m.view.set]{fullShare} f')) := by
  iintro H
  iexists _
  isplitr [H]
  swap; · iexact H
  ipureintro
  intro i
  rw [View.read_writes_whole, hP, hN]
  exact hF.seg j off inb i hoff

/-- A chunk's loop entered. -/
theorem inv6_in (d : Dev nD) (L : grid0.Coords) (a6 : Memref sig .scVector .vmem S128x128 .f32) (fr : Buf (Elt F) (a6.view.loc (thr d L)))
    (a10 : Memref sig .scVector .vmem S128 .i32) (fs : Buf (Elt F) (a10.view.loc (thr d L))) (s s' : St F) (c : Tup F) (h : s = s') (hc : c = s.tup) :
    iprop(tbl d L accW s.acc ∗ tbl d L cntW s.cnt ∗ (a6.view.loc (thr d L) ↦[a6.view.set]{fullShare} fr) ∗ (a10.view.loc (thr d L) ↦[a10.view.set]{fullShare} fs))
      ⊢ inv6 d L a6 fr a10 fs s' c := by
  subst h
  unfold inv6 inv7
  iintro ⟨Ha, Hc, H6, H10⟩
  isplitr [H10]
  · isplitr; · ipureintro; exact hc
    isplitl [H6]; · iexact H6
    isplitl [Ha]; · iexact Ha
    iexact Hc
  · iexact H10

/-- A chunk's loop left. -/
theorem inv6_out (d : Dev nD) (L : grid0.Coords) (a6 : Memref sig .scVector .vmem S128x128 .f32) (fr : Buf (Elt F) (a6.view.loc (thr d L)))
    (a10 : Memref sig .scVector .vmem S128 .i32) (fs : Buf (Elt F) (a10.view.loc (thr d L))) (s s' : St F) (c : Tup F) (h : s = s') :
    inv6 d L a6 fr a10 fs s c
      ⊢ iprop(⌜c = s'.tup⌝ ∗ tbl d L accW s'.acc ∗ tbl d L cntW s'.cnt ∗ (a6.view.loc (thr d L) ↦[a6.view.set]{fullShare} fr)
          ∗ (a10.view.loc (thr d L) ↦[a10.view.set]{fullShare} fs)) := by
  subst h
  unfold inv6 inv7
  iintro ⟨⟨%hc, H6, Ha, Hc⟩, H10⟩
  isplitr; · ipureintro; exact hc
  isplitl [Ha]; · iexact Ha
  isplitl [Hc]; · iexact Hc
  isplitl [H6]; · iexact H6
  iexact H10

end Cert.Proof.Run

end
-- ==== Proof.Quad.lean ====
/-
  One trip of the quad loop: four chunks of 128 edges a trip, each with its gathered rows, two gathers and one batch of index
  copies in flight between trips.
-/
module

public import proofs.«01_k».proof.Proof.Inv5

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 16000000 in
theorem trip5 (d : Dev nD) (L : grid0.Coords)
    (v2 v3 v5 : BitVec 32) (hw3 : k0_chk3 v5) (v7 : BitVec 32) (hw4 : k0_chk4 v5 v7) (v10 v50 : BitVec 32) (z oh : FVec F S16 .f32) (t3 : Fin k0_t3_loop.trips) (a25 : BitVec 32)
    (v130 : IVec S16 32) (t5 : Fin (k0_t5_loop v5 v7).trips) (O : CellTallies nD τ sig (HIx 1)) (W : Waits sig (HIx 1))
    (qx qy qg : PosShare TreeShare) (fx : Buf (Elt F) (xW.view.loc (thr d L))) (fg : Buf (Elt F) (gW.view.loc (thr d L)))
    (fs : Buf (Elt F) (sW.view.loc (thr d L))) (E : Edges F) (s : St F) (n0 : ℕ)
    (hp : ∀ n, (run oh t3.val E s n).prev.toNat ≤ 320) (hF : Feed d L v2 v3 a25 fx fg fs E n0)
    (hoff : ∀ r : Fin 4, k0_off14 v5 v7 t5 (BitVec.ofNat 32 r.val) = ![n0 + 128 * (4 * t5.val + r.val + 2)]) (c : Tup F) :
    inv5 d L v2 v3 oh t3.val O W qx qy qg fx fg fs E s n0 t5.val c
      ⊢ wp frame (wpE (defs₀ (F := F)) 𝒱₀ (thr d L) none) Set.univ
          (body5 L v2 v3 v5 hw3 v7 hw4 v10 v50 z oh t3 a25 v130 t5 c)
          (inv5 d L v2 v3 oh t3.val O W qx qy qg fx fg fs E s n0 (t5.val + 1)) := by
  have hplan1 : Transfers.BatchOf (thr d L) (SemLoc.dma cc0_scratch16.sem) 2 := trivial
  have hplan2 : Transfers.BatchOf (thr d L) (SemLoc.dma cc0_scratch17.sem) 2 := trivial
  have hplan3 : Transfers.BatchOf (thr d L) (SemLoc.dma cc0_scratch18.sem) 2 := trivial
  have hplan0 : Transfers.BatchOf (thr d L) (SemLoc.dma cc0_scratch15.sem) 2 := trivial
  have inb0 : ∀ a, k0_off14 v5 v7 t5 0#32 a + S128.size a ≤ S161024.size a := k0_off14_inb v5 v7 hw4 t5 0
  have inb1 : ∀ a, k0_off14 v5 v7 t5 1#32 a + S128.size a ≤ S161024.size a := k0_off14_inb v5 v7 hw4 t5 1
  have inb2 : ∀ a, k0_off14 v5 v7 t5 2#32 a + S128.size a ≤ S161024.size a := k0_off14_inb v5 v7 hw4 t5 2
  have inb3 : ∀ a, k0_off14 v5 v7 t5 3#32 a + S128.size a ≤ S161024.size a := k0_off14_inb v5 v7 hw4 t5 3
  unfold inv5 some_ fetch
  iintro ⟨%fra, %fg0, %fs0, %es, %eg, %off, %inb, %W', %hpure, Hmw, HO, Hacc, Hcnt, Hga, Hx, Hs0, Hb1, Hs, Hg, ⟨%frb, Hrb⟩, ⟨%fs2, Hs2⟩, ⟨%fg2, Hg2⟩,
    ⟨%fs3, Hs3⟩, ⟨%fg3, Hg3⟩, Hgb, Hb0, Hb2, Hb3⟩
  obtain ⟨hcar, hrow0, hseg0, hoff1, hW'⟩ := hpure
  obtain ⟨c0, c1, c2, c3, c4, c5, c6, c7, c8, c9⟩ := c
  unfold body5 k0_t5_body
  rw [k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton]
  unfold k0_part9_skel k0_part10_skel k0_part11_skel k0_part12_skel k0_part13_skel k0_part14_skel k0_part15_skel k0_part16_skel k0_part17_skel
  sl_exec
  ihave Hs := (winJoin (F := F) d L sW qg off inb fs) $$ [Hs Hb1_src0_in0]
  · isplitl [Hs]; · iexact Hs
    iexact Hb1_src0_in0
  ihave Hg := (winJoin (F := F) d L gW qg off inb fg) $$ [Hg Hb1_src1_in1]
  · isplitl [Hg]; · iexact Hg
    iexact Hb1_src1_in1
  ihave Hx1 := (trDone (F := F) d L g1W a25 (win d L gW off inb fg) _ (trip5.sl.Hb1_dst1_9 d L a25 fg off inb) rfl) $$ Hb1_dst1
  icases Hx1 with ⟨%fg1, %hg1, Hg1⟩
  have hin1 : ∀ x, (g1W.view.read (Elt F) fg1 x).toNat < S20000x128.size (gathers_S20000x128_S128x128).axis := fun x => by
    rw [hg1]; exact hF.inr off inb x
  sl_exec
  icases Hga_dst with ⟨Hra, Hg0⟩
  rw [Prog.bind_assoc]
  sl_for (fun k c => inv6 d L raW fra s0W fs0 (run oh t3.val E s (512 * t5.val + 16 * k)) c) $$ [Hacc Hcnt Hra Hs0]
  case region =>
    intro k c
    exact trip6 d L raW _ s0W _ v2 v3 v5 v7 hw4 v10 oh t3 a25 t5 _ _ _ _ _ _ _ _ _ _ _ _ k fra fs0 E s _ hp hseg0 hrow0 c
  · iapply (inv6_in d L raW fra s0W fs0 _ _ _ rfl hcar) $$ [$Hacc $Hcnt $Hra $Hs0]
  iintro %acc1 Hi
  ihave Hi := (inv6_out d L raW fra s0W fs0 (run oh t3.val E s (512 * t5.val + 16 * Scf.trips k0_t6_loop.lb k0_t6_loop.ub k0_t6_loop.st)) (run oh t3.val E s (512 * t5.val + 128)) acc1 rfl) $$ Hi
  icases Hi with ⟨%hcar1, Hacc, Hcnt, Hra, Hs0⟩
  obtain ⟨e0, e1, e2, e3, e4, e5, e6, e7, e8, e9⟩ := acc1
  sl_exec
  ihave Hx2 := (trDone (F := F) d L g2W a25 (win d L gW (k0_off14 v5 v7 t5 0#32) inb0 fg) _
    (trip5.sl.Hg2_9 d L v5 v7 hw4 a25 t5 fg) rfl) $$ Hg2
  icases Hx2 with ⟨%fg2', %hg2, Hg2⟩
  have hin2 : ∀ x, (g2W.view.read (Elt F) fg2' x).toNat < S20000x128.size (gathers_S20000x128_S128x128).axis := fun x => by
    rw [hg2]; exact hF.inr _ _ x
  sl_exec
  ihave Hy := (segs_at d L v2 v3 a25 fx fg fs E n0 hF s1W es _ off inb rfl (4 * t5.val + 1) hoff1 (512 * t5.val + 128) (by omega)) $$ Hb1_dst0
  icases Hy with ⟨%fs1, %hseg1, Hs1⟩
  ihave Hy := (rows_at d L v2 v3 a25 fx fg fs E n0 hF rbW frb _ k0_part11_skel._proof_4 hin1 (trip5.sl.gather0 d L fx fg1 hin1) rfl off inb hg1 (4 * t5.val + 1) hoff1
    (512 * t5.val + 128) (by omega)) $$ Hrb
  icases Hy with ⟨%frb1, %hrow1, Hrb⟩
  rw [Prog.bind_assoc]
  sl_for (fun k c => inv6 d L rbW frb1 s1W fs1 (run oh t3.val E s (512 * t5.val + 128 + 16 * k)) c) $$ [Hacc Hcnt Hrb Hs1]
  case region =>
    intro k c
    have ht := trip6 d L rbW (Memref.isWhole_whole _) s1W (Memref.isWhole_whole _) v2 v3 v5 v7 hw4 v10 oh t3 a25 t5 e0 e1 e2 e3 e4 e5 e6 e7 e8 e9
      (trip5.sl.v222 v5 v7 t5) (trip5.sl.v311 v5 v7 t5) k _ _ E s _ hp hseg1 hrow1 c
    rw [← body8_eq L v2 v3 v5 v7 hw4 v10 oh t3 a25 t5 _ _ _ _ _ _ _ _ _ _ _ _ (k0_pay100 (trip5.sl.v370 d L v5 v7 hw4 a25 t5 fg))] at ht
    exact ht
  · iapply (inv6_in d L rbW frb1 s1W fs1 _ _ _ rfl hcar1) $$ [$Hacc $Hcnt $Hrb $Hs1]
  iintro %acc2 Hi
  ihave Hi := (inv6_out d L rbW frb1 s1W fs1 (run oh t3.val E s (512 * t5.val + 128 + 16 * Scf.trips k0_t8_loop.lb k0_t8_loop.ub k0_t8_loop.st))
    (run oh t3.val E s (512 * t5.val + 256)) acc2 rfl) $$ Hi
  icases Hi with ⟨%hcar2, Hacc, Hcnt, Hrb, Hs1⟩
  obtain ⟨e0, e1, e2, e3, e4, e5, e6, e7, e8, e9⟩ := acc2
  sl_exec
  have hg3 : ∀ i, g3W.view.read (Elt F) (g3W.view.writes (Elt F) g3W.view.junk (trip5.sl.Hg3_9 d L v5 v7 hw4 a25 t5 fg)) i
      = rowWord a25 (win d L gW (k0_off14 v5 v7 t5 1#32) inb1 fg i) := fun i =>
    trList_read g3W.view a25 (win d L gW (k0_off14 v5 v7 t5 1#32) inb1 fg) _ i
  have hin3 : ∀ x, (g3W.view.read (Elt F) (g3W.view.writes (Elt F) g3W.view.junk (trip5.sl.Hg3_9 d L v5 v7 hw4 a25 t5 fg)) x).toNat < S20000x128.size (gathers_S20000x128_S128x128).axis := fun x => by
    rw [hg3]; exact hF.inr _ _ x
  sl_exec
  ihave Hy := (segs_at d L v2 v3 a25 fx fg fs E n0 hF s2W fs2 (trip5.sl.dma1 d L v5 v7 hw4 t5 fs) _ inb0 rfl (4 * t5.val + 0 + 2) (hoff 0) (512 * t5.val + 256) (by omega)) $$ Hs2
  icases Hy with ⟨%fs2', %hseg2, Hs2⟩
  ihave Hy := (rows_at d L v2 v3 a25 fx fg fs E n0 hF raW fra _ k0_part11_skel._proof_4 hin2 (trip5.sl.gather0_1 d L fx fg2' hin2) rfl _ inb0 hg2 (4 * t5.val + 0 + 2)
    (hoff 0) (512 * t5.val + 256) (by omega)) $$ Hra
  icases Hy with ⟨%fra2, %hrow2, Hra⟩
  rw [Prog.bind_assoc]
  sl_for (fun k c => inv6 d L raW fra2 s2W fs2' (run oh t3.val E s (512 * t5.val + 256 + 16 * k)) c) $$ [Hacc Hcnt Hra Hs2]
  case region =>
    intro k c
    have ht := trip6 d L raW (Memref.isWhole_whole _) s2W (Memref.isWhole_whole _) v2 v3 v5 v7 hw4 v10 oh t3 a25 t5 e0 e1 e2 e3 e4 e5 e6 e7 e8 e9
      (trip5.sl.v222 v5 v7 t5) (trip5.sl.v222 v5 v7 t5) k _ _ E s _ hp hseg2 hrow2 c
    rw [← body10_eq L v2 v3 v5 v7 hw4 v10 oh t3 a25 t5] at ht
    exact ht
  · iapply (inv6_in d L raW fra2 s2W fs2' _ _ _ rfl hcar2) $$ [$Hacc $Hcnt $Hra $Hs2]
  iintro %acc3 Hi
  ihave Hi := (inv6_out d L raW fra2 s2W fs2' (run oh t3.val E s (512 * t5.val + 256 + 16 * Scf.trips k0_t10_loop.lb k0_t10_loop.ub k0_t10_loop.st))
    (run oh t3.val E s (512 * t5.val + 384)) acc3 rfl) $$ Hi
  icases Hi with ⟨%hcar3, Hacc, Hcnt, Hra, Hs2⟩
  obtain ⟨e0, e1, e2, e3, e4, e5, e6, e7, e8, e9⟩ := acc3
  sl_exec
  have hg0 : ∀ i, g0W.view.read (Elt F) (g0W.view.writes (Elt F) g0W.view.junk (trip5.sl.Hg0_9 d L v5 v7 hw4 a25 t5 fg)) i
      = rowWord a25 (win d L gW (k0_off14 v5 v7 t5 2#32) inb2 fg i) := fun i =>
    trList_read g0W.view a25 (win d L gW (k0_off14 v5 v7 t5 2#32) inb2 fg) _ i
  have hin0 : ∀ x, (g0W.view.read (Elt F) (g0W.view.writes (Elt F) g0W.view.junk (trip5.sl.Hg0_9 d L v5 v7 hw4 a25 t5 fg)) x).toNat < S20000x128.size (gathers_S20000x128_S128x128).axis := fun x => by
    rw [hg0]; exact hF.inr _ _ x
  sl_exec
  ihave Hy := (segs_at d L v2 v3 a25 fx fg fs E n0 hF s0W _ (trip5.sl.dma1_2 d L v5 v7 hw4 t5 fs) _ inb2 rfl (4 * t5.val + 2 + 2) (hoff 2) (512 * (t5.val + 1)) (by omega)) $$ Hs0
  icases Hy with ⟨%fs0', %hseg0', Hs0⟩
  ihave Hy := (segs_at d L v2 v3 a25 fx fg fs E n0 hF s3W _ (trip5.sl.dma1_1 d L v5 v7 hw4 t5 fs) _ inb1 rfl (4 * t5.val + 1 + 2) (hoff 1) (512 * t5.val + 384) (by omega)) $$ Hs3
  icases Hy with ⟨%fs3', %hseg3, Hs3⟩
  ihave Hy := (rows_at d L v2 v3 a25 fx fg fs E n0 hF rbW _ _ k0_part11_skel._proof_4 hin3 (trip5.sl.gather0_2 d L v5 v7 hw4 a25 t5 fx fg hin3) rfl _ inb1 hg3 (4 * t5.val + 1 + 2)
    (hoff 1) (512 * t5.val + 384) (by omega)) $$ Hrb
  icases Hy with ⟨%frb2, %hrow3, Hrb⟩
  sl_for (fun k c => inv6 d L rbW frb2 s3W fs3' (run oh t3.val E s (512 * t5.val + 384 + 16 * k)) c) $$ [Hacc Hcnt Hrb Hs3]
  case region =>
    intro k c
    have ht := trip6 d L rbW (Memref.isWhole_whole _) s3W (Memref.isWhole_whole _) v2 v3 v5 v7 hw4 v10 oh t3 a25 t5 v10 v10 z z z z z z z z
      v10 v10 k _ _ E s _ hp hseg3 hrow3 c
    rw [← body12_eq L v2 v3 v5 hw3 v7 hw4 v10 v50 z oh t3 a25 v130 t5] at ht
    exact ht
  · iapply (inv6_in d L rbW frb2 s3W fs3' _ _ _ rfl hcar3) $$ [$Hacc $Hcnt $Hrb $Hs3]
  iintro %acc4 Hi
  ihave Hi := (inv6_out d L rbW frb2 s3W fs3' (run oh t3.val E s (512 * t5.val + 384 + 16 * Scf.trips k0_t12_loop.lb k0_t12_loop.ub k0_t12_loop.st))
    (run oh t3.val E s (512 * (t5.val + 1))) acc4 rfl) $$ Hi
  icases Hi with ⟨%hcar4, Hacc, Hcnt, Hrb, Hs3⟩
  obtain ⟨e0, e1, e2, e3, e4, e5, e6, e7, e8, e9⟩ := acc4
  sl_exec
  sl_step
  iexists _; iexists _; iexists fs0'; iexists _; iexists _; iexists _; iexists inb3; iexists _
  isplitr
  swap
  · isplitl [Hmw]; · iexact Hmw
    isplitl [HO]; · iexact HO
    isplitl [Hacc]; · iexact Hacc
    isplitl [Hcnt]; · iexact Hcnt
    isplitl [Hga]; · iexact Hga
    isplitl [Hx]; · iexact Hx
    isplitl [Hs0]; · iexact Hs0
    isplitl [Hb1]; · iexact Hb1
    isplitl [Hs]; · iexact Hs
    isplitl [Hg]; · iexact Hg
    isplitl [Hrb]; · iexists _; iexact Hrb
    isplitl [Hs2]; · iexists _; iexact Hs2
    isplitl [Hg2]; · iexists _; iexact Hg2
    isplitl [Hs3]; · iexists _; iexact Hs3
    isplitl [Hg3]; · iexists _; iexact Hg3
    isplitl [Hgb]; · iexact Hgb
    isplitl [Hb0]; · iexact Hb0
    isplitl [Hb2]; · iexact Hb2
    iexact Hb3
  · ipureintro
    exact ⟨hcar4, rows_pure d L v2 v3 a25 fx fg fs E n0 hF raW _ _ k0_part11_skel._proof_4 hin0 (trip5.sl.gather0_3 d L v5 v7 hw4 a25 t5 fx fg hin0) rfl _ inb2 hg0
      (4 * t5.val + 2 + 2) (hoff 2) (512 * (t5.val + 1)) (by omega), hseg0', (hoff 3).trans (congrArg (fun n => ![n0 + 128 * n]) (by show 4 * t5.val + 3 + 2 = _; omega)), fun p hp => by
        simp only [Finset.mem_insert] at hp
        rcases hp with rfl | rfl | rfl | rfl | rfl | rfl | rfl | rfl | rfl | rfl | rfl | rfl | hp
        all_goals first | exact Or.inr rfl | exact hW' p hp⟩

end Cert.Proof.Run

end
-- ==== Proof.Loops.lean ====
/-
  The two plain loops of a half: the one that clears the tables, and the one that divides each row's sum by its count.
-/
module

public import proofs.«01_k».proof.Proof.Elem
public import Idealize.ShloMosaic.Lib.Pipeline.Regions

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Row `p` replaced by `T` in its first `n` columns. -/
def rowUpTo (n p : ℕ) (T : Fin 128 → F .f32) (acc : FVec F S328x128 .f32) : FVec F S328x128 .f32 :=
  fun x => if (x 0).val = p ∧ (x 1).val < n then T (x 1) else acc x

/-- Sixteen columns of row `p` stored. -/
abbrev putPiece (p : ℕ) (hp : p ≤ 320) (k : Fin 8) (P : S1x16.Idx → Elt F .f32)
    (Ls : List (View.Piece (Elt F) S328x128 .f32)) : List (View.Piece (Elt F) S328x128 .f32) :=
  ⟨Rect.unit (s := S328x128) ![p, 16 * k.val] S1x16.size (rowBox_inb (m := 128) p _ hp (by have := k.isLt; omega)), P⟩ :: Ls

theorem put_store (v : View sig .scVector .vmem S328x128 .f32) (f : v.ty.Contents (Elt F)) (Ls : List (View.Piece (Elt F) S328x128 .f32)) (p : ℕ) (hp : p ≤ 320)
    (k : Fin 8) (P : S1x16.Idx → Elt F .f32) (T : Fin 128 → F .f32) (acc : FVec F S328x128 .f32)
    (hP : ∀ c : Fin 16, P (ix2 (n0 := 1) (n1 := 16) 0 c) = T ⟨16 * k.val + c.val, by have := k.isLt; have := c.isLt; omega⟩)
    (hL : v.read (Elt F) (v.writes (Elt F) f Ls) = rowUpTo (16 * k.val) p T acc) :
    v.read (Elt F) (v.writes (Elt F) f (putPiece p hp k P Ls)) = rowUpTo (16 * k.val + 16) p T acc := by
  funext y
  have hy1 : (y 1).val < 128 := (y 1).isLt
  have hLy := congrFun hL y
  by_cases hy : (y 0).val = p ∧ 16 * k.val ≤ (y 1).val ∧ (y 1).val < 16 * k.val + 16
  · obtain ⟨h0, h1, h2⟩ := hy
    rw [View.read_writes_cons_hit_of_coords v f _ _ Ls (ix2 (n0 := 1) (n1 := 16) 0 ⟨(y 1).val - 16 * k.val, by omega⟩) y (fun a => ?_)]
    · rw [hP]
      unfold rowUpTo
      rw [if_pos ⟨h0, h2⟩]
      exact congrArg T (Fin.ext (by simp; omega))
    · match a with
      | ⟨0, _⟩ => simp [Rect.unit, h0]
      | ⟨1, _⟩ => simp [Rect.unit]; omega
  · have hmiss : v.read (Elt F) (v.writes (Elt F) f (putPiece p hp k P Ls)) y = v.read (Elt F) (v.writes (Elt F) f Ls) y := by
      by_cases h0 : (y 0).val = p
      · exact View.read_writes_cons_miss_of_axis v f _ Ls y 1 (16 * k.val) 16 rfl rfl rfl (by omega)
      · exact View.read_writes_cons_miss_of_axis v f _ Ls y 0 p 1 rfl rfl rfl (by omega)
    rw [hmiss, hLy]
    unfold rowUpTo
    refine if_congr ⟨fun h => ?_, fun h => ?_⟩ rfl rfl <;> omega

/-- A table with its first `n` rows cleared. -/
def cleared {m : ℕ} (z : F .f32) (n : ℕ) (A : FVec F ⟨2, ![328, m]⟩ .f32) : FVec F ⟨2, ![328, m]⟩ .f32 :=
  fun x => if (x 0).val < n then z else A x

/-- Eight stores of a register of one value clear a row. -/
theorem clear_row (v : View sig .scVector .vmem S328x128 .f32) (f : v.ty.Contents (Elt F)) (p : ℕ) (hp : p ≤ 320) (z : F .f32) (A : FVec F S328x128 .f32)
    (hf : v.read (Elt F) f = cleared (m := 128) z p A) (P : S1x16.Idx → Elt F .f32) (hP : ∀ i, P i = z) :
    v.read (Elt F) (v.writes (Elt F) f (putPiece p hp 7 P (putPiece p hp 6 P (putPiece p hp 5 P (putPiece p hp 4 P
      (putPiece p hp 3 P (putPiece p hp 2 P (putPiece p hp 1 P (putPiece p hp 0 P []))))))))) = cleared (m := 128) z (p + 1) A := by
  refine (put_store v f _ p hp 7 P (fun _ => z) _ (fun _ => hP _) (put_store v f _ p hp 6 P (fun _ => z) _ (fun _ => hP _)
    (put_store v f _ p hp 5 P (fun _ => z) _ (fun _ => hP _) (put_store v f _ p hp 4 P (fun _ => z) _ (fun _ => hP _)
    (put_store v f _ p hp 3 P (fun _ => z) _ (fun _ => hP _) (put_store v f _ p hp 2 P (fun _ => z) _ (fun _ => hP _)
    (put_store v f _ p hp 1 P (fun _ => z) _ (fun _ => hP _) (put_store v f [] p hp 0 P (fun _ => z)
      (cleared (m := 128) z p A) (fun _ => hP _) (hf.trans ?_))))))))).trans ?_
  · funext x; simp [rowUpTo]
  · funext x
    have h1 : (x 1).val < 128 := (x 1).isLt
    unfold rowUpTo cleared
    by_cases e : (x 0).val = p
    · rw [if_pos ⟨e, by simpa using h1⟩, if_pos (by omega)]
    · rw [if_neg (fun h => e h.1)]
      exact if_congr (by omega) rfl rfl

/-- One store clears a row of the counters. -/
theorem clear_cnt (v : View sig .scVector .vmem S328x16 .f32) (f : v.ty.Contents (Elt F)) (p : ℕ) (hp : p ≤ 320) (z : F .f32) (A : FVec F S328x16 .f32)
    (hf : v.read (Elt F) f = cleared (m := 16) z p A) (P : S1x16.Idx → Elt F .f32) (hP : ∀ i, P i = z) :
    v.read (Elt F) (v.writes (Elt F) f [⟨Rect.unit (s := S328x16) ![p, 0] S1x16.size (rowBox_inb (m := 16) p 0 hp (by omega)), P⟩]) = cleared (m := 16) z (p + 1) A := by
  funext y
  have hy1 : (y 1).val < 16 := (y 1).isLt
  by_cases h0 : (y 0).val = p
  · rw [View.read_writes_cons_hit_of_coords v f _ _ [] (ix2 (n0 := 1) (n1 := 16) 0 ⟨(y 1).val, by omega⟩) y (fun a => ?_)]
    · rw [hP]
      unfold cleared
      rw [if_pos (by omega)]
    · match a with
      | ⟨0, _⟩ => simp [Rect.unit, h0]
      | ⟨1, _⟩ => simp [Rect.unit]
  · rw [View.read_writes_cons_miss_of_axis v f _ [] y 0 p 1 rfl rfl rfl (by omega), View.writes_nil, hf]
    unfold cleared
    exact if_congr (by omega) rfl rfl

/-- The clearing loop's body at the tile's own scratch. -/
abbrev body4 (L : grid0.Coords) :=
  k0_t4_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

theorem cond1_iff (t3 : Fin k0_t3_loop.trips) : k0_cond1 t3 = 1#1 ↔ t3.val = 0 := by
  revert t3; decide

/-- Between two trips of the clearing loop. The counters are cleared in the first half only. -/
def inv4 (d : Dev nD) (L : grid0.Coords) (h : ℕ) (z : F .f32) (A : FVec F S328x128 .f32) (C : FVec F S328x16 .f32) (N : ℕ) : sProp 𝕄 :=
  iprop(tbl d L accW (cleared (m := 128) z N A) ∗ tbl d L cntW (if h = 0 then cleared (m := 16) z N C else C))

set_option maxHeartbeats 4000000 in
theorem trip4 (d : Dev nD) (L : grid0.Coords) (v5 : BitVec 32) (hw3 : k0_chk3 v5) (z : F .f32) (c0 c1 : BitVec 32) (t3 : Fin k0_t3_loop.trips)
    (t4 : Fin k0_t4_loop.trips) (A : FVec F S328x128 .f32) (C : FVec F S328x16 .f32) (c : BitVec 32) :
    inv4 d L t3.val z A C t4.val
      ⊢ wp frame (wpE (defs₀ (F := F)) 𝒱₀ (thr d L) none) Set.univ (body4 L v5 hw3 (broadcast S16 z) c0 c1 t3 t4 c)
          (fun _ => inv4 d L t3.val z A C (t4.val + 1)) := by
  have ht4 : t4.val < 321 := t4.isLt
  have hP : ∀ i, shapeCast S1x16 (broadcast S16 z : FVec F S16 .f32) shapeCasts_S16_S1x16 i = z := fun i => cast_flat _ i
  have hiv : (Scf.iv 0#32 1#32 t4 : BitVec 32).toNat = t4.val := by simp [Scf.iv]; omega
  unfold inv4 tbl body4 k0_t4_body
  iintro ⟨⟨%fa, %hfa, Ha⟩, ⟨%fc, %hfc, Hc⟩⟩
  have hA := (clear_row accW.view fa (Scf.iv 0#32 1#32 t4 : BitVec 32).toNat (by rw [hiv]; omega) z A (by rw [hiv]; exact hfa) _ hP).trans
    (show _ = cleared (m := 128) z (t4.val + 1) A by rw [hiv])
  by_cases h1 : k0_cond1 t3 = 1#1
  · have h0 := (cond1_iff t3).mp h1
    rw [if_pos h0] at hfc
    have hC := (clear_cnt cntW.view fc (Scf.iv 0#32 1#32 t4 : BitVec 32).toNat (by rw [hiv]; omega) z C (by rw [hiv]; exact hfc) _ hP).trans
      (show _ = cleared (m := 16) z (t4.val + 1) C by rw [hiv])
    sl_exec
    sl_step
    isplitl [Ha]
    · iexists _; isplitr
      · ipureintro; exact hA
      · iexact Ha
    · iexists _; isplitr
      · ipureintro; rw [if_pos h0]; exact hC
      · iexact Hc
  · have h0 : ¬ t3.val = 0 := fun h => h1 ((cond1_iff t3).mpr h)
    rw [if_neg h0] at hfc
    sl_exec
    sl_step
    isplitl [Ha]
    · iexists _; isplitr
      · ipureintro; exact hA
      · iexact Ha
    · iexists _; isplitr
      · ipureintro; rw [if_neg h0]; exact hfc
      · iexact Hc

/-- The float one. -/
abbrev one32 : F .f32 := Scalar.ofBits .f32 0x3F800000#32

/-- One over a row's count, at least one. -/
def recip (C : FVec F S328x16 .f32) (p : Fin 328) : F .f32 :=
  FloatOps.divf one32 (FloatOps.maximumf (C (ix2 (n0 := 328) (n1 := 16) p 0)) one32)

/-- The first `n` rows each multiplied by one over its count. -/
def divided (n : ℕ) (A : FVec F S328x128 .f32) (C : FVec F S328x16 .f32) : FVec F S328x128 .f32 :=
  fun x => if (x 0).val < n then FloatOps.mulf (A x) (recip C (x 0)) else A x

/-- One of the eight stores of a row of the quotients. -/
abbrev mulPiece (v : View sig .scVector .vmem S328x128 .f32) (f : v.ty.Contents (Elt F)) (p : ℕ) (hp : p ≤ 320) (w : FVec F S16 .f32) (k : Fin 8)
    (Ls : List (View.Piece (Elt F) S328x128 .f32)) : List (View.Piece (Elt F) S328x128 .f32) :=
  putPiece p hp k (shapeCast S1x16 (mulf (shapeCast S16 (v.readAt (Elt F) (Rect.unit (s := S328x128) ![p, 16 * k.val] S1x16.size
      (rowBox_inb (m := 128) p _ hp (by have := k.isLt; omega))).toLoadRect f : Vec F S1x16 .f32)
      shapeCasts_S1x16_S16) w) shapeCasts_S16_S1x16) Ls

theorem mul_store (v : View sig .scVector .vmem S328x128 .f32) (f : v.ty.Contents (Elt F)) (Ls : List (View.Piece (Elt F) S328x128 .f32)) (p : ℕ) (hp : p ≤ 320)
    (k : Fin 8) (w : FVec F S16 .f32) (u : F .f32) (hw : ∀ i, w i = u) (acc : FVec F S328x128 .f32) (hf : v.read (Elt F) f = acc)
    (hL : v.read (Elt F) (v.writes (Elt F) f Ls) = rowUpTo (16 * k.val) p (fun c => FloatOps.mulf (acc (ix2 (n0 := 328) (n1 := 128) ⟨p, by omega⟩ c)) u) acc) :
    v.read (Elt F) (v.writes (Elt F) f (mulPiece v f p hp w k Ls))
      = rowUpTo (16 * k.val + 16) p (fun c => FloatOps.mulf (acc (ix2 (n0 := 328) (n1 := 128) ⟨p, by omega⟩ c)) u) acc := by
  refine put_store v f Ls p hp k _ _ acc (fun c => ?_) hL
  have hk := k.isLt
  have hc := c.isLt
  rw [cast_flat]
  show FloatOps.mulf (shapeCast S16 _ shapeCasts_S1x16_S16 (ix1 _)) (w _) = _
  rw [hw, cast_row, View.readAt_apply]
  have hidx : (Rect.unit (s := S328x128) ![p, 16 * k.val] S1x16.size (rowBox_inb (m := 128) p _ hp (by omega))).toLoadRect.idx
      (ix2 (n0 := 1) (n1 := 16) 0 ((ix1 (n0 := 16) ((ix2 (n0 := 1) (n1 := 16) 0 c : S1x16.Idx) 1) : S16.Idx) 0))
      = ix2 (n0 := 328) (n1 := 128) ⟨p, by omega⟩ ⟨16 * k.val + c.val, by omega⟩ := by
    funext a
    match a with
    | ⟨0, _⟩ => exact Fin.ext (by simp [LoadRect.idx, Rect.unit])
    | ⟨1, _⟩ => exact Fin.ext (by simp [LoadRect.idx, Rect.unit])
  rw [hidx, hf]

/-- Eight such stores multiply a row. -/
theorem mul_row (v : View sig .scVector .vmem S328x128 .f32) (f : v.ty.Contents (Elt F)) (p : ℕ) (hp : p < 320) (w : FVec F S16 .f32)
    (A : FVec F S328x128 .f32) (C : FVec F S328x16 .f32) (hw : ∀ i, w i = recip C ⟨p, by omega⟩) (hf : v.read (Elt F) f = divided p A C) :
    v.read (Elt F) (v.writes (Elt F) f (mulPiece v f p hp.le w 7 (mulPiece v f p hp.le w 6 (mulPiece v f p hp.le w 5 (mulPiece v f p hp.le w 4
      (mulPiece v f p hp.le w 3 (mulPiece v f p hp.le w 2 (mulPiece v f p hp.le w 1 (mulPiece v f p hp.le w 0 []))))))))) = divided (p + 1) A C := by
  refine (mul_store v f _ p hp.le 7 w _ hw _ hf (mul_store v f _ p hp.le 6 w _ hw _ hf (mul_store v f _ p hp.le 5 w _ hw _ hf (mul_store v f _ p hp.le 4 w _ hw _ hf
    (mul_store v f _ p hp.le 3 w _ hw _ hf (mul_store v f _ p hp.le 2 w _ hw _ hf (mul_store v f _ p hp.le 1 w _ hw _ hf
      (mul_store v f [] p hp.le 0 w _ hw (divided p A C) hf (hf.trans ?_))))))))).trans ?_
  · funext x; simp [rowUpTo]
  · funext x
    have h1 : (x 1).val < 128 := (x 1).isLt
    unfold rowUpTo divided
    by_cases e : (x 0).val = p
    · have ex : (ix2 (n0 := 328) (n1 := 128) ⟨p, by omega⟩ (x 1) : S328x128.Idx) = x := by
        funext a
        match a with
        | ⟨0, _⟩ => exact Fin.ext e.symm
        | ⟨1, _⟩ => rfl
      have e0 : (⟨p, by omega⟩ : Fin 328) = x 0 := Fin.ext e.symm
      rw [if_pos ⟨e, by simpa using h1⟩, if_pos (by omega)]
      show FloatOps.mulf (if p < p then _ else A (ix2 (n0 := 328) (n1 := 128) ⟨p, by omega⟩ (x 1))) (recip C ⟨p, by omega⟩) = _
      rw [if_neg (lt_irrefl p), ex, e0]
    · rw [if_neg (fun h => e h.1)]
      exact if_congr (by omega) rfl rfl

/-- The dividing loop's body at the tile's own scratch. -/
abbrev body23 (L : grid0.Coords) :=
  k0_t23_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- Between two trips of the dividing loop. -/
def inv23 (d : Dev nD) (L : grid0.Coords) (A : FVec F S328x128 .f32) (C : FVec F S328x16 .f32) (N : ℕ) : sProp 𝕄 :=
  iprop(tbl d L accW (divided N A C) ∗ tbl d L cntW C)

theorem recip_load (v : View sig .scVector .vmem S328x16 .f32) (f : v.ty.Contents (Elt F)) (C : FVec F S328x16 .f32) (hf : v.read (Elt F) f = C) (p : Fin 328)
    (off : Fin 2 → ℕ) (hoff : off = ![p.val, 0]) (inb) (i : S16.Idx) :
    k0_pay261 (v.readAt (Elt F) (Rect.unit (s := S328x16) off S1x16.size inb).toLoadRect f) i = recip C p := by
  subst hoff hf
  unfold k0_pay261
  show FloatOps.divf one32 (FloatOps.maximumf (shapeCast S16 _ shapeCasts_S1x16_S16 _) one32) = _
  rw [cast_row, View.readAt_apply]
  unfold recip
  refine congrArg (fun y => FloatOps.divf one32 (FloatOps.maximumf (v.read (Elt F) f y) one32)) (funext fun a => ?_)
  match a with
  | ⟨0, _⟩ => exact Fin.ext (by simp [LoadRect.idx, Rect.unit])
  | ⟨1, _⟩ => exact Fin.ext (by simp [LoadRect.idx, Rect.unit])

set_option maxHeartbeats 4000000 in
theorem trip23 (d : Dev nD) (L : grid0.Coords) (v1 : BitVec 32) (oh : FVec F S16 .f32) (t3 : Fin k0_t3_loop.trips) (b0 b1 : BitVec 32) (hw13 : k0_chk13 t3 b0)
    (v211 : BitVec 1) (t : Fin k0_t23_loop.trips) (A : FVec F S328x128 .f32) (C : FVec F S328x16 .f32) (c : BitVec 32) :
    inv23 d L A C t.val
      ⊢ wp frame (wpE (defs₀ (F := F)) 𝒱₀ (thr d L) none) Set.univ (body23 L v1 oh t3 b0 b1 hw13 v211 t c)
          (fun _ => inv23 d L A C (t.val + 1)) := by
  have ht : t.val < 320 := t.isLt
  have hiv : (Scf.iv 0#32 1#32 t : BitVec 32).toNat = t.val := by simp [Scf.iv]; omega
  unfold inv23 tbl body23 k0_t23_body
  rw [k0_part35_eq_skeleton]; unfold k0_part35_skel
  iintro ⟨⟨%fa, %hfa, Ha⟩, ⟨%fc, %hfc, Hc⟩⟩
  have hA := (mul_row accW.view fa (Scf.iv 0#32 1#32 t : BitVec 32).toNat (by rw [hiv]; omega) _ A C
    (fun i => (recip_load cntW.view fc C hfc ⟨t.val, by omega⟩ _ (k0_off169_eq t) (k0_off169_inb t) i).trans (congrArg (recip C) (Fin.ext hiv.symm)))
    (by rw [hiv]; exact hfa)).trans (show _ = divided (t.val + 1) A C by rw [hiv])
  sl_exec
  sl_step
  isplitl [Ha]
  · iexists _; isplitr
    swap
    · iexact Ha
    · ipureintro
      refine Eq.trans ?_ hA
      chain_rfl
  · iexists _; isplitr
    · ipureintro; exact hfc
    · iexact Hc

end Cert.Proof.Run

end
-- ==== Proof.Half.lean ====
/-
  One half of the feature columns: the tables cleared, the tile's window of edges folded into them four chunks a trip, the last
  row closed, each sum divided by its count, the rows copied out.
-/
module

public import proofs.«01_k».proof.Proof.Quad
public import proofs.«01_k».proof.Proof.Loops
public import Idealize.ShloMosaic.Lib.LoopRemainder

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A half's body at the tile's own scratch. -/
abbrev body3 (L : grid0.Coords) :=
  k0_t3_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

/-- The rows of the result a tile writes in a half. -/
abbrev oH (L : grid0.Coords) (t3 : Fin k0_t3_loop.trips) : Memref sig .scVector .hbm S320x128 .f32 :=
  ((oW.slice (Rect.unit (s := S2x10240x128) (k0_off178 t3) S1x10240x128.size (k0_off178_inb t3)) (fun _ => rfl)).squeeze S10240x128
    squeezes_S1x10240x128_S10240x128).slice (Rect.unit (s := S10240x128) (k0_off179 L) S320x128.size (k0_off179_inb L)) (fun _ => rfl)

/-- The float zero. -/
abbrev zero32 : F .f32 := Scalar.ofBits .f32 0x00000000#32

/-- Before a window's first edge: no row open. -/
def start (A : FVec F S328x128 .f32) (C : FVec F S328x16 .f32) : St F := ⟨320#32, 0#32, fun _ => zero32, A, C⟩

/-- The tables after a half's clearing loop. -/
def init (h : ℕ) (A : FVec F S328x128 .f32) (C : FVec F S328x16 .f32) : St F :=
  start (cleared (m := 128) zero32 321 A) (if h = 0 then cleared (m := 16) zero32 321 C else C)

/-- After `n` edges and the last row closed. -/
def closed (h : ℕ) (E : Edges F) (n : ℕ) (A : FVec F S328x128 .f32) (C : FVec F S328x16 .f32) : St F :=
  flush (k0_pay2 (F := F)) h (run (k0_pay2 (F := F)) h E (init h A C) n)

/-- What a half writes: each row's sum over its count. -/
def quot (s : St F) (x : S320x128.Idx) : F .f32 :=
  divided 320 s.acc s.cnt (ix2 (n0 := 328) (n1 := 128) ⟨(x 0).val, by have h : (x 0).val < 320 := (x 0).isLt; omega⟩ (x 1))

/-- What a tile holds between two halves, the counters and the result's rows aside. -/
def gear (d : Dev nD) (L : grid0.Coords) (O : CellTallies nD τ sig (HIx 1)) (W : Waits sig (HIx 1))
    (qx qy qg : PosShare TreeShare) (fx : Buf (Elt F) (xW.view.loc (thr d L))) (fg : Buf (Elt F) (gW.view.loc (thr d L)))
    (fs : Buf (Elt F) (sW.view.loc (thr d L))) : sProp 𝕄 :=
  iprop(∃ (W' : Waits sig (HIx 1)), ⌜∀ p ∈ W', p ∈ W ∨ p.2 = none⌝
    ∗ Transfers.MayWaits (thr d L) (default : HIx 1) O ∗ owes (thr d L) O W'
    ∗ (xS.view.loc (thr d L) ↦[xS.view.set]{qx} fx) ∗ (xS.view.loc (thr d L) ↦[xS.view.set]{qy} fx)
    ∗ (sW.view.loc (thr d L) ↦[sW.view.set]{qg} fs) ∗ (gW.view.loc (thr d L) ↦[gW.view.set]{qg} fg)
    ∗ some_ d L raW ∗ some_ d L rbW ∗ some_ d L accW
    ∗ some_ d L s0W ∗ some_ d L s1W ∗ some_ d L s2W ∗ some_ d L s3W ∗ some_ d L g0W ∗ some_ d L g1W ∗ some_ d L g2W ∗ some_ d L g3W
    ∗ semVal (thr d L, SemLoc.dma cc0_scratch13.sem) 0 ∗ semVal (thr d L, SemLoc.dma cc0_scratch14.sem) 0
    ∗ semVal (thr d L, SemLoc.dma cc0_scratch15.sem) 0 ∗ semVal (thr d L, SemLoc.dma cc0_scratch16.sem) 0
    ∗ semVal (thr d L, SemLoc.dma cc0_scratch17.sem) 0 ∗ semVal (thr d L, SemLoc.dma cc0_scratch18.sem) 0
    ∗ semVal (thr d L, SemLoc.dma cc0_scoped2.sem) 0 ∗ semVal (thr d L, SemLoc.dma cc0_scoped3.sem) 0
    ∗ semVal (thr d L, SemLoc.dma cc0_scoped4.sem) 0)

theorem chk13_of {t3 : Fin k0_t3_loop.trips} {p : BitVec 32} (hp : p.toNat ≤ 320) : k0_chk13 t3 p :=
  ⟨rowBox_inb _ 0 hp (by omega), rowBox_inb _ 16 hp (by omega), rowBox_inb _ 32 hp (by omega),
    rowBox_inb _ 48 hp (by omega), rowBox_inb _ 64 hp (by omega), rowBox_inb _ 80 hp (by omega),
    rowBox_inb _ 96 hp (by omega), rowBox_inb _ 112 hp (by omega), fun _ => rowBox_inb (m := 16) _ 0 hp (by omega)⟩

theorem cond18_iff (t3 : Fin k0_t3_loop.trips) : k0_cond18 t3 = 1#1 ↔ t3.val = 0 := by
  revert t3; decide

theorem divided_zero (A : FVec F S328x128 .f32) (C : FVec F S328x16 .f32) : divided 0 A C = A := by
  funext x; simp [divided]

/-- The rows copied out are the quotients. -/
theorem out_rows (d : Dev nD) (L : grid0.Coords) (f : Buf (Elt F) (accW.view.loc (thr d L))) (s : St F)
    (h : accW.view.read (Elt F) f = divided 320 s.acc s.cnt) (x : S320x128.Idx) :
    (accW.slice (Rect.unit (s := S328x128) ![0, 0] S320x128.size inb_S328x128_S320x128_0_0) (fun _ => rfl)).view.read (Elt F) f x = quot s x := by
  have hx : (x 0).val < 320 := (x 0).isLt
  show accW.view.read (Elt F) f ((Rect.unit (s := S328x128) ![0, 0] S320x128.size inb_S328x128_S320x128_0_0).idx x) = _
  rw [h]
  unfold quot
  congr 1
  funext a
  match a with
  | ⟨0, _⟩ => exact Fin.ext (by simp [LoadRect.idx, Rect.unit])
  | ⟨1, _⟩ => exact Fin.ext (by simp [LoadRect.idx, Rect.unit])

set_option maxHeartbeats 16000000 in
/-- One half, from any counters: the counters kept, the result's rows written. -/
theorem trip3 (d : Dev nD) (L : grid0.Coords) (v1 v2 v3 v5 : BitVec 32) (hw3 : k0_chk3 v5) (v7 : BitVec 32) (hw4 : k0_chk4 v5 v7) (v10 v50 : BitVec 32)
    (t3 : Fin k0_t3_loop.trips) (O : CellTallies nD τ sig (HIx 1)) (W : Waits sig (HIx 1))
    (qx qy qg : PosShare TreeShare) (fx : Buf (Elt F) (xW.view.loc (thr d L))) (fg : Buf (Elt F) (gW.view.loc (thr d L)))
    (fs : Buf (Elt F) (sW.view.loc (thr d L))) (E : Edges F) (n0 : ℕ) (C : FVec F S328x16 .f32) (fo : Buf (Elt F) ((oH L t3).view.loc (thr d L)))
    (hE : ∀ n, (E.le n).toNat ≤ 320) (hF : Feed d L v2 v3 (Scf.iv 0#32 1#32 t3) fx fg fs E n0)
    (h12 : k0_off12 v5 = ![n0 + 128 * 0]) (h13 : k0_off13 v5 = ![n0 + 128 * (4 * 0 + 1)])
    (h14 : ∀ (t5 : Fin (k0_t5_loop v5 v7).trips) (r : Fin 4), k0_off14 v5 v7 t5 (BitVec.ofNat 32 r.val) = ![n0 + 128 * (4 * t5.val + r.val + 2)]) (c : BitVec 32) :
    iprop(gear d L O W qx qy qg fx fg fs ∗ tbl d L cntW C ∗ ((oH L t3).view.loc (thr d L) ↦[(oH L t3).view.set]{fullShare} fo))
      ⊢ wp frame (wpE (defs₀ (F := F)) 𝒱₀ (thr d L) none) Set.univ (body3 L v1 v2 v3 v5 hw3 v7 hw4 v10 v50 t3 c)
          (fun _ => iprop(gear d L O W qx qy qg fx fg fs ∗ ∃ A, tbl d L cntW (closed t3.val E (512 * (k0_t5_loop v5 v7).trips) A C).cnt
            ∗ ∃ f' : Buf (Elt F) ((oH L t3).view.loc (thr d L)),
              ⌜∀ x, (oH L t3).view.read (Elt F) f' x = quot (closed t3.val E (512 * (k0_t5_loop v5 v7).trips) A C) x⌝
                ∗ ((oH L t3).view.loc (thr d L) ↦[(oH L t3).view.set]{fullShare} f'))) := by
  have hplan1 : Transfers.BatchOf (thr d L) (SemLoc.dma cc0_scratch16.sem) 2 := trivial
  have inb12 := k0_off12_inb v5 hw3
  have inb13 := k0_off13_inb v5 hw3
  unfold gear some_
  iintro ⟨⟨%W', %hW', Hmw, HO, Hx, Hy, Hs, Hg, ⟨%fra, Hra⟩, ⟨%frb, Hrb⟩, ⟨%fa, Hacc⟩, ⟨%fs0, Hs0⟩, ⟨%fs1, Hs1⟩, ⟨%fs2, Hs2⟩, ⟨%fs3, Hs3⟩,
    ⟨%fg0, Hg0⟩, ⟨%fg1, Hg1⟩, ⟨%fg2, Hg2⟩, ⟨%fg3, Hg3⟩, Hga, Hgb, Hb0, Hb1, Hb2, Hb3, Hc2, Hc3, Hc4⟩, Hcnt, Ho⟩
  unfold body3 k0_t3_body
  rw [k0_part36_eq_skeleton, k0_part37_eq_skeleton, k0_part38_eq_skeleton, k0_part39_eq_skeleton, k0_part40_eq_skeleton]
  unfold k0_part36_skel k0_part37_skel k0_part38_skel k0_part39_skel k0_part40_skel
  sl_exec
  rw [Prog.bind_assoc]
  sl_for (fun k c => inv4 d L t3.val zero32 (accW.view.read (Elt F) fa) C k) $$ [Hacc Hcnt]
  case region =>
    intro k c
    exact trip4 d L v5 hw3 zero32 0#32 1#32 t3 k (accW.view.read (Elt F) fa) C c
  · unfold inv4
    isplitl [Hacc]
    · unfold tbl
      iexists fa; isplitr
      · ipureintro; funext x; simp [cleared]
      · iexact Hacc
    · have e : (if t3.val = 0 then cleared (m := 16) zero32 0 C else C) = C := by
        split
        · funext x; simp [cleared]
        · rfl
      rw [e]; iexact Hcnt
  iintro %acc Hi
  unfold inv4
  icases Hi with ⟨Hacc, Hcnt⟩
  sl_exec
  have hg0 : ∀ i, g0W.view.read (Elt F) (g0W.view.writes (Elt F) g0W.view.junk (trip3.sl.Hg0_9 d L v5 hw3 t3 fg)) i
      = rowWord (Scf.iv 0#32 1#32 t3) (win d L gW (k0_off12 v5) inb12 fg i) := fun i =>
    trList_read g0W.view (Scf.iv 0#32 1#32 t3) (win d L gW (k0_off12 v5) inb12 fg) _ i
  have hin0 : ∀ x, (g0W.view.read (Elt F) (g0W.view.writes (Elt F) g0W.view.junk (trip3.sl.Hg0_9 d L v5 hw3 t3 fg)) x).toNat < S20000x128.size (gathers_S20000x128_S128x128).axis := fun x => by
    rw [hg0]; exact hF.inr _ _ x
  sl_exec
  ihave Hv := (segs_at d L v2 v3 (Scf.iv 0#32 1#32 t3) fx fg fs E n0 hF s0W _ (trip3.sl.dma0 d L v5 hw3 fs) _ inb12 rfl 0 h12 0 rfl) $$ Hs0
  icases Hv with ⟨%fs0', %hseg0, Hs0⟩
  have hp : ∀ n, (run (k0_pay2 (F := F)) t3.val E (init t3.val (accW.view.read (Elt F) fa) C) n).prev.toNat ≤ 320 :=
    run_prev_le _ _ _ _ (show (320#32).toNat ≤ 320 by decide) hE
  rw [Prog.bind_assoc]
  sl_for (fun k c => inv5 d L v2 v3 (k0_pay2 (F := F)) t3.val O W qx qy qg fx fg fs E (init t3.val (accW.view.read (Elt F) fa) C) n0 k c) $$ [Hmw HO Hacc Hcnt Hga Hy Hs0 Hb1 Hs Hg Hrb Hs2 Hg2 Hs3 Hg3 Hgb Hb0 Hb2 Hb3]
  case region =>
    intro k c
    exact trip5 d L v2 v3 v5 hw3 v7 hw4 v10 v50 _ _ t3 _ _ k O W qx qy qg fx fg fs E _ n0 hp hF (h14 k) c
  · unfold inv5 some_ fetch
    iexists _; iexists _; iexists fs0'; iexists _; iexists _; iexists _; iexists inb13; iexists _
    isplitr
    swap
    · isplitl [Hmw]; · iexact Hmw
      isplitl [HO]; · iexact HO
      isplitl [Hacc]; · iexact Hacc
      isplitl [Hcnt]; · iexact Hcnt
      isplitl [Hga]; · iexact Hga
      isplitl [Hy]; · iexact Hy
      isplitl [Hs0]; · iexact Hs0
      isplitl [Hb1]; · iexact Hb1
      isplitl [Hs]; · iexact Hs
      isplitl [Hg]; · iexact Hg
      isplitl [Hrb]; · iexists _; iexact Hrb
      isplitl [Hs2]; · iexists _; iexact Hs2
      isplitl [Hg2]; · iexists _; iexact Hg2
      isplitl [Hs3]; · iexists _; iexact Hs3
      isplitl [Hg3]; · iexists _; iexact Hg3
      isplitl [Hgb]; · iexact Hgb
      isplitl [Hb0]; · iexact Hb0
      isplitl [Hb2]; · iexact Hb2
      iexact Hb3
    · ipureintro
      exact ⟨rfl, rows_pure d L v2 v3 (Scf.iv 0#32 1#32 t3) fx fg fs E n0 hF raW _ _ k0_part11_skel._proof_4 hin0 (trip3.sl.gather0 d L v5 hw3 t3 fx fg hin0) rfl _ inb12 hg0
        0 h12 0 rfl, hseg0, h13, fun p hp => by
          simp only [Finset.mem_insert] at hp
          rcases hp with rfl | rfl | hp
          all_goals first | exact Or.inr rfl | exact hW' p hp⟩
  iintro %acc5 Hi
  unfold inv5 some_ fetch tbl
  icases Hi with ⟨%fra', %fg0', %fs0'', %es, %eg, %off, %inb, %W'', %hpure, Hmw, HO, ⟨%fa', %hfa, Hacc⟩, ⟨%fc', %hfc, Hcnt⟩, Hga, Hy, Hs0, Hb1, Hs, Hg, ⟨%frb', Hrb⟩, ⟨%fs2', Hs2⟩, ⟨%fg2', Hg2⟩,
    ⟨%fs3', Hs3⟩, ⟨%fg3', Hg3⟩, Hgb, Hb0, Hb2, Hb3⟩
  obtain ⟨hcar, hrow, hseg, hoff1, hW''⟩ := hpure
  obtain ⟨e0, e1, e2, e3, e4, e5, e6, e7, e8, e9⟩ := acc5
  have htr : (k0_t14_loop v5 v7).trips = 0 := Scf.rem_trips _ _
  unfold trip3.sl.prog.cont_2
  conv => simp_match
  rw [Prog.bind_assoc]
  sl_for0 htr
  obtain ⟨sN, hsN⟩ : ∃ sN, sN = run (k0_pay2 (F := F)) t3.val E (init t3.val (accW.view.read (Elt F) fa) C) (512 * (k0_t5_loop v5 v7).trips) := ⟨_, rfl⟩
  have hprev : sN.prev.toNat ≤ 320 := by rw [hsN]; exact hp _
  have hfin : flush (k0_pay2 (F := F)) t3.val sN = closed t3.val E (512 * (k0_t5_loop v5 v7).trips) (accW.view.read (Elt F) fa) C := by rw [hsN]; rfl
  replace hcar : (e0, e1, e2, e3, e4, e5, e6, e7, e8, e9) = sN.tup := hcar.trans (congrArg St.tup hsN.symm)
  replace hfa : accW.view.read (Elt F) fa' = sN.acc := hfa.trans (congrArg St.acc hsN.symm)
  replace hfc : cntW.view.read (Elt F) fc' = sN.cnt := hfc.trans (congrArg St.cnt hsN.symm)
  obtain ⟨he0, he1, he2, he3, he4, he5, he6, he7, he8, he9⟩ : e0 = sN.prev ∧ e1 = sN.rc ∧ e2 = chunk sN.r 0 ∧ e3 = chunk sN.r 1 ∧ e4 = chunk sN.r 2
      ∧ e5 = chunk sN.r 3 ∧ e6 = chunk sN.r 4 ∧ e7 = chunk sN.r 5 ∧ e8 = chunk sN.r 6 ∧ e9 = chunk sN.r 7 := by
    unfold St.tup at hcar
    injection hcar with h0 hcar; injection hcar with h1 hcar; injection hcar with h2 hcar; injection hcar with h3 hcar; injection hcar with h4 hcar
    injection hcar with h5 hcar; injection hcar with h6 hcar; injection hcar with h7 hcar; injection hcar with h8 hcar
    exact ⟨h0, h1, h2, h3, h4, h5, h6, h7, h8, hcar⟩
  clear hcar
  subst he0 he1 he2 he3 he4 he5 he6 he7 he8 he9
  have hc13 : k0_chk13 t3 sN.prev := chk13_of hprev
  rcases Classical.em (k0_cond18 t3 = 1#1) with h18 | h18
  all_goals
    sl_exec
    ihave Hs := (winJoin (F := F) d L sW qg off inb fs) $$ [Hs Hb1_src0_in0]
    · isplitl [Hs]; · iexact Hs
      iexact Hb1_src0_in0
    ihave Hg := (winJoin (F := F) d L gW qg off inb fg) $$ [Hg Hb1_src1_in1]
    · isplitl [Hg]; · iexact Hg
      iexact Hb1_src1_in1
    rw [Prog.bind_assoc]
    sl_for (fun k c => inv23 d L (flush (k0_pay2 (F := F)) t3.val sN).acc (flush (k0_pay2 (F := F)) t3.val sN).cnt k) $$ [Hacc Hcnt]
    case region =>
      intro k c
      exact trip23 d L v1 _ t3 _ _ hc13 _ k _ _ c
    · unfold inv23 tbl
      isplitl [Hacc]
      · iexists _; isplitr
        swap; · iexact Hacc
        ipureintro
        rw [divided_zero]
        exact flush_row accW.view fa' sN.prev.toNat sN.r sN.acc hfa hprev
      · iexists _; isplitr
        swap; · iexact Hcnt
        ipureintro
        first
          | exact (flush_count cntW.view fc' sN.prev.toNat _ rfl (rowBox_inb (m := 16) _ 0 hprev (by omega)) _ sN.rc sN.cnt hfc).trans (if_pos ((cond18_iff t3).mp h18)).symm
          | exact hfc.trans (if_neg (fun h => h18 ((cond18_iff t3).mpr h))).symm
    iintro %acc23 Hi
    unfold inv23 tbl
    icases Hi with ⟨⟨%fa2, %hfa2, Hacc⟩, ⟨%fc2, %hfc2, Hcnt⟩⟩
    sl_exec
    sl_step
    isplitr [Hcnt Ho]
    · iexists _; isplitr
      swap
      · isplitl [Hmw]; · iexact Hmw
        isplitl [HO]; · iexact HO
        isplitl [Hx]; · iexact Hx
        isplitl [Hy]; · iexact Hy
        isplitl [Hs]; · iexact Hs
        isplitl [Hg]; · iexact Hg
        isplitl [Hga_dst]; · iexists _; iexact Hga_dst
        isplitl [Hrb]; · iexists _; iexact Hrb
        isplitl [Hacc]; · iexists _; iexact Hacc
        isplitl [Hs0]; · iexists _; iexact Hs0
        isplitl [Hb1_dst0]; · iexists _; iexact Hb1_dst0
        isplitl [Hs2]; · iexists _; iexact Hs2
        isplitl [Hs3]; · iexists _; iexact Hs3
        isplitl [Hga_dst_and]; · iexists _; iexact Hga_dst_and
        isplitl [Hb1_dst1]; · iexists _; iexact Hb1_dst1
        isplitl [Hg2]; · iexists _; iexact Hg2
        isplitl [Hg3]; · iexists _; iexact Hg3
        isplitl [Hga]; · iexact Hga
        isplitl [Hgb]; · iexact Hgb
        isplitl [Hb0]; · iexact Hb0
        isplitl [Hb1]; · iexact Hb1
        isplitl [Hb2]; · iexact Hb2
        isplitl [Hb3]; · iexact Hb3
        isplitl [Hc2]; · iexact Hc2
        isplitl [Hc3]; · iexact Hc3
        iexact Hc4
      · ipureintro
        intro p hp
        simp only [Finset.mem_insert] at hp
        rcases hp with rfl | rfl | rfl | rfl | hp
        all_goals first | exact Or.inr rfl | exact hW'' p hp
    · iexists (accW.view.read (Elt F) fa)
      isplitl [Hcnt]
      · iexists _; isplitr
        swap; · iexact Hcnt
        ipureintro
        rw [← hfin]; exact hfc2
      · iexists _; isplitr
        swap; · iexact Ho
        ipureintro
        intro x
        rw [← hfin, View.read_writes_whole]
        exact out_rows d L fa2 _ hfa2 x

end Cert.Proof.Run

end
-- ==== Proof.Words.lean ====
/-
  The arithmetic of a tile's window: where it starts, how many trips its loop makes, and that every copy lies inside the
  arrays.
-/
module

public import proofs.«01_k».proof.Proof.Base
public import Idealize.ShloMosaic.Lib.LoopRemainder
public import Idealize.ShloMosaic.Lib.Affine

@[expose] public section

noncomputable section

namespace Cert.Proof.Run

open Cert.KernelIdeal Cert.KernelIdeal.Gen

open Idealize.ShloMosaic
open Idealize.ShloMosaic.Affine (IsInt)

/-- Division rounding down, as the kernel computes it. -/
@[reducible] def floorWord (x k : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt k 0#32)) (Scalar.extui (Scalar.cmpi .slt k 0#32))))
      (Scalar.cmpi .ne (Scalar.remsi x k) 0#32))
    (Scalar.subi (Scalar.divsi x k) 1#32) (Scalar.divsi x k)

theorem toInt_divsi (x k : BitVec 32) (hk : 0 < k.toInt) : (Scalar.divsi x k).toInt = x.toInt.tdiv k.toInt := by
  have hc : ¬ IntOp.SDivCorner x k := by
    rintro (h | ⟨_, h⟩)
    · subst h; exact absurd hk (by decide)
    · subst h; exact absurd hk (by decide)
  rw [Scalar.divsi, IntOp.divsi, if_neg hc, BitVec.toInt_sdiv]
  have h1 := BitVec.le_toInt x
  have h2 := BitVec.toInt_lt (x := x)
  have h3 : (x.toInt.tdiv k.toInt).natAbs ≤ x.toInt.natAbs := by
    rw [Int.natAbs_tdiv]; exact Nat.div_le_self _ _
  have h4 : 0 ≤ x.toInt → 0 ≤ x.toInt.tdiv k.toInt := fun h => Int.tdiv_nonneg h hk.le
  have h5 : x.toInt ≤ 0 → x.toInt.tdiv k.toInt ≤ 0 := fun h => by
    have h6 : 0 ≤ (-x.toInt).tdiv k.toInt := Int.tdiv_nonneg (by omega) hk.le
    rw [Int.neg_tdiv] at h6; omega
  exact Int.bmod_eq_of_le (by omega) (by omega)

theorem toInt_remsi (x k : BitVec 32) (hk : 0 < k.toInt) : (Scalar.remsi x k).toInt = x.toInt.tmod k.toInt := by
  have hc : ¬ IntOp.SDivCorner x k := by
    rintro (h | ⟨_, h⟩)
    · subst h; exact absurd hk (by decide)
    · subst h; exact absurd hk (by decide)
  rw [Scalar.remsi, IntOp.remsi, if_neg hc, BitVec.toInt_srem]

theorem floorWord_int (x k : BitVec 32) (e kk : ℤ) (hx : IsInt x e) (hk : IsInt k kk) (h0 : 0 < kk) (h1 : -1000000 ≤ e) (h2 : e ≤ 1000000) :
    IsInt (floorWord x k) (e / kk) := by
  have hx' : x.toInt = e := by unfold IsInt at hx; exact hx
  have hk' : k.toInt = kk := by unfold IsInt at hk; exact hk
  have z0 : IsInt 0#32 0 := Affine.ofNat 0 ⟨rfl, by decide⟩
  have z1 : IsInt 1#32 1 := Affine.ofNat 1 ⟨rfl, by decide⟩
  have hq : IsInt (Scalar.divsi x k) (e / kk + if 0 ≤ e ∨ kk ∣ e then 0 else 1) := by
    unfold IsInt
    rw [toInt_divsi x k (by omega), hx', hk', Int.tdiv_eq_ediv, Int.sign_eq_one_of_pos h0]
  have hr : IsInt (Scalar.remsi x k) (e.tmod kk) := by
    unfold IsInt
    rw [toInt_remsi x k (by omega), hx', hk']
  have hd : kk ∣ e ↔ e.tmod kk = 0 := Int.dvd_iff_tmod_eq_zero
  have hsk : IsInt (Scalar.subi (Scalar.extui (Scalar.cmpi .sgt k 0#32)) (Scalar.extui (Scalar.cmpi .slt k 0#32))) 1 :=
    Affine.subi (Affine.extui_holds (Affine.sgt_holds hk z0 h0) rfl) (Affine.extui_fails (Affine.slt_fails hk z0 (by omega)) rfl) ⟨rfl, by decide, by decide⟩
  by_cases hdv : kk ∣ e
  · rw [if_pos (Or.inr hdv), add_zero] at hq
    exact Affine.select_fails (Affine.andi_fails_right trivial (Affine.ne_fails hr z0 (hd.mp hdv))) (Affine.subi hq z1 ⟨rfl, by
      have : -1000000 ≤ e / kk := by
        have := Int.ediv_mul_cancel hdv
        nlinarith
      omega, by
      have : e / kk ≤ 1000000 := by
        have := Int.ediv_mul_cancel hdv
        nlinarith
      omega⟩) hq rfl
  · rcases lt_or_ge e 0 with hn | hp
    · rw [if_neg (by rintro (h | h); · omega
                     · exact hdv h)] at hq
      have hsx : IsInt (Scalar.subi (Scalar.extui (Scalar.cmpi .sgt x 0#32)) (Scalar.extui (Scalar.cmpi .slt x 0#32))) (-1) :=
        Affine.subi (Affine.extui_fails (Affine.sgt_fails hx z0 (by omega)) rfl) (Affine.extui_holds (Affine.slt_holds hx z0 hn) rfl) ⟨rfl, by decide, by decide⟩
      have hlo : -1000001 ≤ e / kk := by
        have := Int.ediv_mul_le e (ne_of_gt h0)
        have := Int.lt_ediv_add_one_mul_self e h0
        by_contra hc
        nlinarith
      have hhi : e / kk < 0 := Int.ediv_neg_of_neg_of_pos hn h0
      exact Affine.select_holds (Affine.andi_holds (Affine.ne_holds hsx hsk (by decide)) (Affine.ne_holds hr z0 (fun h => hdv (hd.mpr h))))
        (Affine.subi hq z1 ⟨rfl, by omega, by omega⟩) hq (by omega)
    · rw [if_pos (Or.inl hp), add_zero] at hq
      have hp' : 0 < e := by
        rcases Int.lt_or_eq_of_le hp with h | h
        · exact h
        · exact absurd (h ▸ Int.dvd_zero kk) hdv
      have hsx : IsInt (Scalar.subi (Scalar.extui (Scalar.cmpi .sgt x 0#32)) (Scalar.extui (Scalar.cmpi .slt x 0#32))) 1 :=
        Affine.subi (Affine.extui_holds (Affine.sgt_holds hx z0 hp') rfl) (Affine.extui_fails (Affine.slt_fails hx z0 (by omega)) rfl) ⟨rfl, by decide, by decide⟩
      have hhi : e / kk ≤ e := Int.ediv_le_self kk hp
      have hlo : 0 ≤ e / kk := Int.ediv_nonneg hp h0.le
      exact Affine.select_fails (Affine.andi_fails_left (Affine.ne_fails hsx hsk rfl) trivial) (Affine.subi hq z1 ⟨rfl, by omega, by omega⟩) hq rfl

/-- A tile's window starts one block of eight before the first block the search found. -/
def est (a : ℕ) : ℕ := 8 * (a - 1)

/-- How many trips of four chunks its loop makes. -/
def quads (a b : ℕ) : ℕ := max ((((8 * b : ℤ) - (est a : ℤ) + 127) / 128 + 3) / 4).toNat 1

/-- A small word read as an integer is its natural value. -/
theorem int_of_nat {v : BitVec 32} (h : v.toNat ≤ 1000000) : IsInt v (v.toNat : ℤ) := by
  unfold IsInt; rw [BitVec.toInt_eq_toNat_cond, if_pos (by omega)]

section
variable {v5 v7 : BitVec 32} (h5 : v5.toNat ≤ 20000) (h7 : v7.toNat ≤ 20000)
include h5

theorem v10_int : IsInt (Scalar.muli 8#32 (Scalar.maxsi (Scalar.subi v5 1#32) 0#32)) (est v5.toNat : ℤ) := by
  have h := int_of_nat (v := v5) (by omega)
  refine Affine.muli (Affine.ofNat 8 ⟨rfl, by decide⟩) (Affine.maxsi (Affine.subi h (Affine.ofNat 1 ⟨rfl, by decide⟩) ⟨rfl, by omega, by omega⟩)
    (Affine.ofNat 0 ⟨rfl, by decide⟩) rfl) ⟨?_, ?_, ?_⟩ <;> unfold est <;> omega

theorem off12_eq : k0_off12 v5 = ![est v5.toNat + 128 * 0] := by
  have h := v10_int h5
  exact Affine.vec_cons h (by omega) Affine.vec_nil

theorem off13_eq : k0_off13 v5 = ![est v5.toNat + 128 * (4 * 0 + 1)] := by
  have h := v10_int h5
  have hb : est v5.toNat ≤ 160000 := by unfold est; omega
  exact Affine.vec_cons (Affine.addi h (Affine.ofNat 128 ⟨rfl, by decide⟩) ⟨rfl, by omega, by omega⟩) (by push_cast; omega) Affine.vec_nil

theorem chk3_of : k0_chk3 v5 := by
  have hb : est v5.toNat ≤ 159992 := by unfold est; omega
  refine ⟨fun a => ?_, fun a => ?_⟩
  · rw [off12_eq h5]; match a with | ⟨0, _⟩ => show est v5.toNat + 128 * 0 + 128 ≤ 161024; omega
  · rw [off13_eq h5]; match a with | ⟨0, _⟩ => show est v5.toNat + 128 * (4 * 0 + 1) + 128 ≤ 161024; omega

include h7

/-- The trip count's word. -/
@[reducible] def quadWord (v5 v7 : BitVec 32) : BitVec 32 :=
  Scalar.maxsi (floorWord (Scalar.addi (floorWord (Scalar.subi (Scalar.addi (Scalar.subi (Scalar.muli 8#32 v7)
    (Scalar.muli 8#32 (Scalar.maxsi (Scalar.subi v5 1#32) 0#32))) 128#32) 1#32) 128#32) 3#32) 4#32) 1#32

theorem quadWord_int : IsInt (quadWord v5 v7) (quads v5.toNat v7.toNat : ℤ) := by
  have h10 := v10_int h5
  have hb : est v5.toNat ≤ 159992 := by unfold est; omega
  have h := int_of_nat (v := v7) (by omega)
  have e1 := Affine.muli (e := 8 * (v7.toNat : ℤ)) (Affine.ofNat 8 ⟨rfl, by decide⟩) h ⟨rfl, by omega, by omega⟩
  have e2 := Affine.subi (e := 8 * (v7.toNat : ℤ) - est v5.toNat) e1 h10 ⟨rfl, by omega, by omega⟩
  have e3 := Affine.addi (e := 8 * (v7.toNat : ℤ) - est v5.toNat + 128) e2 (Affine.ofNat 128 ⟨rfl, by decide⟩) ⟨rfl, by omega, by omega⟩
  have e4 := Affine.subi (e := 8 * (v7.toNat : ℤ) - est v5.toNat + 127) e3 (Affine.ofNat 1 ⟨rfl, by decide⟩) ⟨by omega, by omega, by omega⟩
  have e5 := floorWord_int _ _ _ 128 e4 (Affine.ofNat 128 ⟨rfl, by decide⟩) (by decide) (by omega) (by omega)
  have e6 := Affine.addi (e := (8 * (v7.toNat : ℤ) - est v5.toNat + 127) / 128 + 3) e5 (Affine.ofNat 3 ⟨rfl, by decide⟩) ⟨rfl, by omega, by omega⟩
  have e7 := floorWord_int _ _ _ 4 e6 (Affine.ofNat 4 ⟨rfl, by decide⟩) (by decide) (by omega) (by omega)
  exact Affine.maxsi e7 (Affine.ofNat 1 ⟨rfl, by decide⟩) (by unfold quads; omega)

theorem quads_le : est v5.toNat + 128 * (4 * quads v5.toNat v7.toNat + 2) ≤ 161024 := by
  unfold quads est; omega

theorem ub_int : IsInt (k0_t5_loop v5 v7).ub (quads v5.toNat v7.toNat : ℤ) := by
  have h := quadWord_int h5 h7
  have hq := quads_le h5 h7
  have e : (k0_t5_loop v5 v7).ub = Scalar.addi 0#32 (Scalar.muli (Scalar.divsi (Scalar.subi (quadWord v5 v7) 0#32) 1#32) 1#32) := rfl
  rw [e, Scalar.muli_divsi_one]
  exact Affine.addi (Affine.ofNat 0 ⟨rfl, by decide⟩) (Affine.subi h (Affine.ofNat 0 ⟨rfl, by decide⟩) ⟨rfl, by omega, by omega⟩) ⟨by push_cast; omega, by omega, by omega⟩

theorem t5_trips : (k0_t5_loop v5 v7).trips = quads v5.toNat v7.toNat :=
  Affine.trips_eq (Affine.ofNat 0 ⟨rfl, by decide⟩) (ub_int h5 h7) (Affine.ofNat 1 ⟨rfl, by decide⟩) _ ⟨by decide, by push_cast; omega⟩

theorem t5_ok : (k0_t5_loop v5 v7).OK := by
  have hq := quads_le h5 h7
  exact Affine.ok (Affine.ofNat 0 ⟨rfl, by decide⟩) (ub_int h5 h7) (Affine.ofNat 1 ⟨rfl, by decide⟩) ⟨by decide, by push_cast; omega⟩

theorem off14_eq (t5 : Fin (k0_t5_loop v5 v7).trips) (r : Fin 4) :
    k0_off14 v5 v7 t5 (BitVec.ofNat 32 r.val) = ![est v5.toNat + 128 * (4 * t5.val + r.val + 2)] := by
  have h := v10_int h5
  have hb : est v5.toNat ≤ 159992 := by unfold est; omega
  have ht : t5.val < quads v5.toNat v7.toNat := lt_of_lt_of_eq t5.isLt (t5_trips h5 h7)
  have hq := quads_le h5 h7
  have hr := r.isLt
  have e1 : IsInt (Scf.iv 0#32 1#32 t5.val) (t5.val : ℤ) :=
    Affine.iv (Affine.ofNat 0 ⟨rfl, by decide⟩) (Affine.ofNat 1 ⟨rfl, by decide⟩) t5.val ⟨by push_cast; omega, by omega, by omega⟩
  have e2 := Affine.muli (e := 4 * (t5.val : ℤ)) e1 (Affine.ofNat 4 ⟨rfl, by decide⟩) ⟨by push_cast; omega, by omega, by omega⟩
  have e3 := Affine.addi (e := 4 * (t5.val : ℤ) + r.val) e2 (Affine.ofNat r.val ⟨rfl, by omega⟩) ⟨rfl, by omega, by omega⟩
  have e4 := Affine.addi (e := 4 * (t5.val : ℤ) + r.val + 2) e3 (Affine.ofNat 2 ⟨rfl, by decide⟩) ⟨rfl, by omega, by omega⟩
  have e5 := Affine.muli (e := 128 * (4 * (t5.val : ℤ) + r.val + 2)) e4 (Affine.ofNat 128 ⟨rfl, by decide⟩) ⟨by push_cast; omega, by omega, by omega⟩
  have e6 := Affine.addi (e := est v5.toNat + 128 * (4 * (t5.val : ℤ) + r.val + 2)) h e5 ⟨rfl, by omega, by omega⟩
  exact Affine.vec_cons e6 (by push_cast; omega) Affine.vec_nil

theorem chk4_of : k0_chk4 v5 v7 := by
  refine ⟨t5_ok h5 h7, fun t5 r a => ?_, Scf.rem_ok _ _, fun t14 => (Scf.rem_no_trip _ _ t14).elim⟩
  have ht : t5.val < quads v5.toNat v7.toNat := lt_of_lt_of_eq t5.isLt (t5_trips h5 h7)
  have hq := quads_le h5 h7
  have hr := r.isLt
  rw [off14_eq h5 h7 t5 r]
  match a with | ⟨0, _⟩ => show est v5.toNat + 128 * (4 * t5.val + r.val + 2) + 128 ≤ 161024; omega

end

end Cert.Proof.Run

end
-- ==== Proof.Search.lean ====
/-
  A tile's binary search over the block-of-eight starts of the segment ids, and what it finds: the number of leading blocks whose
  first id is below the bound, a number that never exceeds 20000 whatever the ids are.
-/
module

public import proofs.«01_k».proof.Proof.Inv5
public import proofs.«01_k».proof.Proof.Words

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The segment ids as a sequence. -/
def segAt (d : Dev nD) (L : grid0.Coords) (fs : Buf (Elt F) (sW.view.loc (thr d L))) (n : ℕ) : BitVec 32 :=
  if h : n < 161024 then sW.view.read (Elt F) fs (ix1 (n0 := 161024) ⟨n, h⟩) else 0#32

/-- A sequence of words that, once at or above a bound, stays there. -/
def Rising (S : ℕ → BitVec 32) : Prop :=
  ∀ (g : BitVec 32) (a b : ℕ), a ≤ b → b < 160000 → (S a).slt g = false → (S b).slt g = false

/-- What the search knows of its candidate `m` before trip `k`. -/
def probe (g : BitVec 32) (S : ℕ → BitVec 32) (k : ℕ) (m : BitVec 32) : Prop :=
  m.toNat ≤ 20000 ∧ (m.toNat = 0 ∨ (S (8 * (m.toNat - 1))).slt g = true)
    ∧ (Rising S → ∀ b, m.toNat + 2 ^ (15 - k) ≤ b → b ≤ 20000 → (S (8 * (b - 1))).slt g = false)

theorem probe_zero (g : BitVec 32) (S : ℕ → BitVec 32) : probe g S 0 0#32 :=
  ⟨by decide, Or.inl rfl, fun _ b h1 h2 => by simp at h1; omega⟩

/-- The candidate tried at trip `k`. -/
@[reducible] def cand (k : ℕ) (m : BitVec 32) : BitVec 32 := Scalar.addi m (Scalar.shrsi 16384#32 (Scf.iv 0#32 1#32 k))

theorem stride (k : Fin 15) : (Scalar.shrsi 16384#32 (Scf.iv 0#32 1#32 k.val)).toNat = 2 ^ (14 - k.val) := by
  revert k; decide

theorem cand_nat (k : Fin 15) {m : BitVec 32} (h : m.toNat ≤ 20000) : (cand k.val m).toNat = m.toNat + 2 ^ (14 - k.val) := by
  have hs := stride k
  have h2 : 2 ^ (14 - k.val) ≤ 2 ^ 14 := Nat.pow_le_pow_right (by decide) (by omega)
  show (m + _ : BitVec 32).toNat = _
  rw [BitVec.toNat_add, hs, Nat.mod_eq_of_lt (by omega)]

theorem cand_off (k : Fin 15) {m : BitVec 32} (h : m.toNat ≤ 20000) :
    (![(Scalar.muli (Scalar.subi (Scalar.minsi (cand k.val m) 20000#32) 1#32) 8#32).toNat] : Fin 1 → ℕ) = ![8 * (min (m.toNat + 2 ^ (14 - k.val)) 20000 - 1)] := by
  have hc := cand_nat k h
  have h2 : 2 ^ (14 - k.val) ≤ 2 ^ 14 := Nat.pow_le_pow_right (by decide) (by omega)
  have h1 : 1 ≤ 2 ^ (14 - k.val) := Nat.one_le_two_pow
  have e0 : Affine.IsInt (cand k.val m) ((cand k.val m).toNat : ℤ) := int_of_nat (by omega)
  have e1 := Affine.minsi (e := (min (m.toNat + 2 ^ (14 - k.val)) 20000 : ℕ)) e0 (Affine.ofNat 20000 ⟨rfl, by decide⟩) (by push_cast [hc]; rfl)
  have e2 := Affine.subi (e := ((min (m.toNat + 2 ^ (14 - k.val)) 20000 - 1 : ℕ) : ℤ)) e1 (Affine.ofNat 1 ⟨rfl, by decide⟩) ⟨by omega, by omega, by omega⟩
  have e3 := Affine.muli (e := 8 * ((min (m.toNat + 2 ^ (14 - k.val)) 20000 - 1 : ℕ) : ℤ)) e2 (Affine.ofNat 8 ⟨rfl, by decide⟩) ⟨by ring, by omega, by omega⟩
  exact Affine.vec_cons e3 (by push_cast; omega) Affine.vec_nil

theorem cand_inb (k : Fin 15) (m : BitVec 32) : 8 * (min (m.toNat + 2 ^ (14 - k.val)) 20000 - 1) + 16 ≤ 161024 := by omega

theorem slt_of_nat {a : BitVec 32} (h : a.toNat ≤ 1000000) : Scalar.cmpi .sle a 20000#32 = BitVec.ofBool (decide (a.toNat ≤ 20000)) := by
  show BitVec.ofBool (a.sle 20000#32) = _
  congr 1
  rw [BitVec.sle_eq_decide, BitVec.toInt_eq_toNat_cond, if_pos (by omega)]
  refine decide_eq_decide.mpr ?_
  show ((a.toNat : ℤ) ≤ 20000) ↔ _
  omega

/-- One trip of the search. -/
theorem probe_step (g : BitVec 32) (S : ℕ → BitVec 32) (k : Fin 15) (m w : BitVec 32) (h : probe g S k.val m)
    (hw : m.toNat + 2 ^ (14 - k.val) ≤ 20000 → w = S (8 * (m.toNat + 2 ^ (14 - k.val) - 1))) :
    probe g S (k.val + 1) (Scalar.select (Scalar.andi (Scalar.cmpi .sle (cand k.val m) 20000#32) (Scalar.cmpi .slt w g)) (cand k.val m) m) := by
  obtain ⟨hm, hlt, hge⟩ := h
  have hc := cand_nat k hm
  have h2 : 2 ^ (14 - k.val) ≤ 2 ^ 14 := Nat.pow_le_pow_right (by decide) (by omega)
  have h1 : 1 ≤ 2 ^ (14 - k.val) := Nat.one_le_two_pow
  have e15 : 2 ^ (15 - k.val) = 2 ^ (14 - k.val) + 2 ^ (14 - k.val) := by
    rw [show 15 - k.val = (14 - k.val) + 1 by omega, pow_succ]; ring
  have e14 : 15 - (k.val + 1) = 14 - k.val := by omega
  rw [slt_of_nat (by omega), show Scalar.cmpi .slt w g = BitVec.ofBool (w.slt g) from rfl]
  unfold probe
  rw [e14]
  by_cases hp : m.toNat + 2 ^ (14 - k.val) ≤ 20000
  · have hw' := hw hp
    rw [decide_eq_true (by rw [hc]; exact hp)]
    cases hs : w.slt g
    · rw [show Scalar.select (Scalar.andi (BitVec.ofBool true) (BitVec.ofBool false)) (cand k.val m) m = m from rfl]
      refine ⟨hm, hlt, fun hr b hb1 hb2 => ?_⟩
      exact hr g _ _ (by omega) (by omega) (hw' ▸ hs)
    · rw [show Scalar.select (Scalar.andi (BitVec.ofBool true) (BitVec.ofBool true)) (cand k.val m) m = cand k.val m from rfl, hc]
      exact ⟨hp, Or.inr (hw' ▸ hs), fun hr b hb1 hb2 => hge hr b (by omega) hb2⟩
  · rw [decide_eq_false (by rw [hc]; exact hp)]
    rw [show Scalar.select (Scalar.andi (BitVec.ofBool false) (BitVec.ofBool (w.slt g))) (cand k.val m) m = m from by cases w.slt g <;> rfl]
    exact ⟨hm, hlt, fun hr b hb1 hb2 => by omega⟩

/-- What a search holds between two trips: the ids, its sixteen words of scratch, its counter at zero. -/
def inv1 (d : Dev nD) (L : grid0.Coords) (g : BitVec 32) (sem : SemLoc sig) (O : CellTallies nD τ sig (HIx 1)) (W : Waits sig (HIx 1)) (qg : PosShare TreeShare)
    (fs : Buf (Elt F) (sW.view.loc (thr d L))) (k : ℕ) (m : BitVec 32) : sProp 𝕄 :=
  iprop(∃ (W' : Waits sig (HIx 1)), ⌜probe g (segAt d L fs) k m ∧ ∀ p ∈ W', p ∈ W ∨ p.2 = none⌝
    ∗ Transfers.MayWaits (thr d L) (default : HIx 1) O ∗ owes (thr d L) O W'
    ∗ (sW.view.loc (thr d L) ↦[sW.view.set]{qg} fs) ∗ some_ d L bW ∗ semVal (thr d L, sem) 0)

/-- The two searches' bodies at the tile's own scratch. -/
abbrev body1 (L : grid0.Coords) :=
  k0_t1_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4
abbrev body2 (L : grid0.Coords) :=
  k0_t2_body (F := F) L xW (Memref.isWhole_whole _) gW (Memref.isWhole_whole _) sW (Memref.isWhole_whole _) oW (Memref.isWhole_whole _)
    raW (Memref.isWhole_whole _) rbW (Memref.isWhole_whole _) accW (Memref.isWhole_whole _) cntW (Memref.isWhole_whole _)
    s0W (Memref.isWhole_whole _) s1W (Memref.isWhole_whole _) s2W (Memref.isWhole_whole _) s3W (Memref.isWhole_whole _)
    g0W (Memref.isWhole_whole _) g1W (Memref.isWhole_whole _) g2W (Memref.isWhole_whole _) g3W (Memref.isWhole_whole _)
    bW (Memref.isWhole_whole _) cc0_scratch13 cc0_scratch14 cc0_scratch15 cc0_scratch16 cc0_scratch17 cc0_scratch18
    cc0_scoped0 cc0_scoped1 cc0_scoped2 cc0_scoped3 cc0_scoped4

theorem cand_chk (k : Fin 15) {m : BitVec 32} (h : m.toNat ≤ 20000) (off : Fin 1 → ℕ)
    (e : off = ![(Scalar.muli (Scalar.subi (Scalar.minsi (cand k.val m) 20000#32) 1#32) 8#32).toNat]) : ∀ a, off a + S16.size a ≤ S161024.size a := by
  rw [e, cand_off k h]
  intro a
  match a with | ⟨0, _⟩ => exact cand_inb k m

/-- The first of the sixteen words fetched is the id at the offset. -/
theorem lane_read (d : Dev nD) (L : grid0.Coords) (fs : Buf (Elt F) (sW.view.loc (thr d L))) (k : Fin 15) {m : BitVec 32} (h : m.toNat ≤ 20000) (off : Fin 1 → ℕ)
    (inb : ∀ a, off a + S16.size a ≤ S161024.size a)
    (e : off = ![(Scalar.muli (Scalar.subi (Scalar.minsi (cand k.val m) 20000#32) 1#32) 8#32).toNat])
    (hp : m.toNat + 2 ^ (14 - k.val) ≤ 20000) :
    (sW.slice (Rect.unit (s := S161024) off S16.size inb) (fun _ => rfl)).view.read (Elt F) fs (ix1 (n0 := 16) 0) = segAt d L fs (8 * (m.toNat + 2 ^ (14 - k.val) - 1)) := by
  have e' := e.trans (cand_off k h)
  rw [min_eq_left hp] at e'
  subst e'
  unfold segAt
  rw [dif_pos (by omega)]
  show sW.view.read (Elt F) fs ((Rect.unit (s := S161024) _ S16.size inb).idx (ix1 (n0 := 16) 0)) = _
  congr 1
  funext a
  match a with
  | ⟨0, _⟩ => exact Fin.ext (by simp [LoadRect.idx, Rect.unit])

/-- The lane read back from the scratch is the first word landed there. -/
theorem lane_of (x : S16.Idx → BitVec 32) :
    extractAt ![0] (k0_pay310 (F := F) (bW.view.readCov (Val := Elt F) [⟨Rect.whole S16, x⟩] (Rect.unit (s := S16) ![0] S16.size inb_S16_S16_0).toLoadRect)) inpos_S1_p0
      = x (ix1 (n0 := 16) 0) := by
  have h : (bW.view.readCov (Val := Elt F) [⟨Rect.whole S16, x⟩] (Rect.unit (s := S16) ![0] S16.size inb_S16_S16_0).toLoadRect) = x := by
    funext i
    unfold View.readCov
    rw [View.readAt_apply, View.read_writes_whole]
    congr 1
    funext a
    match a with | ⟨0, _⟩ => exact Fin.ext (by simp [LoadRect.idx, Rect.unit])
  rw [h]
  unfold k0_pay310
  simp only [shapeCast_self]
  show x _ = _
  congr 1
  funext a
  match a with | ⟨0, _⟩ => rfl

set_option maxHeartbeats 4000000 in
theorem trip1 (d : Dev nD) (L : grid0.Coords) (v2 : BitVec 32) (O : CellTallies nD τ sig (HIx 1)) (W : Waits sig (HIx 1)) (qg : PosShare TreeShare)
    (fs : Buf (Elt F) (sW.view.loc (thr d L))) (t : Fin k0_t1_loop.trips) (m : BitVec 32) :
    inv1 d L v2 (SemLoc.dma cc0_scoped0.sem) O W qg fs t.val m
      ⊢ wp frame (wpE (defs₀ (F := F)) 𝒱₀ (thr d L) none) Set.univ (body1 L v2 t m)
          (fun m' => inv1 d L v2 (SemLoc.dma cc0_scoped0.sem) O W qg fs (t.val + 1) m') := by
  have ht : t.val < 15 := t.isLt
  unfold inv1 some_ body1 k0_t1_body
  iintro ⟨%W', %hp, Hmw, HO, Hs, ⟨%fb, Hb⟩, Hc⟩
  obtain ⟨hp, hW'⟩ := hp
  have hchk : k0_chk1 t m := cand_chk ⟨t.val, ht⟩ hp.1 _ rfl
  sl_exec
  sl_step
  iexists _; isplitr
  swap
  · isplitl [Hmw]; · iexact Hmw
    isplitl [HO]; · iexact HO
    isplitl [Hs]; · iexact Hs
    isplitl [Hb]; · iexists _; iexact Hb
    iexact Hc
  · ipureintro
    refine ⟨probe_step v2 _ ⟨t.val, ht⟩ m _ hp fun h => ?_, fun p hp => ?_⟩
    · exact (lane_of (trip1.sl.dma0 d L fs t m hchk)).trans (lane_read d L fs ⟨t.val, ht⟩ hp.1 _ hchk rfl h)
    · simp only [Finset.mem_insert] at hp
      rcases hp with rfl | hp
      · exact Or.inr rfl
      · exact hW' p hp

set_option maxHeartbeats 4000000 in
theorem trip2 (d : Dev nD) (L : grid0.Coords) (v3 : BitVec 32) (O : CellTallies nD τ sig (HIx 1)) (W : Waits sig (HIx 1)) (qg : PosShare TreeShare)
    (fs : Buf (Elt F) (sW.view.loc (thr d L))) (t : Fin k0_t2_loop.trips) (m : BitVec 32) :
    inv1 d L v3 (SemLoc.dma cc0_scoped1.sem) O W qg fs t.val m
      ⊢ wp frame (wpE (defs₀ (F := F)) 𝒱₀ (thr d L) none) Set.univ (body2 L v3 t m)
          (fun m' => inv1 d L v3 (SemLoc.dma cc0_scoped1.sem) O W qg fs (t.val + 1) m') := by
  have ht : t.val < 15 := t.isLt
  unfold inv1 some_ body2 k0_t2_body
  iintro ⟨%W', %hp, Hmw, HO, Hs, ⟨%fb, Hb⟩, Hc⟩
  obtain ⟨hp, hW'⟩ := hp
  have hchk : k0_chk2 t m := cand_chk ⟨t.val, ht⟩ hp.1 _ rfl
  sl_exec
  sl_step
  iexists _; isplitr
  swap
  · isplitl [Hmw]; · iexact Hmw
    isplitl [HO]; · iexact HO
    isplitl [Hs]; · iexact Hs
    isplitl [Hb]; · iexists _; iexact Hb
    iexact Hc
  · ipureintro
    refine ⟨probe_step v3 _ ⟨t.val, ht⟩ m _ hp fun h => ?_, fun p hp => ?_⟩
    · exact (lane_of (trip2.sl.dma0 d L fs t m hchk)).trans (lane_read d L fs ⟨t.val, ht⟩ hp.1 _ hchk rfl h)
    · simp only [Finset.mem_insert] at hp
      rcases hp with rfl | hp
      · exact Or.inr rfl
      · exact hW' p hp

end Cert.Proof.Run

end
-- ==== Proof.Tile.lean ====
/-
  A tile's whole task: its two searches, then the two halves of the feature columns over the window of edges they found.
-/
module

public import proofs.«01_k».proof.Proof.Half
public import proofs.«01_k».proof.Proof.Search

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row indices as a sequence. -/
def gidAt (d : Dev nD) (L : grid0.Coords) (fg : Buf (Elt F) (gW.view.loc (thr d L))) (n : ℕ) : BitVec 32 :=
  if h : n < 161024 then gW.view.read (Elt F) fg (ix1 (n0 := 161024) ⟨n, h⟩) else 0#32

/-- The window of edges from position `n0`, over the columns of half `a`: each edge's local row and its row of values. -/
def edges (X : S20000x128.Idx → F .f32) (G S : ℕ → BitVec 32) (v2 v3 a : BitVec 32) (n0 : ℕ) : Edges F where
  le n := laneOf v2 v3 (S (n0 + n))
  row n c := X (ix2 (n0 := 20000) ⟨min (rowWord a (G (n0 + n))).toNat 19999, by omega⟩ c)

theorem win_at (d : Dev nD) (L : grid0.Coords) (m : Memref sig .scVector .hbm S161024 .i32) (f : Buf (Elt F) (m.view.loc (thr d L))) (n0 j : ℕ) (off : Fin 1 → ℕ)
    (inb : ∀ a, off a + S128.size a ≤ S161024.size a) (i : Fin 128) (h : off = ![n0 + 128 * j]) :
    win d L m off inb f (ix1 i) = if h : n0 + (128 * j + i.val) < 161024 then m.view.read (Elt F) f (ix1 (n0 := 161024) ⟨n0 + (128 * j + i.val), h⟩) else 0#32 := by
  subst h
  have h0 : n0 + 128 * j + 128 ≤ 161024 := inb 0
  have := i.isLt
  rw [dif_pos (by omega)]
  show m.view.read (Elt F) f ((Rect.unit (s := S161024) _ S128.size inb).idx (ix1 (n0 := 128) i)) = _
  congr 1
  funext a
  match a with
  | ⟨0, _⟩ => exact Fin.ext (by simp [LoadRect.idx, Rect.unit]; omega)

theorem xS_read (d : Dev nD) (L : grid0.Coords) (fx : Buf (Elt F) (xW.view.loc (thr d L))) (p : S20000x128.Idx) :
    xS.view.read (Elt F) fx p = xW.view.read (Elt F) fx p := by
  show xW.view.read (Elt F) fx ((Rect.unit (s := S20000x128) ![0, 0] S20000x128.size inb_S20000x128_S20000x128_0_0).idx p) = _
  congr 1
  funext a
  match a with
  | ⟨0, _⟩ => exact Fin.ext (by simp [LoadRect.idx, Rect.unit])
  | ⟨1, _⟩ => exact Fin.ext (by simp [LoadRect.idx, Rect.unit])

/-- Every index names a row of the values table. -/
def InRange (d : Dev nD) (L : grid0.Coords) (fg : Buf (Elt F) (gW.view.loc (thr d L))) : Prop :=
  ∀ i, (gW.view.read (Elt F) fg i).toNat < 10000

theorem rowWord_lt {a x : BitVec 32} (ha : a.toNat ≤ 1) (hx : x.toNat < 10000) : (rowWord a x).toNat < 20000 := by
  unfold rowWord
  rw [BitVec.toNat_add, BitVec.toNat_mul]
  show ((x.toNat * 2) % 4294967296 + a.toNat) % 4294967296 < 20000
  omega

theorem feed (d : Dev nD) (L : grid0.Coords) (v2 v3 a : BitVec 32) (fx : Buf (Elt F) (xW.view.loc (thr d L))) (fg : Buf (Elt F) (gW.view.loc (thr d L)))
    (fs : Buf (Elt F) (sW.view.loc (thr d L))) (n0 : ℕ) (ha : a.toNat ≤ 1) (hG : InRange d L fg) :
    Feed d L v2 v3 a fx fg fs (edges (xW.view.read (Elt F) fx) (gidAt d L fg) (segAt d L fs) v2 v3 a n0) n0 where
  seg j off inb i h := congrArg (laneOf v2 v3) (win_at d L sW fs n0 j off inb i h)
  inr off inb i := rowWord_lt ha (hG _)
  row j off inb i c h := by
    rw [xS_read]
    show _ = xW.view.read (Elt F) fx _
    congr 1
    have e : win d L gW off inb fg (ix1 i) = gidAt d L fg (n0 + (128 * j + i.val)) := win_at d L gW fg n0 j off inb i h
    have hlt : (rowWord a (win d L gW off inb fg (ix1 i))).toNat < 20000 := rowWord_lt ha (hG _)
    congr 1
    refine Fin.ext ?_
    show (rowWord a (win d L gW off inb fg (ix1 i))).toNat = min (rowWord a (gidAt d L fg (n0 + (128 * j + i.val)))).toNat 19999
    rw [← e]; omega

theorem laneOf_le {g0 g1 s : BitVec 32} (h0 : g0.toNat ≤ 1000000) (h1 : g1.toNat = g0.toNat + 320) : (laneOf g0 g1 s).toNat ≤ 320 := by
  unfold laneOf
  split
  · rename_i h
    obtain ⟨ha, hb⟩ := h
    rw [BitVec.slt_eq_decide, decide_eq_false_iff_not] at ha
    rw [BitVec.slt_eq_decide, decide_eq_true_eq] at hb
    rw [BitVec.toInt_eq_toNat_cond (x := g0), if_pos (by omega)] at ha
    rw [BitVec.toInt_eq_toNat_cond (x := g1), if_pos (by omega)] at hb
    have hs := BitVec.toInt_eq_toNat_cond s
    rw [BitVec.toNat_sub]
    have := s.isLt
    split at hs <;> omega
  · decide

/-- The first row of the tile's window of rows. -/
def lowId (L : grid0.Coords) : BitVec 32 :=
  Scalar.muli (Scalar.addi (Scalar.muli (BitVec.ofNat 32 (L 0).val) 16#32) (BitVec.ofNat 32 (L 1).val)) 320#32
def highId (L : grid0.Coords) : BitVec 32 := Scalar.addi (lowId L) 320#32

theorem lowId_nat (L : grid0.Coords) : (lowId L).toNat = 320 * (16 * (L 0).val + (L 1).val) := by
  have h0 : (L 0).val < 2 := (L 0).isLt
  have h1 : (L 1).val < 16 := (L 1).isLt
  show ((BitVec.ofNat 32 (L 0).val * 16#32 + BitVec.ofNat 32 (L 1).val) * 320#32 : BitVec 32).toNat = _
  rw [BitVec.toNat_mul, BitVec.toNat_add, BitVec.toNat_mul, BitVec.toNat_ofNat, BitVec.toNat_ofNat]
  show ((((L 0).val % 4294967296 * 16) % 4294967296 + (L 1).val % 4294967296) % 4294967296 * 320) % 4294967296 = _
  omega
theorem highId_nat (L : grid0.Coords) : (highId L).toNat = (lowId L).toNat + 320 := by
  have h0 : (L 0).val < 2 := (L 0).isLt
  have h1 : (L 1).val < 16 := (L 1).isLt
  have := lowId_nat L
  show (lowId L + 320#32 : BitVec 32).toNat = _
  rw [BitVec.toNat_add]
  show ((lowId L).toNat + 320) % 4294967296 = _
  omega

abbrev half0 : Fin k0_t3_loop.trips := ⟨0, by decide⟩
abbrev half1 : Fin k0_t3_loop.trips := ⟨1, by decide⟩

theorem half_cases (t : Fin k0_t3_loop.trips) : t = half0 ∨ t = half1 := by revert t; decide

/-- The contents of the two blocks of result rows after `k` halves, `C` being what the counters hold. -/
def outs (E : ℕ → Edges F) (N : ℕ) (C : FVec F S328x16 .f32) (r0 r1 : S320x128.Idx → F .f32) : ℕ → Prop
  | 0 => True
  | 1 => ∃ A C0, C = (closed 0 (E 0) N A C0).cnt ∧ ∀ x, r0 x = quot (closed 0 (E 0) N A C0) x
  | _ => ∃ A C0 A1, (∀ x, r0 x = quot (closed 0 (E 0) N A C0) x) ∧ ∀ x, r1 x = quot (closed 1 (E 1) N A1 (closed 0 (E 0) N A C0).cnt) x

def inv3 (d : Dev nD) (L : grid0.Coords) (O : CellTallies nD τ sig (HIx 1)) (W : Waits sig (HIx 1))
    (qx qy qg : PosShare TreeShare) (fx : Buf (Elt F) (xW.view.loc (thr d L))) (fg : Buf (Elt F) (gW.view.loc (thr d L)))
    (fs : Buf (Elt F) (sW.view.loc (thr d L))) (E : ℕ → Edges F) (N k : ℕ) : sProp 𝕄 :=
  iprop(∃ (C : FVec F S328x16 .f32) (f0 : Buf (Elt F) ((oH L half0).view.loc (thr d L))) (f1 : Buf (Elt F) ((oH L half1).view.loc (thr d L))),
    ⌜outs E N C ((oH L half0).view.read (Elt F) f0) ((oH L half1).view.read (Elt F) f1) k⌝
    ∗ gear d L O W qx qy qg fx fg fs ∗ tbl d L cntW C
    ∗ ((oH L half0).view.loc (thr d L) ↦[(oH L half0).view.set]{fullShare} f0) ∗ ((oH L half1).view.loc (thr d L) ↦[(oH L half1).view.set]{fullShare} f1))

/-- The tile's window of edges over the columns of half `a`. -/
abbrev tileEdges (d : Dev nD) (L : grid0.Coords) (fx : Buf (Elt F) (xW.view.loc (thr d L))) (fg : Buf (Elt F) (gW.view.loc (thr d L)))
    (fs : Buf (Elt F) (sW.view.loc (thr d L))) (v5 : BitVec 32) (a : ℕ) : Edges F :=
  edges (xW.view.read (Elt F) fx) (gidAt d L fg) (segAt d L fs) (lowId L) (highId L) (Scf.iv 0#32 1#32 a) (est v5.toNat)

variable (O : CellTallies nD τ sig (HIx 1)) (W : Waits sig (HIx 1)) (qx qy qg : PosShare TreeShare)

/-- A half taken with a resource it does not touch. -/
theorem trip_step (d : Dev nD) (L : grid0.Coords) (v1 v5 : BitVec 32) (hw3 : k0_chk3 v5) (v7 : BitVec 32) (hw4 : k0_chk4 v5 v7) (v10 v50 : BitVec 32)
    (h5 : v5.toNat ≤ 20000) (h7 : v7.toNat ≤ 20000) (fx : Buf (Elt F) (xW.view.loc (thr d L))) (fg : Buf (Elt F) (gW.view.loc (thr d L)))
    (fs : Buf (Elt F) (sW.view.loc (thr d L))) (hG : InRange d L fg)
    (t : Fin k0_t3_loop.trips) (c : BitVec 32) :
    inv3 d L O W qx qy qg fx fg fs (tileEdges d L fx fg fs v5) (512 * quads v5.toNat v7.toNat) t.val
      ⊢ wp frame (wpE (defs₀ (F := F)) 𝒱₀ (thr d L) none) Set.univ (body3 L v1 (lowId L) (highId L) v5 hw3 v7 hw4 v10 v50 t c)
          (fun _ => inv3 d L O W qx qy qg fx fg fs (tileEdges d L fx fg fs v5) (512 * quads v5.toNat v7.toNat) (t.val + 1)) := by
  have hle : ∀ a n, ((tileEdges d L fx fg fs v5 a).le n).toNat ≤ 320 := fun a n => laneOf_le (by rw [lowId_nat]; have h0 : (L 0).val < 2 := (L 0).isLt; have h1 : (L 1).val < 16 := (L 1).isLt; omega) (highId_nat L)
  have hfd : ∀ t : Fin k0_t3_loop.trips, Feed d L (lowId L) (highId L) (Scf.iv 0#32 1#32 t.val) fx fg fs (tileEdges d L fx fg fs v5 t.val) (est v5.toNat) :=
    fun t => feed d L _ _ _ fx fg fs _ (by revert t; decide) hG
  have run3 := fun (t : Fin k0_t3_loop.trips) C fo => trip3 d L v1 (lowId L) (highId L) v5 hw3 v7 hw4 v10 v50 t O W qx qy qg fx fg fs (tileEdges d L fx fg fs v5 t.val) (est v5.toNat) C fo
    (hle t.val) (hfd t) (off12_eq h5) (off13_eq h5) (off14_eq h5 h7) c
  rw [t5_trips h5 h7] at run3
  unfold inv3
  iintro ⟨%C, %f0, %f1, %ho, HG, HC, H0, H1⟩
  rcases half_cases t with rfl | rfl
  · ihave Hw := (run3 half0 C f0) $$ [HG HC H0]
    · isplitl [HG]; · iexact HG
      isplitl [HC]; · iexact HC
      iexact H0
    iapply (wp_wand frame (wpE (defs₀ (F := F)) 𝒱₀ (thr d L) none) Set.univ) $$ Hw
    iintro %_ ⟨HG, %A, HC, %f', %hf', H0⟩
    iexists _; iexists f'; iexists f1
    isplitr
    swap
    · isplitl [HG]; · iexact HG
      isplitl [HC]; · iexact HC
      isplitl [H0]; · iexact H0
      iexact H1
    · ipureintro
      exact ⟨A, C, rfl, hf'⟩
  · ihave Hw := (run3 half1 C f1) $$ [HG HC H1]
    · isplitl [HG]; · iexact HG
      isplitl [HC]; · iexact HC
      iexact H1
    iapply (wp_wand frame (wpE (defs₀ (F := F)) 𝒱₀ (thr d L) none) Set.univ) $$ Hw
    iintro %_ ⟨HG, %A1, HC, %f', %hf', H1⟩
    iexists _; iexists f0; iexists f'
    isplitr
    swap
    · isplitl [HG]; · iexact HG
      isplitl [HC]; · iexact HC
      isplitl [H0]; · iexact H0
      iexact H1
    · ipureintro
      obtain ⟨A, C0, hC, h0⟩ := ho
      exact ⟨A, C0, A1, h0, fun x => (hf' x).trans (by rw [hC])⟩

/-- What a tile leaves in its two blocks of rows. -/
def TileOut (d : Dev nD) (L : grid0.Coords) (fx : Buf (Elt F) (xW.view.loc (thr d L))) (fg : Buf (Elt F) (gW.view.loc (thr d L)))
    (fs : Buf (Elt F) (sW.view.loc (thr d L))) (r0 r1 : S320x128.Idx → F .f32) : Prop :=
  ∃ v5 v7 : BitVec 32, probe (lowId L) (segAt d L fs) 15 v5 ∧ probe (highId L) (segAt d L fs) 15 v7
    ∧ ∃ C, outs (tileEdges d L fx fg fs v5) (512 * quads v5.toNat v7.toNat) C r0 r1 2

set_option maxHeartbeats 8000000 in
theorem tile_run (d : Dev nD) (L : grid0.Coords) (fx : Buf (Elt F) (xW.view.loc (thr d L))) (fg : Buf (Elt F) (gW.view.loc (thr d L)))
    (fs : Buf (Elt F) (sW.view.loc (thr d L))) (hG : InRange d L fg) (f0 : Buf (Elt F) ((oH L half0).view.loc (thr d L))) (f1 : Buf (Elt F) ((oH L half1).view.loc (thr d L))) :
    iprop(gear d L O W qx qy qg fx fg fs ∗ some_ d L cntW ∗ some_ d L bW ∗ semVal (thr d L, SemLoc.dma cc0_scoped0.sem) 0 ∗ semVal (thr d L, SemLoc.dma cc0_scoped1.sem) 0
        ∗ ((oH L half0).view.loc (thr d L) ↦[(oH L half0).view.set]{fullShare} f0) ∗ ((oH L half1).view.loc (thr d L) ↦[(oH L half1).view.set]{fullShare} f1))
      ⊢ wp frame (wpE (defs₀ (F := F)) 𝒱₀ (thr d L) none) Set.univ
          (cc0__sc_body L xW (Memref.isWhole_whole _) gW (Memref.isWhole_whole _) sW (Memref.isWhole_whole _) oW (Memref.isWhole_whole _)
            raW (Memref.isWhole_whole _) rbW (Memref.isWhole_whole _) accW (Memref.isWhole_whole _) cntW (Memref.isWhole_whole _)
            s0W (Memref.isWhole_whole _) s1W (Memref.isWhole_whole _) s2W (Memref.isWhole_whole _) s3W (Memref.isWhole_whole _)
            g0W (Memref.isWhole_whole _) g1W (Memref.isWhole_whole _) g2W (Memref.isWhole_whole _) g3W (Memref.isWhole_whole _)
            bW (Memref.isWhole_whole _) cc0_scratch13 cc0_scratch14 cc0_scratch15 cc0_scratch16 cc0_scratch17 cc0_scratch18
            cc0_scoped0 cc0_scoped1 cc0_scoped2 cc0_scoped3 cc0_scoped4)
          (fun _ => iprop(gear d L O W qx qy qg fx fg fs ∗ some_ d L cntW ∗ some_ d L bW ∗ semVal (thr d L, SemLoc.dma cc0_scoped0.sem) 0 ∗ semVal (thr d L, SemLoc.dma cc0_scoped1.sem) 0
            ∗ ∃ (f0' : Buf (Elt F) ((oH L half0).view.loc (thr d L))) (f1' : Buf (Elt F) ((oH L half1).view.loc (thr d L))),
              ⌜TileOut d L fx fg fs ((oH L half0).view.read (Elt F) f0') ((oH L half1).view.read (Elt F) f1')⌝
              ∗ ((oH L half0).view.loc (thr d L) ↦[(oH L half0).view.set]{fullShare} f0') ∗ ((oH L half1).view.loc (thr d L) ↦[(oH L half1).view.set]{fullShare} f1'))) := by
  unfold gear some_
  iintro ⟨⟨%W', %hW', Hmw, HO, Hx, Hy, Hs, Hg, Hra, Hrb, Hacc, Hs0, Hs1, Hs2, Hs3, Hg0, Hg1, Hg2, Hg3, Hga, Hgb, Hb0, Hb1, Hb2, Hb3, Hc2, Hc3, Hc4⟩, ⟨%fc, Hcnt⟩, Hb, Hc0, Hc1, H0, H1⟩
  rw [cc0__sc_body_eq_skeleton]
  unfold cc0__sc_body_skel
  rw [k0_part41_eq_skeleton]
  unfold k0_part41_skel
  rw [Prog.bind_assoc]
  sl_for (fun k c => inv1 d L (lowId L) (SemLoc.dma cc0_scoped0.sem) O W qg fs k c) $$ [Hmw HO Hs Hb Hc0]
  case region =>
    intro k c
    exact trip1 d L (lowId L) O W qg fs k c
  · unfold inv1 some_
    iexists W'; isplitr
    swap
    · isplitl [Hmw]; · iexact Hmw
      isplitl [HO]; · iexact HO
      isplitl [Hs]; · iexact Hs
      isplitl [Hb]; · iexact Hb
      iexact Hc0
    · ipureintro; exact ⟨probe_zero _ _, hW'⟩
  iintro %v5 Hi
  unfold inv1 some_
  icases Hi with ⟨%W1, %hp1, Hmw, HO, Hs, Hb, Hc0⟩
  obtain ⟨hp5, hW1⟩ := hp1
  have hp5' : probe (lowId L) (segAt d L fs) 15 v5 := hp5
  have hk3 : k0_chk3 v5 := chk3_of hp5'.1
  sl_exec
  rw [Prog.bind_assoc]
  sl_for (fun k c => inv1 d L (highId L) (SemLoc.dma cc0_scoped1.sem) O W qg fs k c) $$ [Hmw HO Hs Hb Hc1]
  case region =>
    intro k c
    exact trip2 d L (highId L) O W qg fs k c
  · unfold inv1 some_
    iexists W1; isplitr
    swap
    · isplitl [Hmw]; · iexact Hmw
      isplitl [HO]; · iexact HO
      isplitl [Hs]; · iexact Hs
      isplitl [Hb]; · iexact Hb
      iexact Hc1
    · ipureintro; exact ⟨probe_zero _ _, hW1⟩
  iintro %v7 Hi
  unfold inv1 some_
  icases Hi with ⟨%W2, %hp2, Hmw, HO, Hs, Hb, Hc1⟩
  obtain ⟨hp7, hW2⟩ := hp2
  have hp7' : probe (highId L) (segAt d L fs) 15 v7 := hp7
  have hk4 : k0_chk4 v5 v7 := chk4_of hp5'.1 hp7'.1
  sl_exec
  sl_for (fun k _ => inv3 d L O W qx qy qg fx fg fs (tileEdges d L fx fg fs v5) (512 * quads v5.toNat v7.toNat) k)
    $$ [Hmw HO Hx Hy Hs Hg Hra Hrb Hacc Hs0 Hs1 Hs2 Hs3 Hg0 Hg1 Hg2 Hg3 Hga Hgb Hb0 Hb1 Hb2 Hb3 Hc2 Hc3 Hc4 Hcnt H0 H1]
  case region =>
    intro k c
    exact trip_step O W qx qy qg d L _ v5 hk3 v7 hk4 _ _ hp5'.1 hp7'.1 fx fg fs hG k c
  · unfold inv3 gear some_ tbl
    iexists (cntW.view.read (Elt F) fc); iexists f0; iexists f1
    isplitr
    · ipureintro; exact trivial
    isplitr [Hcnt H0 H1]
    · iexists W2; isplitr
      · ipureintro; exact hW2
      isplitl [Hmw]; · iexact Hmw
      isplitl [HO]; · iexact HO
      isplitl [Hx]; · iexact Hx
      isplitl [Hy]; · iexact Hy
      isplitl [Hs]; · iexact Hs
      isplitl [Hg]; · iexact Hg
      isplitl [Hra]; · iexact Hra
      isplitl [Hrb]; · iexact Hrb
      isplitl [Hacc]; · iexact Hacc
      isplitl [Hs0]; · iexact Hs0
      isplitl [Hs1]; · iexact Hs1
      isplitl [Hs2]; · iexact Hs2
      isplitl [Hs3]; · iexact Hs3
      isplitl [Hg0]; · iexact Hg0
      isplitl [Hg1]; · iexact Hg1
      isplitl [Hg2]; · iexact Hg2
      isplitl [Hg3]; · iexact Hg3
      isplitl [Hga]; · iexact Hga
      isplitl [Hgb]; · iexact Hgb
      isplitl [Hb0]; · iexact Hb0
      isplitl [Hb1]; · iexact Hb1
      isplitl [Hb2]; · iexact Hb2
      isplitl [Hb3]; · iexact Hb3
      isplitl [Hc2]; · iexact Hc2
      isplitl [Hc3]; · iexact Hc3
      iexact Hc4
    isplitl [Hcnt]
    · iexists fc; isplitr
      · ipureintro; rfl
      · iexact Hcnt
    isplitl [H0]; · iexact H0
    iexact H1
  iintro %_ Hi
  unfold inv3
  icases Hi with ⟨%C, %f0', %f1', %ho, HG, HC, H0, H1⟩
  sl_step
  isplitl [HG]; · unfold gear some_; iexact HG
  isplitl [HC]
  · unfold tbl
    icases HC with ⟨%fc', -, HC⟩
    iexists fc'; iexact HC
  isplitl [Hb]; · iexact Hb
  isplitl [Hc0]; · iexact Hc0
  isplitl [Hc1]; · iexact Hc1
  iexists f0'; iexists f1'
  isplitr
  · ipureintro; exact ⟨v5, v7, hp5', hp7', C, ho⟩
  isplitl [H0]; · iexact H0
  iexact H1

end Cert.Proof.Run

end
-- ==== Proof.Blocks.lean ====
/-
  The result array cut into the tiles' blocks: two blocks of 320 rows a tile, one in each half of the columns.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem ivHalf : ∀ t : Fin k0_t3_loop.trips, (Scf.iv 0#32 1#32 t.val : BitVec 32).toNat = t.val := by decide

/-- Where entry `x` of a tile's block lies in the result array. -/
theorem oH_emb (L : grid0.Coords) (t : Fin k0_t3_loop.trips) (x : S320x128.Idx) :
    (((oH L t).view.emb x 0).val = t.val ∧ ((oH L t).view.emb x 1).val = (lowId L).toNat + (x 0).val) ∧ ((oH L t).view.emb x 2).val = (x 1).val := by
  have h1 : (oH L t).view.emb x = (Rect.unit (s := S2x10240x128) (k0_off178 t) S1x10240x128.size (k0_off178_inb t)).emb
      (Shape.reshapeEquiv squeezes_S1x10240x128_S10240x128.numel_eq ((Rect.unit (s := S10240x128) (k0_off179 L) S320x128.size (k0_off179_inb L)).emb x)) := rfl
  rw [h1, Shape.reshapeEquiv_cons_one]
  have ht := ivHalf t
  refine ⟨⟨?_, ?_⟩, ?_⟩
  · rw [Rect.emb_apply]
    show (Scf.iv 0#32 1#32 t.val : BitVec 32).toNat + 1 * 0 = _
    omega
  · rw [Rect.emb_apply]
    show 0 + 1 * ((Rect.unit (s := S10240x128) (k0_off179 L) S320x128.size (k0_off179_inb L)).emb x 0).val = _
    rw [Rect.emb_apply]
    show 0 + 1 * ((lowId L).toNat + 1 * (x 0).val) = _
    omega
  · rw [Rect.emb_apply]
    show 0 + 1 * ((Rect.unit (s := S10240x128) (k0_off179 L) S320x128.size (k0_off179_inb L)).emb x 1).val = _
    rw [Rect.emb_apply]
    show 0 + 1 * (0 + 1 * (x 1).val) = _
    omega

/-- The elements of a tile's block. -/
abbrev oK (L : grid0.Coords) (t : Fin k0_t3_loop.trips) : Finset S2x10240x128.Idx := (oH L t).view.set

theorem mem_oK (L : grid0.Coords) (t : Fin k0_t3_loop.trips) (p : S2x10240x128.Idx) :
    p ∈ oK L t ↔ (p 0).val = t.val ∧ (lowId L).toNat ≤ (p 1).val ∧ (p 1).val < (lowId L).toNat + 320 := by
  unfold oK View.set
  rw [Finset.mem_map]
  constructor
  · rintro ⟨x, -, rfl⟩
    obtain ⟨⟨h0, h1⟩, h2⟩ := oH_emb L t x
    have hx : (x 0).val < 320 := (x 0).isLt
    refine ⟨h0, ?_, ?_⟩ <;> rw [h1] <;> omega
  · rintro ⟨h0, h1, h2⟩
    refine ⟨ix2 (n0 := 320) (n1 := 128) ⟨(p 1).val - (lowId L).toNat, by omega⟩ (p 2), Finset.mem_univ _, ?_⟩
    obtain ⟨⟨e0, e1⟩, e2⟩ := oH_emb L t (ix2 (n0 := 320) (n1 := 128) ⟨(p 1).val - (lowId L).toNat, by omega⟩ (p 2))
    funext a
    refine Fin.ext ?_
    match a with
    | ⟨0, _⟩ => exact e0.trans h0.symm
    | ⟨1, _⟩ => exact e1.trans (Nat.add_sub_of_le h1)
    | ⟨2, _⟩ => exact e2

/-- The grid coordinates of vector subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's elements: both its blocks. -/
abbrev oT (L : grid0.Coords) : Finset S2x10240x128.Idx := oK L half0 ∪ oK L half1

theorem mem_oT (L : grid0.Coords) (p : S2x10240x128.Idx) : p ∈ oT L ↔ (lowId L).toNat ≤ (p 1).val ∧ (p 1).val < (lowId L).toNat + 320 := by
  unfold oT
  rw [Finset.mem_union, mem_oK, mem_oK]
  have h : (p 0).val < 2 := (p 0).isLt
  show ((p 0).val = 0 ∧ _) ∨ ((p 0).val = 1 ∧ _) ↔ _
  omega

theorem oK_disjoint (L : grid0.Coords) : Disjoint (oK L half0) (oK L half1) := by
  rw [Finset.disjoint_left]
  intro p h0 h1
  have e0 := ((mem_oK L half0 p).mp h0).1
  have e1 := ((mem_oK L half1 p).mp h1).1
  exact absurd (e0.symm.trans e1) (by decide)

abbrev coordsP (q : Fin 2 × Fin 16) : grid0.Coords := coordsV q.1 q.2

theorem lowId_coords (q : Fin 2 × Fin 16) : (lowId (coordsP q)).toNat = 320 * (16 * q.1.val + q.2.val) := lowId_nat _

theorem oT_disjoint : ∀ q ∈ (Finset.univ : Finset (Fin 2 × Fin 16)), ∀ q' ∈ (Finset.univ : Finset (Fin 2 × Fin 16)), q ≠ q' → Disjoint (oT (coordsP q)) (oT (coordsP q')) := by
  intro q _ q' _ hne
  rw [Finset.disjoint_left]
  intro p h h'
  rw [mem_oT, lowId_coords] at h h'
  refine hne (Prod.ext (Fin.ext ?_) (Fin.ext ?_)) <;> omega

theorem oT_cover : (Finset.univ : Finset (Fin 2 × Fin 16)).biUnion (fun q => oT (coordsP q)) = Finset.univ := by
  refine Finset.eq_univ_iff_forall.mpr fun p => Finset.mem_biUnion.mpr ?_
  have h : (p 1).val < 10240 := (p 1).isLt
  refine ⟨(⟨(p 1).val / 320 / 16, by omega⟩, ⟨(p 1).val / 320 % 16, by omega⟩), Finset.mem_univ _, ?_⟩
  rw [mem_oT, lowId_coords]
  show 320 * (16 * ((p 1).val / 320 / 16) + (p 1).val / 320 % 16) ≤ (p 1).val ∧
    (p 1).val < 320 * (16 * ((p 1).val / 320 / 16) + (p 1).val / 320 % 16) + 320
  clear h
  generalize (p 1).val = n
  omega

/-- A block read from the whole array. -/
theorem oH_read (d : Dev nD) (L : grid0.Coords) (t : Fin k0_t3_loop.trips) (f : Buf (Elt F) ((oH L t).view.loc (thr d L))) (x : S320x128.Idx) :
    (oH L t).view.read (Elt F) f x = f ((oH L t).view.emb x) := rfl

theorem oH_read_congr (d : Dev nD) (L : grid0.Coords) (t : Fin k0_t3_loop.trips) (f g : Buf (Elt F) ((oH L t).view.loc (thr d L)))
    (h : ∀ p ∈ oK L t, f p = g p) : (oH L t).view.read (Elt F) f = (oH L t).view.read (Elt F) g := by
  funext x
  rw [oH_read, oH_read]
  exact h _ (Finset.mem_map_of_mem _ (Finset.mem_univ x))

end Cert.Proof.Run

end
-- ==== Proof.Launch.lean ====
/-
  The launch: what each task is handed and hands back, the tasks' obligation, @main's host operations around the call,
  and the run of the whole program over any float values.
-/
module

public import proofs.«01_k».proof.Proof.Blocks
public import Idealize.ShloMosaic.Lib.ShareLeaves
public import Idealize.ShloMosaic.Lib.SparseCore.Quiescent
public import Idealize.ShloMosaic.Lib.Pipeline.Frame

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.ShloMosaic.ShareLeaves (leaf pointsTo_leaves)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## Taking named members out of a family -/

/-- A list of distinct members of a family set apart, one after the other, from the rest. -/
theorem deal {I : Type} [DecidableEq I] (Φ : I → sProp 𝕄) : ∀ (l : List I) (S : Finset I), l.Nodup → (∀ a ∈ l, a ∈ S) →
    bigSep S Φ = l.foldr (fun a R => iprop(Φ a ∗ R)) (bigSep (l.foldl Finset.erase S) Φ)
  | [], _, _, _ => rfl
  | a :: l, S, hn, hS => by
    rw [SparseCore.bigSep_erase' (hS a List.mem_cons_self)]
    have hn' := List.nodup_cons.mp hn
    rw [deal Φ l (S.erase a) hn'.2 fun b hb => Finset.mem_erase.mpr ⟨fun e => hn'.1 (e ▸ hb), hS b (List.mem_cons_of_mem _ hb)⟩]
    rfl

theorem mem_foldl_erase {I : Type} [DecidableEq I] (b : I) : ∀ (l : List I) (S : Finset I), b ∈ l.foldl Finset.erase S → b ∉ l ∧ b ∈ S
  | [], _, h => ⟨List.not_mem_nil, h⟩
  | a :: l, S, h => by
    obtain ⟨h1, h2⟩ := mem_foldl_erase b l (S.erase a) h
    exact ⟨fun hb => (List.mem_cons.mp hb).elim (fun e => (Finset.mem_erase.mp h2).1 e) h1, (Finset.mem_erase.mp h2).2⟩

/-! ## The host operations -/

/-- The operations before the call. -/
def preOps : List (HloOp τ sig (Elt F)) :=
  [StableHlo.reshape main_arg0 main_v0 (rfl : (.f32 : EltTy) = .f32) shapeCasts_S10000x256_S20000x128,
   StableHlo.nullary main_c (constantI S_ 32 0#32),
   StableHlo.unary main_c main_v1 (broadcastInDim S1024 ![] bcast_S_S1024 : (⟨S_, .i32⟩ : BufTy).Contents (Elt F) → (⟨S1024, .i32⟩ : BufTy).Contents (Elt F)),
   StableHlo.binary main_arg1 main_v1 main_v2 ((fun a b => concatenate S161024 0 [⟨S160000, a⟩, ⟨S1024, b⟩] concatenates_S160000_S1024_S161024_d0) : (⟨S160000, .i32⟩ : BufTy).Contents (Elt F) → (⟨S1024, .i32⟩ : BufTy).Contents (Elt F) → (⟨S161024, .i32⟩ : BufTy).Contents (Elt F)),
   StableHlo.nullary main_c_0 (constantI S_ 32 1073741823#32),
   StableHlo.unary main_c_0 main_v3 (broadcastInDim S1024 ![] bcast_S_S1024 : (⟨S_, .i32⟩ : BufTy).Contents (Elt F) → (⟨S1024, .i32⟩ : BufTy).Contents (Elt F)),
   StableHlo.binary main_arg2 main_v3 main_v4 ((fun a b => concatenate S161024 0 [⟨S160000, a⟩, ⟨S1024, b⟩] concatenates_S160000_S1024_S161024_d0) : (⟨S160000, .i32⟩ : BufTy).Contents (Elt F) → (⟨S1024, .i32⟩ : BufTy).Contents (Elt F) → (⟨S161024, .i32⟩ : BufTy).Contents (Elt F))]

/-- The operations after it. -/
def postOps : List (HloOp τ sig (Elt F)) :=
  [StableHlo.unary main_v5 main_v6 ((extractStridedSlice S1x10000x128 ![0, 0, 0] · slices_S2x10240x128_S1x10000x128_0_0_0) : (⟨S2x10240x128, .f32⟩ : BufTy).Contents (Elt F) → (⟨S1x10000x128, .f32⟩ : BufTy).Contents (Elt F)),
   StableHlo.reshape main_v6 main_v7 (rfl : (.f32 : EltTy) = .f32) shapeCasts_S1x10000x128_S10000x128,
   StableHlo.unary main_v5 main_v8 ((extractStridedSlice S1x10000x128 ![1, 0, 0] · slices_S2x10240x128_S1x10000x128_1_0_0) : (⟨S2x10240x128, .f32⟩ : BufTy).Contents (Elt F) → (⟨S1x10000x128, .f32⟩ : BufTy).Contents (Elt F)),
   StableHlo.reshape main_v8 main_v9 (rfl : (.f32 : EltTy) = .f32) shapeCasts_S1x10000x128_S10000x128,
   StableHlo.binary main_v7 main_v9 main_v10 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F))]

abbrev dref (r : Ref sig .tc) : DevRef τ sig := Proc.devRef .tc r

/-- The launch contents, and what the operations before the call make of them. -/
abbrev V0 (d : Dev nD) : Valuation τ sig (Elt F) := fun b => m (d, b)
def Vh (d : Dev nD) : Valuation τ sig (Elt F) := StableHlo.after preOps (V0 m d)
/-- The result array of the call put in, and what the operations after the call make of that. -/
def Vc (d : Dev nD) (g : Buf (Elt F) ((d, dref main_v5) : Loc nD τ sig)) : Valuation τ sig (Elt F) := Function.update (Vh m d) (dref main_v5) g
def Vf (d : Dev nD) (g : Buf (Elt F) ((d, dref main_v5) : Loc nD τ sig)) : Valuation τ sig (Elt F) := StableHlo.after postOps (Vc m d g)

theorem main_eq (d : Dev nD) : main (F := F) d = (StableHlo.seq preOps >>= fun _ => (K (F := F)).run d 0 >>= fun _ => StableHlo.seq postOps) := by
  rw [StableHlo.seq_bind_seqK]; rfl

theorem pre_sub : ∀ op ∈ (preOps : List (HloOp τ sig (Elt F))), op.bufs ⊆ ucRefs τ sig := by
  intro op hop
  refine Pipeline.sub_ucRefs op ?_
  simp only [preOps, List.mem_cons, List.mem_nil_iff, or_false] at hop
  rcases hop with rfl | rfl | rfl | rfl | rfl | rfl | rfl <;> first | exact StableHlo.reshape_bufs_sub .. | exact StableHlo.nullary_bufs_sub .. | exact StableHlo.unary_bufs_sub .. | exact StableHlo.binary_bufs_sub ..

end Cert.Proof.Run

end
-- ==== Proof.Task.lean ====
/-
  What the launch hands each task and takes back, and the task's run as the launch asks for it.
-/
module

public import proofs.«01_k».proof.Proof.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.ShloMosaic.ShareLeaves (leaf pointsTo_leaves)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev hLoc (d : Dev nD) (r : Ref sig .tc) : Loc nD τ sig := (d, dref r)

/-- The share of the three read arrays that tile `i` of SparseCore `c` is handed. -/
abbrev shr (L : grid0.Coords) : PosShare TreeShare := leaf 4 (leaf 1 fullShare (L 0)) (L 1)

abbrev readPts (d : Dev nD) (q : PosShare TreeShare) : sProp 𝕄 :=
  iprop((hLoc d main_v0 ↦{q} Vh m d (dref main_v0)) ∗ (hLoc d main_v2 ↦{q} Vh m d (dref main_v2)) ∗ (hLoc d main_v4 ↦{q} Vh m d (dref main_v4)))

/-- What a tile is handed: its shares of the read arrays, and its rows of the result. -/
def goPts (d : Dev nD) (L : grid0.Coords) : sProp 𝕄 :=
  iprop(readPts m d (shr L) ∗ ∃ f : Buf (Elt F) (hLoc d main_v5), hLoc d main_v5 ↦[oT L]{fullShare} f)

/-- A tile's rows of the result hold what they should. -/
def TileDone (d : Dev nD) (L : grid0.Coords) (f : Buf (Elt F) (hLoc d main_v5)) : Prop :=
  TileOut (F := F) d L (Vh m d (dref main_v0)) (Vh m d (dref main_v2)) (Vh m d (dref main_v4))
    ((oH L half0).view.read (Elt F) f) ((oH L half1).view.read (Elt F) f)

/-- What it hands back. -/
def tdPts (d : Dev nD) (L : grid0.Coords) : sProp 𝕄 :=
  iprop(readPts m d (shr L) ∗ ∃ f : Buf (Elt F) (hLoc d main_v5), ⌜TileDone m d L f⌝ ∗ hLoc d main_v5 ↦[oT L]{fullShare} f)

instance goPts_storable (d : Dev nD) (L : grid0.Coords) : BI.Storable (upEmb : UEmb _ 𝕄) (goPts m d L) := by unfold goPts; infer_instance
instance tdPts_storable (d : Dev nD) (L : grid0.Coords) : BI.Storable (upEmb : UEmb _ 𝕄) (tdPts m d L) := by unfold tdPts; infer_instance

def P : (K (F := F)).Pay (nD := nD) (Val := Elt F) (Name := ℕ) (U := UU) where
  st := fun q d c => match q with | 0 => bigSep Finset.univ fun i : Fin 16 => goPts m d (coordsV (Fin.cast nCore_zero c) i)
  dn := fun q d c => match q with | 0 => bigSep Finset.univ fun i : Fin 16 => tdPts m d (coordsV (Fin.cast nCore_zero c) i)
  go := fun q d c i => match q with | 0 => goPts m d (coordsV (Fin.cast nCore_zero c) (Fin.cast nSub_zero i))
  td := fun q d c i => match q with | 0 => tdPts m d (coordsV (Fin.cast nCore_zero c) (Fin.cast nSub_zero i))
  x := fun _ _ => iprop(emp)

theorem rowsStorable (Φ : Fin 16 → sProp 𝕄) (h : ∀ i, BI.Storable (upEmb : UEmb _ 𝕄) (Φ i)) :
    BI.Storable (upEmb : UEmb _ 𝕄) (bigSep Finset.univ Φ) := by
  haveI := h
  exact BI.Storable.bigSep upEmb _ _

instance P_storable : (P (F := F) m).IsStorable where
  st q d c := match q with
    | 0 => rowsStorable _ fun i => goPts_storable m d _
  dn q d c := match q with
    | 0 => rowsStorable _ fun i => tdPts_storable m d _
  go q d c i := match q with | 0 => goPts_storable m d _
  td q d c i := match q with | 0 => tdPts_storable m d _

/-- What the proof asks of the launch memory: every gather index names a row. -/
def PreOK : Prop := ∀ (d : Dev nD) (j : S160000.Idx), (m (hLoc d main_arg1) j : BitVec 32).toNat < 10000

theorem xS_univ : xS.view.set = Finset.univ := Finset.eq_univ_of_card _ (Finset.card_map _)
theorem some_whole (d : Dev nD) (L : grid0.Coords) (r : Ref sig .scVector) :
    (some_ (F := F) d L (Memref.whole r) : sProp 𝕄) = iprop(∃ f, (thr d L).loc r ↦{fullShare} f) := by
  unfold some_; rw [show (Memref.whole r).view.set = Finset.univ from View.set_whole _]

/-- The subcore's scratch arrays. -/
abbrev scr : List (Ref sig .scVector) :=
  [cc0_scratch0, cc0_scratch1, cc0_scratch2, cc0_scratch3, cc0_scratch4, cc0_scratch5, cc0_scratch6, cc0_scratch7, cc0_scratch8, cc0_scratch9,
    cc0_scratch10, cc0_scratch11, cc0_scratch12]
/-- The subcore's copy semaphores. -/
abbrev sems : List (SemLoc sig) :=
  [.dma cc0_scratch13.sem, .dma cc0_scratch14.sem, .dma cc0_scratch15.sem, .dma cc0_scratch16.sem, .dma cc0_scratch17.sem, .dma cc0_scratch18.sem,
    .dma cc0_scoped0.sem, .dma cc0_scoped1.sem, .dma cc0_scoped2.sem, .dma cc0_scoped3.sem, .dma cc0_scoped4.sem]

theorem ownSems0_V (d : Dev nD) (L : grid0.Coords) :
    (ownSems0 (thr d L) : sProp 𝕄) = (sems.map fun s => ((thr d L, s) : GSem nD τ sig)).foldr (fun a R => iprop(semVal a 0 ∗ R))
      (bigSep ((sems.map fun s => ((thr d L, s) : GSem nD τ sig)).foldl Finset.erase (ownCells (thr d L))) fun g => semVal g 0) := by
  unfold SparseCore.Cfg.ownSems0
  refine deal _ _ _ (List.Nodup.map (fun a b h => (Prod.mk.inj h).2) (by decide)) ?_
  intro a ha
  obtain ⟨s, hs, rfl⟩ := List.mem_map.mp ha
  exact mem_ownCells.mpr ⟨rfl, (show ∀ s ∈ sems, s.isScoped .scVector = true by decide) s hs⟩

theorem scr_nodup : scr.Nodup := by decide

theorem ownBufs_V (d : Dev nD) (L : grid0.Coords) :
    (ownBufs (thr d L) : sProp 𝕄) = (scr.map (Proc.scVector (τ := τ) (cV L) (jV L)).devRef).foldr (fun a R => iprop((∃ f, ((d, a) : Loc nD τ sig) ↦{fullShare} f) ∗ R))
      (bigSep ((scr.map (Proc.scVector (τ := τ) (cV L) (jV L)).devRef).foldl Finset.erase (ownRefs (τ := τ) (.scVector (cV L) (jV L))))
        fun b => iprop(∃ f, ((d, b) : Loc nD τ sig) ↦{fullShare} f)) := by
  unfold SparseCore.Cfg.ownBufs
  refine deal _ _ _ (List.Nodup.map (Proc.devRef_injective _) scr_nodup) ?_
  intro a ha
  obtain ⟨r, hr, rfl⟩ := List.mem_map.mp ha
  exact SparseCore.Cfg.mem_ownRefs_of_owner (p := Proc.scVector (cV L) (jV L)) (b := (Proc.scVector (cV L) (jV L)).devRef r)
    ((show ∀ r ∈ scr, ((Proc.scVector (τ := τ) (cV L) (jV L)).devRef r).owner = _ by
      intro r hr
      simp only [scr, List.mem_cons, List.mem_nil_iff, _root_.or_false] at hr
      rcases hr with rfl | rfl | rfl | rfl | rfl | rfl | rfl | rfl | rfl | rfl | rfl | rfl | rfl <;> rfl) r hr)

/-- The subcore's other semaphores and other arrays. -/
def semRest (d : Dev nD) (L : grid0.Coords) : sProp 𝕄 :=
  bigSep ((sems.map fun s => ((thr d L, s) : GSem nD τ sig)).foldl Finset.erase (ownCells (thr d L))) fun g => semVal g 0
def bufRest (d : Dev nD) (L : grid0.Coords) : sProp 𝕄 :=
  bigSep ((scr.map (Proc.scVector (τ := τ) (cV L) (jV L)).devRef).foldl Finset.erase (ownRefs (τ := τ) (.scVector (cV L) (jV L))))
    fun b => iprop(∃ f, ((d, b) : Loc nD τ sig) ↦{fullShare} f)

theorem sems_eq (d : Dev nD) (L : grid0.Coords) : (ownSems0 (thr d L) : sProp 𝕄)
    = iprop(semVal (thr d L, SemLoc.dma cc0_scratch13.sem) 0
        ∗ semVal (thr d L, SemLoc.dma cc0_scratch14.sem) 0
        ∗ semVal (thr d L, SemLoc.dma cc0_scratch15.sem) 0
        ∗ semVal (thr d L, SemLoc.dma cc0_scratch16.sem) 0
        ∗ semVal (thr d L, SemLoc.dma cc0_scratch17.sem) 0
        ∗ semVal (thr d L, SemLoc.dma cc0_scratch18.sem) 0
        ∗ semVal (thr d L, SemLoc.dma cc0_scoped0.sem) 0
        ∗ semVal (thr d L, SemLoc.dma cc0_scoped1.sem) 0
        ∗ semVal (thr d L, SemLoc.dma cc0_scoped2.sem) 0
        ∗ semVal (thr d L, SemLoc.dma cc0_scoped3.sem) 0
        ∗ semVal (thr d L, SemLoc.dma cc0_scoped4.sem) 0
        ∗ semRest d L) := ownSems0_V d L

theorem fold_some (d : Dev nD) (L : grid0.Coords) (R : sProp 𝕄) : ∀ l : List (Ref sig .scVector),
    (l.map (Proc.scVector (τ := τ) (cV L) (jV L)).devRef).foldr (fun a R => iprop((∃ f, ((d, a) : Loc nD τ sig) ↦{fullShare} f) ∗ R)) R
      = l.foldr (fun r R => iprop(some_ d L (Memref.whole r) ∗ R)) R
  | [] => rfl
  | r :: l => by
    rw [List.map_cons, List.foldr_cons, List.foldr_cons, fold_some d L R l, some_whole]

theorem bufs_eq (d : Dev nD) (L : grid0.Coords) : (ownBufs (thr d L) : sProp 𝕄)
    = iprop(some_ d L raW
        ∗ some_ d L rbW
        ∗ some_ d L accW
        ∗ some_ d L cntW
        ∗ some_ d L s0W
        ∗ some_ d L s1W
        ∗ some_ d L s2W
        ∗ some_ d L s3W
        ∗ some_ d L g0W
        ∗ some_ d L g1W
        ∗ some_ d L g2W
        ∗ some_ d L g3W
        ∗ some_ d L bW
        ∗ bufRest d L) := by
  rw [ownBufs_V, show bigSep ((scr.map (Proc.scVector (τ := τ) (cV L) (jV L)).devRef).foldl Finset.erase (ownRefs (τ := τ) (.scVector (cV L) (jV L))))
    (fun b => iprop(∃ f, ((d, b) : Loc nD τ sig) ↦{fullShare} f)) = (bufRest d L : sProp 𝕄) from rfl]
  generalize (bufRest d L : sProp 𝕄) = R
  rw [fold_some]
  rfl

theorem xPts_eq (d : Dev nD) (L : grid0.Coords) (q : PosShare TreeShare) (f : Buf (Elt F) (hLoc d main_v0)) :
    (xS.view.loc (thr d L) ↦[xS.view.set]{q} f : sProp 𝕄) = hLoc d main_v0 ↦{q} f := by rw [xS_univ]
theorem gPts_eq (d : Dev nD) (L : grid0.Coords) (q : PosShare TreeShare) (f : Buf (Elt F) (hLoc d main_v2)) :
    (gW.view.loc (thr d L) ↦[gW.view.set]{q} f : sProp 𝕄) = hLoc d main_v2 ↦{q} f := by rw [show gW.view.set = Finset.univ from View.set_whole _]
theorem sPts_eq (d : Dev nD) (L : grid0.Coords) (q : PosShare TreeShare) (f : Buf (Elt F) (hLoc d main_v4)) :
    (sW.view.loc (thr d L) ↦[sW.view.set]{q} f : sProp 𝕄) = hLoc d main_v4 ↦{q} f := by rw [show sW.view.set = Finset.univ from View.set_whole _]

/-- A long index array: the argument's words, then 1024 words of padding. -/
abbrev padded (a : IVec S160000 32) (w : BitVec 32) : IVec S161024 32 :=
  concatenate S161024 0 [⟨S160000, a⟩, ⟨S1024, broadcastInDim S1024 ![] bcast_S_S1024 (constantI S_ 32 w)⟩] concatenates_S160000_S1024_S161024_d0

theorem padded_lt (a : IVec S160000 32) (w : BitVec 32) (i : S161024.Idx) (h : (i 0).val < 160000) :
    padded a w i = a (ix1 (n0 := 160000) ⟨(i 0).val, h⟩) := by
  refine concatenate_pair_apply_left 0 a _ _ i rfl _ fun b => ?_
  match b with
  | ⟨0, _⟩ => rfl

theorem padded_ge (a : IVec S160000 32) (w : BitVec 32) (i : S161024.Idx) (h : 160000 ≤ (i 0).val) : padded a w i = w := by
  have hi : (i 0).val < 161024 := (i 0).isLt
  refine (concatenate_pair_apply_right (s₁ := S160000) (s₂ := S1024) (t := S161024) 0 a (broadcastInDim S1024 ![] bcast_S_S1024 (constantI S_ 32 w)) _ i rfl rfl
    (ix1 (n0 := 1024) ⟨(i 0).val - 160000, by omega⟩) (fun b hb => ?_) ?_).trans ?_
  · match b with
    | ⟨0, _⟩ => exact absurd rfl hb
  · show (i 0).val - 160000 + 160000 = (i 0).val
    exact Nat.sub_add_cancel h
  · rfl

theorem Vh_x (d : Dev nD) : Vh m d (dref main_v0) = shapeCast S20000x128 (m (hLoc d main_arg0)) shapeCasts_S10000x256_S20000x128 := by
  unfold Vh preOps dref; after_results; rfl
theorem Vh_g (d : Dev nD) : Vh m d (dref main_v2) = padded (m (hLoc d main_arg1)) 0#32 := by
  unfold Vh preOps dref; after_results
theorem Vh_s (d : Dev nD) : Vh m d (dref main_v4) = padded (m (hLoc d main_arg2)) 1073741823#32 := by
  unfold Vh preOps dref; after_results

/-- The gather indices the launch hands the tasks are in range. -/
theorem inRange_of (hpre : PreOK m) (d : Dev nD) (L : grid0.Coords) : InRange (F := F) d L (Vh m d (dref main_v2)) := by
  rw [Vh_g]
  intro i
  show (padded _ _ i).toNat < 10000
  by_cases h : (i 0).val < 160000
  · rw [padded_lt _ _ i h]; exact hpre d _
  · rw [padded_ge _ _ i (by omega)]; decide

set_option maxHeartbeats 4000000 in
/-- A task from what the launch hands it to what the launch takes back. -/
theorem tile_body (hpre : PreOK m) (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ goPts m d L
        ∗ scopedBufs (thr d L) ∗ scopedSems0 (thr d L) ∗ owes (thr d L) O W)
      ⊢ wp frame (wpE (defs₀ (F := F)) 𝒱₀ (thr d L) none) Set.univ
          (cc0__sc_body L xW (Memref.isWhole_whole _) gW (Memref.isWhole_whole _) sW (Memref.isWhole_whole _) oW (Memref.isWhole_whole _)
            raW (Memref.isWhole_whole _) rbW (Memref.isWhole_whole _) accW (Memref.isWhole_whole _) cntW (Memref.isWhole_whole _)
            s0W (Memref.isWhole_whole _) s1W (Memref.isWhole_whole _) s2W (Memref.isWhole_whole _) s3W (Memref.isWhole_whole _)
            g0W (Memref.isWhole_whole _) g1W (Memref.isWhole_whole _) g2W (Memref.isWhole_whole _) g3W (Memref.isWhole_whole _)
            bW (Memref.isWhole_whole _) cc0_scratch13 cc0_scratch14 cc0_scratch15 cc0_scratch16 cc0_scratch17 cc0_scratch18
            cc0_scoped0 cc0_scoped1 cc0_scoped2 cc0_scoped3 cc0_scoped4)
          fun _ => iprop(tdPts m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), sems_eq, bufs_eq]
  unfold goPts
  iintro ⟨#Hlv, -, ⟨⟨Hx, Hg, Hs⟩, %fo, Ho⟩, ⟨Hb0, Hb1, Hb2, Hb3, Hb4, Hb5, Hb6, Hb7, Hb8, Hb9, Hb10, Hb11, Hb12, Hbufs⟩, ⟨Hm0, Hm1, Hm2, Hm3, Hm4, Hm5, Hm6, Hm7, Hm8, Hm9, Hm10, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (pointsTo_share (PosShare.mem_left_op_right (shr L))).1 $$ Hx
  icases Hx' with ⟨Hx, Hy⟩
  ihave Ho' := (pointsTo_union (oK_disjoint L)).1 $$ Ho
  icases Ho' with ⟨Ho0, Ho1⟩
  ihave Hw := (tile_run O W (shr L).left (shr L).right (shr L) d L (Vh m d (dref main_v0)) (Vh m d (dref main_v2)) (Vh m d (dref main_v4)) (inRange_of m hpre d L) fo fo)
    $$ [Hmw HO Hx Hy Hs Hg Hb0 Hb1 Hb2 Hb3 Hb4 Hb5 Hb6 Hb7 Hb8 Hb9 Hb10 Hb11 Hb12 Hm0 Hm1 Hm2 Hm3 Hm4 Hm5 Hm6 Hm7 Hm8 Hm9 Hm10 Ho0 Ho1]
  · unfold gear
    isplitl [Hmw HO Hx Hy Hs Hg Hb0 Hb1 Hb2 Hb4 Hb5 Hb6 Hb7 Hb8 Hb9 Hb10 Hb11 Hm0 Hm1 Hm2 Hm3 Hm4 Hm5 Hm8 Hm9 Hm10]
    · iexists W
      isplitr; · ipureintro; exact fun p hp => .inl hp
      isplitl [Hmw]; · iexact Hmw
      isplitl [HO]; · iexact HO
      isplitl [Hx]; · iapply (Entails.of_eq (xPts_eq d L _ _).symm); iexact Hx
      isplitl [Hy]; · iapply (Entails.of_eq (xPts_eq d L _ _).symm); iexact Hy
      isplitl [Hs]; · iapply (Entails.of_eq (sPts_eq d L _ _).symm); iexact Hs
      isplitl [Hg]; · iapply (Entails.of_eq (gPts_eq d L _ _).symm); iexact Hg
      isplitl [Hb0]; · iexact Hb0
      isplitl [Hb1]; · iexact Hb1
      isplitl [Hb2]; · iexact Hb2
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      isplitl [Hb11]; · iexact Hb11
      isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm8]; · iexact Hm8
      isplitl [Hm9]; · iexact Hm9
      iexact Hm10
    isplitl [Hb3]; · iexact Hb3
    isplitl [Hb12]; · iexact Hb12
    isplitl [Hm6]; · iexact Hm6
    isplitl [Hm7]; · iexact Hm7
    isplitl [Ho0]; · iexact Ho0
    iexact Ho1
  iapply (wp_wand frame (wpE (defs₀ (F := F)) 𝒱₀ (thr d L) none) Set.univ) $$ Hw
  iintro %_
  unfold gear
  iintro ⟨⟨%W', %hW', -, HO, Hx, Hy, Hs, Hg, Hb0, Hb1, Hb2, Hb4, Hb5, Hb6, Hb7, Hb8, Hb9, Hb10, Hb11, Hm0, Hm1, Hm2, Hm3, Hm4, Hm5, Hm8, Hm9, Hm10⟩, Hb3, Hb12, Hm6, Hm7, %f0, %f1, %hT, H0, H1⟩
  isplitl [Hx Hy Hs Hg H0 H1]
  · unfold tdPts
    isplitl [Hx Hy Hs Hg]
    · isplitl [Hx Hy]
      · iapply (pointsTo_share (PosShare.mem_left_op_right (shr L))).2
        isplitl [Hx]; · iapply (Entails.of_eq (xPts_eq d L _ _)); iexact Hx
        iapply (Entails.of_eq (xPts_eq d L _ _)); iexact Hy
      isplitl [Hg]; · iapply (Entails.of_eq (gPts_eq d L _ _)); iexact Hg
      iapply (Entails.of_eq (sPts_eq d L _ _)); iexact Hs
    iexists ((oK L half1).piecewise f1 f0)
    isplitr
    · ipureintro
      unfold TileDone
      rw [oH_read_congr d L half0 ((oK L half1).piecewise f1 f0) f0 fun p hp => Finset.piecewise_eq_of_notMem _ _ _ (Finset.disjoint_left.mp (oK_disjoint L) hp),
        oH_read_congr d L half1 ((oK L half1).piecewise f1 f0) f1 fun p hp => Finset.piecewise_eq_of_mem _ _ _ hp]
      exact hT
    iapply (pointsTo_join (oK_disjoint L))
    isplitl [H0]; · iexact H0
    iexact H1
  isplitl [Hb0 Hb1 Hb2 Hb3 Hb4 Hb5 Hb6 Hb7 Hb8 Hb9 Hb10 Hb11 Hb12 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    iexact Hbufs
  isplitl [Hm0 Hm1 Hm2 Hm3 Hm4 Hm5 Hm6 Hm7 Hm8 Hm9 Hm10 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    iexact Hsems
  iexists W'
  isplitr
  · ipureintro; exact hW'
  iexact HO

end Cert.Proof.Run

end
-- ==== Proof.Main.lean ====
/-
  The obligation of the tasks, @main around the call, and the run of the whole program.
-/
module

public import proofs.«01_k».proof.Proof.Task

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.ShloMosaic.ShareLeaves (leaf pointsTo_leaves)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tasks' obligation -/

theorem defs₀_vector (c : Fin τ.nSC) (s : Fin τ.nSub) :
    defs₀ (F := F) (.scVector c s) 0 ()
      = SparseCore.onTile hcore0 hsub0 (fun c s => cc0__sc_body (coordsV c s) xW (Memref.isWhole_whole _) gW (Memref.isWhole_whole _) sW (Memref.isWhole_whole _) oW (Memref.isWhole_whole _)
            raW (Memref.isWhole_whole _) rbW (Memref.isWhole_whole _) accW (Memref.isWhole_whole _) cntW (Memref.isWhole_whole _)
            s0W (Memref.isWhole_whole _) s1W (Memref.isWhole_whole _) s2W (Memref.isWhole_whole _) s3W (Memref.isWhole_whole _)
            g0W (Memref.isWhole_whole _) g1W (Memref.isWhole_whole _) g2W (Memref.isWhole_whole _) g3W (Memref.isWhole_whole _)
            bW (Memref.isWhole_whole _) cc0_scratch13 cc0_scratch14 cc0_scratch15 cc0_scratch16 cc0_scratch17 cc0_scratch18
            cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hpre hF d (coordsV ⟨_, hci.1⟩ ⟨_, hci.2⟩) O W hO).trans (wp_mono frame _ _ fun _ => obl_post)

theorem vecSplit : (K (F := F)).VecSplit' (P m) 0 := by
  intro d c
  show (bigSep Finset.univ fun i : Fin 16 => goPts m d (coordsV (Fin.cast nCore_zero c) i)) ⊢ |={Set.univ}=> iprop(
      (bigSep Finset.univ fun i : Fin 16 => goPts m d (coordsV (Fin.cast nCore_zero c) i))
      ∗ ((bigSep Finset.univ fun i : Fin 16 => tdPts m d (coordsV (Fin.cast nCore_zero c) i))
          -∗ bigSep Finset.univ fun i : Fin 16 => tdPts m d (coordsV (Fin.cast nCore_zero c) i)))
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays split among the tiles, and the result joined -/

/-- An array read by every tile, whole, is the tiles' shares of it. -/
theorem read_split {ℓ : Loc nD τ sig} (f : Buf (Elt F) ℓ) :
    (ℓ ↦{fullShare} f : sProp 𝕄) = bigSep Finset.univ fun c : Fin 2 => bigSep Finset.univ fun i : Fin 16 => ℓ ↦{shr (coordsV c i)} f := by
  rw [pointsTo_leaves Finset.univ f 1 fullShare]
  exact bigSep_congr fun c _ => pointsTo_leaves Finset.univ f 4 (leaf 1 fullShare c)

theorem readPts_split (d : Dev nD) :
    (readPts m d fullShare : sProp 𝕄) = bigSep Finset.univ fun c : Fin 2 => bigSep Finset.univ fun i : Fin 16 => readPts m d (shr (coordsV c i)) := by
  unfold readPts
  rw [read_split, read_split, read_split]
  simp only [bigSep_sep']

theorem out_split (d : Dev nD) (f : Buf (Elt F) (hLoc d main_v5)) :
    (hLoc d main_v5 ↦{fullShare} f : sProp 𝕄) = bigSep Finset.univ fun c : Fin 2 => bigSep Finset.univ fun i : Fin 16 => hLoc d main_v5 ↦[oT (coordsV c i)]{fullShare} f := by
  have h := pointsTo_biUnion (Ix := HIx 1) (Name := ℕ) (U := UU) (Lvl := ℕ) (q := fullShare) (f := f) (Finset.univ : Finset (Fin 2 × Fin 16)) (ℓ := hLoc d main_v5) (fun q => oT (coordsP q)) oT_disjoint
  rw [oT_cover] at h
  rw [h, bigSep_univ_prod]

theorem goPts_of (d : Dev nD) (L : grid0.Coords) (f : Buf (Elt F) (hLoc d main_v5)) :
    iprop(readPts m d (shr L) ∗ hLoc d main_v5 ↦[oT L]{fullShare} f) ⊢ (goPts m d L : sProp 𝕄) := by
  unfold goPts
  iintro ⟨H, Ho⟩
  isplitl [H]; · iexact H
  iexists f; iexact Ho

theorem st0 (d : Dev nD) (f : Buf (Elt F) (hLoc d main_v5)) :
    iprop(readPts m d fullShare ∗ hLoc d main_v5 ↦{fullShare} f) ⊢ (bigSep Finset.univ fun c : Fin ((K (F := F)).nCore 0) => (P m).st 0 d c : sProp 𝕄) := by
  rw [readPts_split, out_split]
  show _ ⊢ bigSep Finset.univ fun c : Fin 2 => bigSep Finset.univ fun i : Fin 16 => goPts m d (coordsV c i)
  rw [← bigSep_sep']
  refine bigSep_mono fun c _ => ?_
  rw [← bigSep_sep']
  exact bigSep_mono fun i _ => goPts_of m d (coordsV c i) f

theorem tileDone_congr (d : Dev nD) (L : grid0.Coords) (f g : Buf (Elt F) (hLoc d main_v5)) (h : ∀ p ∈ oT L, g p = f p) (hf : TileDone m d L f) : TileDone m d L g := by
  unfold TileDone at hf ⊢
  rw [oH_read_congr d L half0 g f fun p hp => h p (Finset.mem_union_left _ hp), oH_read_congr d L half1 g f fun p hp => h p (Finset.mem_union_right _ hp)]
  exact hf

set_option maxRecDepth 4096 in
/-- The tiles' rows, each as it should be, make up a result of which that is so. -/
theorem out_join (d : Dev nD) :
    (bigSep Finset.univ fun q : Fin 2 × Fin 16 => iprop(∃ f : Buf (Elt F) (hLoc d main_v5), ⌜TileDone m d (coordsP q) f⌝ ∗ hLoc d main_v5 ↦[oT (coordsP q)]{fullShare} f))
      ⊢ (iprop(∃ g : Buf (Elt F) (hLoc d main_v5), ⌜∀ q, TileDone m d (coordsP q) g⌝ ∗ hLoc d main_v5 ↦{fullShare} g) : sProp 𝕄) := by
  have : Nonempty (Buf (Elt F) (hLoc d main_v5)) := ⟨m (hLoc d main_v5)⟩
  refine (bigSep_exists_pi Finset.univ (fun q (f : Buf (Elt F) (hLoc d main_v5)) => iprop(⌜TileDone m d (coordsP q) f⌝ ∗ hLoc d main_v5 ↦[oT (coordsP q)]{fullShare} f))).trans ?_
  iintro ⟨%fs, H⟩
  ihave H' := (bigSep_pure_sep Finset.univ (fun q => TileDone m d (coordsP q) (fs q)) fun q => (hLoc d main_v5 ↦[oT (coordsP q)]{fullShare} fs q : sProp 𝕄)) $$ H
  icases H' with ⟨%hT, H⟩
  ihave H' := (pointsTo_biUnion_join (ℓ := hLoc d main_v5) (q := fullShare) (Val := Elt F) Finset.univ (fun q => oT (coordsP q)) fs (fs (0, 0)) oT_disjoint) $$ H
  icases H' with ⟨%g, %hg, Hg⟩
  rw [oT_cover]
  iexists g
  isplitr
  · ipureintro
    exact fun q => tileDone_congr m d (coordsP q) (fs q) g (hg q (Finset.mem_univ q)) (hT q (Finset.mem_univ q))
  iexact Hg

theorem dn0 (d : Dev nD) :
    (bigSep Finset.univ fun c : Fin ((K (F := F)).nCore 0) => (P m).dn 0 d c : sProp 𝕄)
      ⊢ iprop(readPts m d fullShare ∗ ∃ g : Buf (Elt F) (hLoc d main_v5), ⌜∀ q, TileDone m d (coordsP q) g⌝ ∗ hLoc d main_v5 ↦{fullShare} g) := by
  show (bigSep Finset.univ fun c : Fin 2 => bigSep Finset.univ fun i : Fin 16 => tdPts m d (coordsV c i)) ⊢ _
  rw [readPts_split]
  unfold tdPts
  simp only [bigSep_sep']
  rw [← bigSep_univ_prod (fun q : Fin 2 × Fin 16 => iprop(∃ f : Buf (Elt F) (hLoc d main_v5), ⌜TileDone m d (coordsP q) f⌝ ∗ hLoc d main_v5 ↦[oT (coordsP q)]{fullShare} f))]
  iintro ⟨H, Ho⟩
  isplitl [H]; · iexact H
  iapply (out_join m d); iexact Ho

/-! ## @main on the TensorCore -/

/-- The call's arrays, out of the TensorCore's. -/
abbrev callRefs : List (DevRef τ sig) := [dref main_v0, dref main_v2, dref main_v4, dref main_v5]
def restPts (d : Dev nD) (V : Valuation τ sig (Elt F)) : sProp 𝕄 :=
  bigSep (callRefs.foldl Finset.erase (ucRefs τ sig)) fun b => ((d, b) : Loc nD τ sig) ↦{fullShare} V b

theorem mem_uc (r : Ref sig .tc) (h : (dref r).isScoped = false) : dref r ∈ ucRefs τ sig :=
  Finset.mem_filter.mpr ⟨StableHlo.devRef_mem_tcRefs r, by rw [h]; decide⟩

theorem held_call (d : Dev nD) (V : Valuation τ sig (Elt F)) :
    (held (T d) (ucRefs τ sig) V : sProp 𝕄) = iprop((hLoc d main_v0 ↦{fullShare} V (dref main_v0)) ∗ (hLoc d main_v2 ↦{fullShare} V (dref main_v2))
      ∗ (hLoc d main_v4 ↦{fullShare} V (dref main_v4)) ∗ (hLoc d main_v5 ↦{fullShare} V (dref main_v5)) ∗ restPts d V) := by
  unfold held
  refine (deal (fun b => ((d, b) : Loc nD τ sig) ↦{fullShare} V b) callRefs (ucRefs τ sig) (by decide) ?_).trans rfl
  intro a ha
  simp only [callRefs, List.mem_cons, List.mem_nil_iff, _root_.or_false] at ha
  rcases ha with rfl | rfl | rfl | rfl <;> exact mem_uc _ rfl

theorem rest_eq (d : Dev nD) (g : Buf (Elt F) (hLoc d main_v5)) : (restPts d (Vh m d) : sProp 𝕄) = restPts d (Vc m d g) := by
  unfold restPts
  refine bigSep_congr fun b hb => ?_
  have hne : b ≠ dref main_v5 := fun e => (mem_foldl_erase b callRefs _ hb).1 (by rw [e]; simp)
  rw [show Vc m d g b = Vh m d b from Function.update_of_ne hne _ _]

abbrev finRefs : List (DevRef τ sig) := [dref main_arg0, dref main_arg1, dref main_arg2, dref main_v10]

theorem held_fin (d : Dev nD) (V : Valuation τ sig (Elt F)) :
    (held (T d) (ucRefs τ sig) V : sProp 𝕄) ⊢ iprop((hLoc d main_arg0 ↦{fullShare} V (dref main_arg0)) ∗ (hLoc d main_arg1 ↦{fullShare} V (dref main_arg1))
      ∗ (hLoc d main_arg2 ↦{fullShare} V (dref main_arg2)) ∗ (hLoc d main_v10 ↦{fullShare} V (dref main_v10))) := by
  unfold held
  have e := deal (fun b => (((d, b) : Loc nD τ sig) ↦{fullShare} V b : sProp 𝕄)) finRefs (ucRefs τ sig) (by decide) (by
    intro a ha
    simp only [finRefs, List.mem_cons, List.mem_nil_iff, _root_.or_false] at ha
    rcases ha with rfl | rfl | rfl | rfl <;> exact mem_uc _ rfl)
  refine (Entails.of_eq e).trans ?_
  show iprop((hLoc d main_arg0 ↦{fullShare} V (dref main_arg0)) ∗ (hLoc d main_arg1 ↦{fullShare} V (dref main_arg1))
      ∗ (hLoc d main_arg2 ↦{fullShare} V (dref main_arg2)) ∗ (hLoc d main_v10 ↦{fullShare} V (dref main_v10)) ∗ _) ⊢ _
  iintro ⟨H0, H1, H2, H3, -⟩
  isplitl [H0]; · iexact H0
  isplitl [H1]; · iexact H1
  isplitl [H2]; · iexact H2
  iexact H3

theorem Vf_arg (d : Dev nD) (g : Buf (Elt F) (hLoc d main_v5)) :
    (Vf m d g (dref main_arg0) = m (hLoc d main_arg0) ∧ Vf m d g (dref main_arg1) = m (hLoc d main_arg1)) ∧ Vf m d g (dref main_arg2) = m (hLoc d main_arg2) := by
  have hpost : (postOps (F := F)).Forall fun op => op.writes ⊆ (([main_v6, main_v7, main_v8, main_v9, main_v10] : List (Ref sig .tc)).map (Proc.devRef (τ := τ) .tc)).toFinset :=
    StableHlo.forall_writes_sub_of_map rfl
  have hpre : (preOps (F := F)).Forall fun op => op.writes ⊆ (([main_v0, main_c, main_v1, main_v2, main_c_0, main_v3, main_v4] : List (Ref sig .tc)).map (Proc.devRef (τ := τ) .tc)).toFinset :=
    StableHlo.forall_writes_sub_of_map rfl
  refine ⟨⟨?_, ?_⟩, ?_⟩ <;> unfold Vf dref
  · rw [StableHlo.after_of_writes_sub _ _ hpost (by decide)]
    refine (Function.update_of_ne (show dref main_arg0 ≠ dref main_v5 by decide) _ _).trans ?_
    exact StableHlo.after_of_writes_sub _ _ hpre (by decide)
  · rw [StableHlo.after_of_writes_sub _ _ hpost (by decide)]
    refine (Function.update_of_ne (show dref main_arg1 ≠ dref main_v5 by decide) _ _).trans ?_
    exact StableHlo.after_of_writes_sub _ _ hpre (by decide)
  · rw [StableHlo.after_of_writes_sub _ _ hpost (by decide)]
    refine (Function.update_of_ne (show dref main_arg2 ≠ dref main_v5 by decide) _ _).trans ?_
    exact StableHlo.after_of_writes_sub _ _ hpre (by decide)

theorem post_sub : ∀ op ∈ (postOps : List (HloOp τ sig (Elt F))), op.bufs ⊆ ucRefs τ sig := by
  intro op hop
  refine Pipeline.sub_ucRefs op ?_
  simp only [postOps, List.mem_cons, List.mem_nil_iff, _root_.or_false] at hop
  rcases hop with rfl | rfl | rfl | rfl | rfl <;> first | exact StableHlo.reshape_bufs_sub .. | exact StableHlo.unary_bufs_sub .. | exact StableHlo.binary_bufs_sub ..

theorem pre_fresh : ∀ op ∈ (preOps : List (HloOp τ sig (Elt F))), op.fresh = ∅ :=
  fun op h => (List.forall_iff_forall_mem.mp (StableHlo.forall_fresh_of_map (ops := preOps (F := F)) rfl)) op h
theorem post_fresh : ∀ op ∈ (postOps : List (HloOp τ sig (Elt F))), op.fresh = ∅ :=
  fun op h => (List.forall_iff_forall_mem.mp (StableHlo.forall_fresh_of_map (ops := postOps (F := F)) rfl)) op h

/-- What @main leaves: the arguments as they were, and the result that the tiles' rows make. -/
abbrev FIN (d : Dev nD) : sProp 𝕄 :=
  iprop((hLoc d main_arg0 ↦{fullShare} m (hLoc d main_arg0)) ∗ (hLoc d main_arg1 ↦{fullShare} m (hLoc d main_arg1)) ∗ (hLoc d main_arg2 ↦{fullShare} m (hLoc d main_arg2))
    ∗ ∃ g : Buf (Elt F) (hLoc d main_v5), ⌜∀ q, TileDone m d (coordsP q) g⌝ ∗ hLoc d main_v10 ↦{fullShare} Vf m d g (dref main_v10))

theorem unscoped_held (d : Dev nD) : (unscopedBufs d (fun b => m ((SparseCore.T d).loc b)) : sProp 𝕄) = held (T d) (ucRefs τ sig) (V0 m d) :=
  Pipeline.unscopedBufs_held d (V0 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (ucRefs τ sig) _ preOps pre_sub pre_fresh (V0 m d)) $$ [Hb Hheld]
  · isplitl [Hb]; · iexact Hb
    iexact Hheld
  iintro ⟨Hb, Hheld⟩
  rw [show StableHlo.after preOps (V0 m d) = Vh m d from rfl]
  ihave Hh := (Entails.of_eq (held_call (F := F) d (Vh m d))) $$ Hheld
  icases Hh with ⟨Hx, Hg, Hs, Ho, Hrest⟩
  rw [wp_bind]
  iapply ((K (F := F)).wp_run (D (F := F)) 𝒱 (EH := EH) (P := P m) κ d 0) $$ [Hst Hx Hg Hs Ho Hb Hrest Hts]
  isplitr; · iexact Hctx
  isplitl [Hst]; · iexact Hst
  isplitl [Hx Hg Hs Ho]
  · iapply (st0 m d (Vh m d (dref main_v5)))
    isplitl [Hx Hg Hs]
    · isplitl [Hx]; · iexact Hx
      isplitl [Hg]; · iexact Hg
      iexact Hs
    iexact Ho
  iintro ⟨Hst, Hdn⟩
  ihave Hdn' := (dn0 m d) $$ Hdn
  icases Hdn' with ⟨⟨Hx, Hg, Hs⟩, %g, %hT, Ho⟩
  rw [show (StableHlo.seq postOps : Prog (TpuEff nD τ sig (Elt F) (SparseCore.Sig (ΛP (F := F)) 1) .tc) PUnit) = (StableHlo.seq postOps >>= fun _ => pure ⟨⟩) from (bind_pure _).symm]
  ihave Hheld := (Entails.of_eq (held_call (F := F) d (Vc m d g)).symm) $$ [Hx Hg Hs Ho Hrest]
  · rw [← rest_eq]
    isplitl [Hx]; · iexact Hx
    isplitl [Hg]; · iexact Hg
    isplitl [Hs]; · iexact Hs
    isplitl [Ho]
    · rw [show Vc m d g (dref main_v5) = g from Function.update_self _ _ _]; iexact Ho
    iexact Hrest
  iapply (StableHlo.wp_seq 𝒱 none Set.univ d (ucRefs τ sig) _ postOps post_sub post_fresh (Vc m d g)) $$ [Hb Hheld]
  · isplitl [Hb]; · iexact Hb
    iexact Hheld
  iintro ⟨Hb, Hheld⟩
  rw [show StableHlo.after postOps (Vc m d g) = Vf m d g from rfl]
  ihave Hf := (held_fin (F := F) d (Vf m d g)) $$ Hheld
  rw [(Vf_arg m d g).1.1, (Vf_arg m d g).1.2, (Vf_arg m d g).2]
  icases Hf with ⟨H0, H1, H2, H3⟩
  rw [wp_pure]; imodintro
  isplitl [Hst]; · iexact Hst
  isplitr [Hb Hts]
  · isplitl [H0]; · iexact H0
    isplitl [H1]; · iexact H1
    isplitl [H2]; · iexact H2
    iexists g
    isplitr; · ipureintro; exact hT
    iexact H3
  isplitl [Hb] <;> iassumption

def fq (d : Dev nD) (s' : Phys nD τ sig (Elt F)) : Prop :=
  ((s'.mem.mem (hLoc d main_arg0) = m (hLoc d main_arg0) ∧ s'.mem.mem (hLoc d main_arg1) = m (hLoc d main_arg1)) ∧ s'.mem.mem (hLoc d main_arg2) = m (hLoc d main_arg2))
    ∧ ∃ g : Buf (Elt F) (hLoc d main_v5), (∀ q, TileDone m d (coordsP q) g) ∧ s'.mem.mem (hLoc d main_v10) = Vf m d g (dref main_v10)

set_option maxRecDepth 16384 in
theorem hfin (d : Dev nD) (s' : Phys nD τ sig (Elt F)) : iprop(FIN m d ∗ SI s') ⊢ (⌜fq m d s'⌝ : sProp 𝕄) := by
  iintro ⟨⟨H0, H1, H2, %g, %hT, H3⟩, HSI⟩
  ihave H := (persistent_entails_right (SI_pointsTo_agree (st := s') (ℓ := hLoc d main_arg0) (I := Finset.univ) (q := fullShare) (f := m (hLoc d main_arg0)))) $$ [HSI H0]
  · isplitl [HSI] <;> iassumption
  icases H with ⟨%h0, HSI, -⟩
  ihave H := (persistent_entails_right (SI_pointsTo_agree (st := s') (ℓ := hLoc d main_arg1) (I := Finset.univ) (q := fullShare) (f := m (hLoc d main_arg1)))) $$ [HSI H1]
  · isplitl [HSI] <;> iassumption
  icases H with ⟨%h1, HSI, -⟩
  ihave H := (persistent_entails_right (SI_pointsTo_agree (st := s') (ℓ := hLoc d main_arg2) (I := Finset.univ) (q := fullShare) (f := m (hLoc d main_arg2)))) $$ [HSI H2]
  · isplitl [HSI] <;> iassumption
  icases H with ⟨%h2, HSI, -⟩
  ihave H := (SI_pointsTo_agree (st := s') (ℓ := hLoc d main_v10) (I := Finset.univ) (q := fullShare) (f := Vf m d g (dref main_v10))) $$ [HSI H3]
  · isplitl [HSI] <;> iassumption
  icases H with %h3
  ipureintro
  exact ⟨⟨⟨funext fun i => h0 i (Finset.mem_univ i), funext fun i => h1 i (Finset.mem_univ i)⟩, funext fun i => h2 i (Finset.mem_univ i)⟩,
    g, hT, funext fun i => h3 i (Finset.mem_univ i)⟩

/-! ## The program's run -/

def QC : PUnit × MemSt nD τ sig (Elt F) → Prop := fun r => (∀ d : Dev nD,
  ((r.2.mem (hLoc d main_arg0) = m (hLoc d main_arg0) ∧ r.2.mem (hLoc d main_arg1) = m (hLoc d main_arg1)) ∧ r.2.mem (hLoc d main_arg2) = m (hLoc d main_arg2))
    ∧ ∃ g : Buf (Elt F) (hLoc d main_v5), (∀ q, TileDone m d (coordsP q) g) ∧ r.2.mem (hLoc d main_v10) = Vf m d g (dref main_v10)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Frames.lean ====
/- The preconditions read back, and the frames of the two printings of the program. -/
module

public import proofs.«01_k».proof.Defs
public import proofs.«01_k».proof.Proof.Main
public import proofs.«01_k».proof.Proof.Gen.Kernel
public import proofs.«01_k».proof.Proof.Gen.Pre_gather_in_range
public import proofs.«01_k».proof.Proof.Gen.Pre_sorted_segments
public import Idealize.ShloMosaic.Lib.ReduceAll
public import Idealize.ShloMosaic.Lib.Affine

@[expose] public section

noncomputable section

namespace Cert.Proof

open Idealize.ShloMosaic Idealize.SL.Sem

/-- A word that is at least 0 and below 10000, read signed, is below 10000. -/
theorem word_lt (w : BitVec 32) (h0 : (0 : Int) ≤ w.toInt) (h1 : w.toInt < 10000) : w.toNat < 10000 := by
  rw [BitVec.toInt_eq_toNat_cond] at h0 h1
  split at h0 <;> split at h1 <;> omega

instance subsingleton_scalar : Subsingleton (Shape.Idx ⟨0, ![]⟩) := ⟨fun a b => funext fun i => i.elim0⟩

/-- `gather_in_range` of the arguments: every gather index is below 10000. -/
theorem gather_lt {F : FTy → Type} [FloatOps F] (x : FVec F ⟨2, ![10000, 256]⟩ .f32) (a b : IVec ⟨1, ![160000]⟩ 32)
    (h : Cert.Pre_gather_in_range.fn (F := F) x a b = fun _ => 1#1) (j : Shape.Idx ⟨1, ![160000]⟩) : (a j).toNat < 10000 := by
  have e := congrFun h (fun i => i.elim0)
  have e := Host.reduce_andi_all _ _ _ _ _ e j
  obtain ⟨e0, e1⟩ := IntOp.andi_eq_one.1 e
  exact word_lt _ (IntOp.cmpi_sge.1 e0) (IntOp.cmpi_slt.1 e1)

open Run in
theorem frame_kernel : Cert.quiescent_Kernel := fun m ρ hpre =>
  (θ_run Cert.KernelIdeal.defs _ _).mono (fun _ h => ⟨fun c => ⟨(h.1 c).1.1.1, (h.1 c).1.1.2, (h.1 c).1.2⟩, h.2⟩)
    (Run.run_main (F := Bits) m ρ fun d => gather_lt _ _ _ (hpre d))

theorem frame_ideal : Cert.quiescent_KernelIdeal := fun m ρ hpre =>
  (θ_run Cert.KernelIdeal.defs _ _).mono (fun _ h => ⟨fun c => ⟨(h.1 c).1.1.1, (h.1 c).1.1.2, (h.1 c).1.2⟩, h.2⟩)
    (Run.run_main (F := Ideal) m ρ fun d => gather_lt _ _ _ (hpre d))

end Cert.Proof

end
-- ==== Proof.Ref.lean ====
/- The reference's run: its operations as a list, and what they leave. -/
module

public import proofs.«01_k».proof.Defs
public import proofs.«01_k».proof.Proof.Gen.ReferenceIdeal
public import Idealize.ShloMosaic.Lib.Claim

@[expose] public section

noncomputable section

namespace Cert.Proof.Ref

open Idealize.ShloMosaic Idealize.SL.Sem Cert.ReferenceIdeal Cert.ReferenceIdeal.Facts Cert.ReferenceIdeal.Gen

variable {F : FTy → Type} [FloatOps F]

/-- The operations that take the gathered rows. -/
def takeOps : List (HloOp τ sig (Elt F)) :=
  [StableHlo.TRef.nullary main_call0.c (constantI S_ 32 0#32),
   StableHlo.TRef.unary main_call0.c main_call0.v0 (broadcastInDim S160000 ![] bcast_S_S160000),
   StableHlo.TRef.binary (.of main_arg1) main_call0.v0 main_call0.v1 (cmpi .slt),
   StableHlo.TRef.nullary main_call0.c_0 (constantI S_ 32 10000#32),
   StableHlo.TRef.unary main_call0.c_0 main_call0.v2 (broadcastInDim S160000 ![] bcast_S_S160000),
   StableHlo.TRef.binary (.of main_arg1) main_call0.v2 main_call0.v3 addi,
   StableHlo.TRef.ternary main_call0.v1 main_call0.v3 (.of main_arg1) main_call0.call0.v0 select,
   StableHlo.TRef.unary main_call0.call0.v0 main_call0.v5 (broadcastInDim S160000x1 ![0] bcast_S160000_S160000x1_0),
   StableHlo.TRef.nullary main_call0.c_1 (constantI S1 32 9999#32),
   StableHlo.TRef.nullary main_call0.c_2 (constantI S_ 32 0#32),
   StableHlo.TRef.unary main_call0.c_2 main_call0.v6 (broadcastInDim S160000x1 ![] bcast_S_S160000x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S160000x1 ![0, 1] bcast_S1x1_S160000x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S160000x1_S160000_d1 h_S_),
   StableHlo.TRef.binary (.of main_arg0) main_call0.v5 main_call0.v13 (fun x i => Host.gather gather_S10000x256_S160000x1_S160000x256_1_0_n_n_0_1_1256 x i),
   StableHlo.TRef.unary main_call0.v12 main_call0.v14 (broadcastInDim S160000x256 ![0] bcast_S160000_S160000x256_0),
   StableHlo.TRef.nullary main_call0.cst (constant S_ .f32 0x7FC00000#32),
   StableHlo.TRef.unary main_call0.cst main_call0.v15 (broadcastInDim S160000x256 ![] bcast_S_S160000x256),
   StableHlo.TRef.ternary main_call0.v14 main_call0.v13 main_call0.v15 main_call0.v16 select]

/-- The two sums by segment and their quotient. -/
def sumOps : List (HloOp τ sig (Elt F)) :=
  [StableHlo.nullary main_cst (constant S_ .f32 0x00000000#32),
   StableHlo.unary main_cst main_v1 (broadcastInDim S10000x256 ![] bcast_S_S10000x256 : (⟨S_, .f32⟩ : BufTy).Contents (Elt F) → (⟨S10000x256, .f32⟩ : BufTy).Contents (Elt F)),
   StableHlo.unary main_arg2 main_v2 (broadcastInDim S160000x1 ![0] bcast_S160000_S160000x1_0 : (⟨S160000, .i32⟩ : BufTy).Contents (Elt F) → (⟨S160000x1, .i32⟩ : BufTy).Contents (Elt F)),
   StableHlo.ternary main_v1 main_v2 main_v0 main_v3 ((fun x i u => Host.scatterAdd scatter_S10000x256_S160000x1_S160000x256_1_0_0_1 x i u) : (⟨S10000x256, .f32⟩ : BufTy).Contents (Elt F) → (⟨S160000x1, .i32⟩ : BufTy).Contents (Elt F) → (⟨S160000x256, .f32⟩ : BufTy).Contents (Elt F) → (⟨S10000x256, .f32⟩ : BufTy).Contents (Elt F)),
   StableHlo.nullary main_cst_0 (constant S_ .f32 0x3F800000#32),
   StableHlo.unary main_cst_0 main_v4 (broadcastInDim S160000 ![] bcast_S_S160000 : (⟨S_, .f32⟩ : BufTy).Contents (Elt F) → (⟨S160000, .f32⟩ : BufTy).Contents (Elt F)),
   StableHlo.nullary main_cst_1 (constant S_ .f32 0x00000000#32),
   StableHlo.unary main_cst_1 main_v5 (broadcastInDim S10000 ![] bcast_S_S10000 : (⟨S_, .f32⟩ : BufTy).Contents (Elt F) → (⟨S10000, .f32⟩ : BufTy).Contents (Elt F)),
   StableHlo.unary main_arg2 main_v6 (broadcastInDim S160000x1 ![0] bcast_S160000_S160000x1_0 : (⟨S160000, .i32⟩ : BufTy).Contents (Elt F) → (⟨S160000x1, .i32⟩ : BufTy).Contents (Elt F)),
   StableHlo.ternary main_v5 main_v6 main_v4 main_v7 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
   StableHlo.nullary main_cst_2 (constant S_ .f32 0x3F800000#32),
   StableHlo.unary main_cst_2 main_v8 (broadcastInDim S10000 ![] bcast_S_S10000 : (⟨S_, .f32⟩ : BufTy).Contents (Elt F) → (⟨S10000, .f32⟩ : BufTy).Contents (Elt F)),
   StableHlo.binary main_v7 main_v8 main_v9 (maximumf : (⟨S10000, .f32⟩ : BufTy).Contents (Elt F) → (⟨S10000, .f32⟩ : BufTy).Contents (Elt F) → (⟨S10000, .f32⟩ : BufTy).Contents (Elt F)),
   StableHlo.unary main_v9 main_v10 (broadcastInDim S10000x1 ![0] bcast_S10000_S10000x1_0 : (⟨S10000, .f32⟩ : BufTy).Contents (Elt F) → (⟨S10000x1, .f32⟩ : BufTy).Contents (Elt F)),
   StableHlo.unary main_v10 main_v11 (broadcastInDim S10000x256 ![0, 1] bcast_S10000x1_S10000x256_0_1 : (⟨S10000x1, .f32⟩ : BufTy).Contents (Elt F) → (⟨S10000x256, .f32⟩ : BufTy).Contents (Elt F)),
   StableHlo.binary main_v3 main_v11 main_v12 (Host.divf : (⟨S10000x256, .f32⟩ : BufTy).Contents (Elt F) → (⟨S10000x256, .f32⟩ : BufTy).Contents (Elt F) → (⟨S10000x256, .f32⟩ : BufTy).Contents (Elt F))]

theorem isSeq (d : Dev nD) : StableHlo.IsSeq (main (F := F) d) (takeOps ++ sumOps) := by
  unfold StableHlo.IsSeq
  rfl

theorem take_sub : ∀ op ∈ (takeOps : List (HloOp τ sig (Elt F))), op.bufs ⊆ StableHlo.tcRefs τ sig := by
  intro op hop
  simp only [takeOps, List.mem_cons, List.mem_nil_iff, _root_.or_false] at hop
  rcases hop with rfl | rfl | rfl | rfl | rfl | rfl | rfl | rfl | rfl | rfl | rfl | rfl | rfl | rfl | rfl | rfl | rfl | rfl | rfl | rfl | rfl | rfl | rfl
  all_goals simp only [StableHlo.TRef.nullary, StableHlo.TRef.unary, StableHlo.TRef.binary, StableHlo.TRef.ternary, StableHlo.nullary_bufs_sub, StableHlo.unary_bufs_sub,
    StableHlo.binary_bufs_sub, StableHlo.ternary_bufs_sub]

theorem sum_sub : ∀ op ∈ (sumOps : List (HloOp τ sig (Elt F))), op.bufs ⊆ StableHlo.tcRefs τ sig := by
  intro op hop
  simp only [sumOps, List.mem_cons, List.mem_nil_iff, _root_.or_false] at hop
  rcases hop with rfl | rfl | rfl | rfl | rfl | rfl | rfl | rfl | rfl | rfl | rfl | rfl | rfl | rfl | rfl | rfl
  all_goals simp only [StableHlo.nullary_bufs_sub, StableHlo.unary_bufs_sub, StableHlo.binary_bufs_sub, StableHlo.ternary_bufs_sub]

theorem all_sub : (takeOps ++ sumOps : List (HloOp τ sig (Elt F))).Forall fun op => op.bufs ⊆ StableHlo.tcRefs τ sig := by
  rw [List.forall_iff_forall_mem]
  intro op hop
  exact (List.mem_append.mp hop).elim (take_sub op) (sum_sub op)

theorem all_fresh : ∀ op ∈ (takeOps ++ sumOps : List (HloOp τ sig (Elt F))), op.fresh = ∅ :=
  fun op h => (List.forall_iff_forall_mem.mp (StableHlo.forall_fresh_of_map (ops := (takeOps ++ sumOps : List (HloOp τ sig (Elt F)))) rfl)) op h

/-- The result as a function of the rows taken and the segments. -/
def means (x : FVec F S160000x256 .f32) (s : IVec S160000 32) : FVec F S10000x256 .f32 :=
  Host.divf (Host.scatterAdd scatter_S10000x256_S160000x1_S160000x256_1_0_0_1 (broadcastInDim S10000x256 ![] bcast_S_S10000x256 (constant S_ .f32 0x00000000#32))
      (broadcastInDim S160000x1 ![0] bcast_S160000_S160000x1_0 s) x)
    (broadcastInDim S10000x256 ![0, 1] bcast_S10000x1_S10000x256_0_1 (broadcastInDim S10000x1 ![0] bcast_S10000_S10000x1_0
      (maximumf (Host.scatterAdd scatter_S10000_S160000x1_S160000_n_0_0_1 (broadcastInDim S10000 ![] bcast_S_S10000 (constant S_ .f32 0x00000000#32))
          (broadcastInDim S160000x1 ![0] bcast_S160000_S160000x1_0 s) (broadcastInDim S160000 ![] bcast_S_S160000 (constant S_ .f32 0x3F800000#32)))
        (broadcastInDim S10000 ![] bcast_S_S10000 (constant S_ .f32 0x3F800000#32)))))

/-- The row numbers as the gather reads them. -/
def rowIds (g : IVec S160000 32) : IVec S160000x1 32 :=
  broadcastInDim S160000x1 ![0] bcast_S160000_S160000x1_0
    (select (cmpi .slt g (broadcastInDim S160000 ![] bcast_S_S160000 (constantI S_ 32 0#32)))
      (addi g (broadcastInDim S160000 ![] bcast_S_S160000 (constantI S_ 32 10000#32))) g)

/-- The rows taken. -/
def taken (x : FVec F S10000x256 .f32) (g : IVec S160000 32) : FVec F S160000x256 .f32 :=
  select (broadcastInDim S160000x256 ![0] bcast_S160000_S160000x256_0
      (Host.reduce IntOp.andi (andi (cmpi .sge (rowIds g) (broadcastInDim S160000x1 ![] bcast_S_S160000x1 (constantI S_ 32 0#32)))
        (cmpi .sle (rowIds g) (broadcastInDim S160000x1 ![0, 1] bcast_S1x1_S160000x1_0_1 (broadcastInDim S1x1 ![1] bcast_S1_S1x1_1 (constantI S1 32 9999#32)))))
        (constantI S_ 1 1#1) reducesTo_S160000x1_S160000_d1 h_S_))
    (Host.gather gather_S10000x256_S160000x1_S160000x256_1_0_n_n_0_1_1256 x (rowIds g))
    (broadcastInDim S160000x256 ![] bcast_S_S160000x256 (constant S_ .f32 0x7FC00000#32))

abbrev rref (r : Ref sig .tc) : DevRef τ sig := Proc.devRef .tc r

theorem sum_out (W : Valuation τ sig (Elt F)) : StableHlo.after sumOps W (rref main_v12) = means (W (rref main_v0)) (W (rref main_arg2)) := by
  unfold sumOps means rref
  after_results

theorem take_out (V : Valuation τ sig (Elt F)) : StableHlo.after takeOps V (rref main_v0) = taken (V (rref main_arg0)) (V (rref main_arg1)) := by
  unfold takeOps taken rowIds rref
  after_results
  simp -implicitDefEqProofs only [StableHlo.TRef.toBuf, StableHlo.TRef.ofBuf, cast_cast, cast_eq]

theorem keep (V : Valuation τ sig (Elt F)) : (StableHlo.after (takeOps ++ sumOps) V (rref main_arg0) = V (rref main_arg0)
    ∧ StableHlo.after (takeOps ++ sumOps) V (rref main_arg1) = V (rref main_arg1)) ∧ StableHlo.after (takeOps ++ sumOps) V (rref main_arg2) = V (rref main_arg2) := by
  have h : (takeOps ++ sumOps : List (HloOp τ sig (Elt F))).Forall fun op => op.writes ⊆ (([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_cst, main_v1, main_v2, main_v3, main_cst_0, main_v4, main_cst_1, main_v5, main_v6, main_v7, main_cst_2, main_v8, main_v9, main_v10, main_v11, main_v12] : List (Ref sig .tc)).map (Proc.devRef (τ := τ) .tc)).toFinset :=
    StableHlo.forall_writes_sub_of_map rfl
  exact ⟨⟨StableHlo.after_of_writes_sub _ _ h (by decide), StableHlo.after_of_writes_sub _ _ h (by decide)⟩, StableHlo.after_of_writes_sub _ _ h (by decide)⟩

variable (m : (ℓ : Loc nD τ sig) → Buf (Elt F) ℓ) (ρ : Dev nD → PrngReg)

theorem run_main : θ_run (defs (F := F)) (onTc (τ := τ) (main (F := F))) ⟨m, fun _ => 0, ρ⟩ fun r =>
    ∀ (d : Dev nD) (b : Ref sig .tc), r.2.mem ((d.tc : Thread nD τ).loc b) = StableHlo.after (takeOps ++ sumOps) (StableHlo.launchContents m d) (Proc.devRef .tc b) :=
  StableHlo.run_hlo _ _ isSeq (by decide) (by decide) all_sub all_fresh m ρ

end Cert.Proof.Ref

namespace Cert.Proof

open Idealize.ShloMosaic Idealize.SL.Sem

theorem frame_reference : Cert.quiescent_ReferenceIdeal := fun m ρ _ =>
  (θ_run Cert.ReferenceIdeal.defs _ _).mono (fun r h => ⟨fun c => ⟨(h c Cert.ReferenceIdeal.main_arg0).trans (Ref.keep _).1.1, (h c Cert.ReferenceIdeal.main_arg1).trans (Ref.keep _).1.2,
      (h c Cert.ReferenceIdeal.main_arg2).trans (Ref.keep _).2⟩, Idealize.ShloMosaic.sem_eq_zero_of_no_sems (by decide) r.2⟩)
    (Ref.run_main (F := Ideal) m ρ)

end Cert.Proof

end
-- ==== Proof.Sums.lean ====
/-
  At the extended reals the tile's fold is a sum: after a window of edges and the last row closed, each row of the
  accumulator holds the sum of the values of the edges of that row, and the counters how many there are.
-/
module

public import proofs.«01_k».proof.Proof.Half
public import Idealize.ShloMosaic.Lib.IdealHost
public import Idealize.ShloMosaic.PureOps.Ideal

@[expose] public section

noncomputable section

namespace Cert.Proof.Run

open Cert.KernelIdeal Cert.KernelIdeal.Gen

open Idealize.ShloMosaic

/-- A row's sum so far: what the accumulator holds and, where the row is open, the partial sum. -/
def total (s : St Ideal) (p : ℕ) (x : S328x128.Idx) : EReal := s.acc x + if s.prev.toNat = p then s.r (x 1) else 0

/-- A row's count so far. -/
def tally (s : St Ideal) (p : ℕ) (x : S328x16.Idx) : EReal := s.cnt x + if s.prev.toNat = p then ((s.rc.toInt : ℝ) : EReal) else 0

variable (oh : FVec Ideal S16 .f32) (h : ℕ)

theorem flush_acc (s : St Ideal) (x : S328x128.Idx) : (flush oh h s).acc x = total s (x 0).val x := by
  show (if (x 0).val = s.prev.toNat then s.acc x + s.r (x 1) else s.acc x) = _
  unfold total
  by_cases e : (x 0).val = s.prev.toNat
  · rw [if_pos e, if_pos e.symm]
  · rw [if_neg e, if_neg (Ne.symm e), add_zero]

theorem flush_cnt (hoh : oh (ix1 (n0 := 16) 0) = (1 : EReal)) (s : St Ideal) (p : Fin 328) :
    (flush oh 0 s).cnt (ix2 (n0 := 328) (n1 := 16) p 0) = tally s p.val (ix2 (n0 := 328) (n1 := 16) p 0) := by
  show (if p.val = s.prev.toNat then s.cnt _ + oh (ix1 (n0 := 16) 0) * ((s.rc.toInt : ℝ) : EReal) else s.cnt _) = _
  unfold tally
  rw [hoh, one_mul]
  by_cases e : p.val = s.prev.toNat
  · rw [if_pos e, if_pos e.symm]
  · rw [if_neg e, if_neg (Ne.symm e), add_zero]

theorem total_step (le : BitVec 32) (row : Fin 128 → EReal) (s : St Ideal) (x : S328x128.Idx) :
    total (step oh h le row s) (x 0).val x = total s (x 0).val x + if le.toNat = (x 0).val then row (x 1) else 0 := by
  by_cases e : le = s.prev
  · unfold step
    rw [if_pos e]
    unfold total
    show s.acc x + (if s.prev.toNat = (x 0).val then s.r (x 1) + row (x 1) else 0) = _
    rw [e]
    by_cases e' : s.prev.toNat = (x 0).val
    · rw [if_pos e', if_pos e', if_pos e', add_assoc]
    · rw [if_neg e', if_neg e', if_neg e']
      exact (add_zero _).symm
  · unfold step
    rw [if_neg e]
    conv_lhs => unfold total
    show (flush oh h s).acc x + (if le.toNat = (x 0).val then row (x 1) else 0) = _
    rw [flush_acc]

theorem tally_step (hoh : oh (ix1 (n0 := 16) 0) = (1 : EReal)) (le : BitVec 32) (row : Fin 128 → EReal) (s : St Ideal) (hrc : s.rc.toNat < 1000000) (p : Fin 328) :
    tally (step oh 0 le row s) p.val (ix2 (n0 := 328) (n1 := 16) p 0)
      = tally s p.val (ix2 (n0 := 328) (n1 := 16) p 0) + if le.toNat = p.val then 1 else 0 := by
  by_cases e : le = s.prev
  · unfold step
    rw [if_pos e]
    unfold tally
    show s.cnt _ + (if s.prev.toNat = p.val then (((s.rc + 1#32).toInt : ℝ) : EReal) else 0) = _
    have e1 : (s.rc + 1#32).toNat = s.rc.toNat + 1 := by
      rw [BitVec.toNat_add]; show (s.rc.toNat + 1) % 4294967296 = _; omega
    have e2 : (s.rc + 1#32).toInt = s.rc.toInt + 1 := by
      rw [BitVec.toInt_eq_toNat_cond, BitVec.toInt_eq_toNat_cond, if_pos (by omega), if_pos (by omega), e1]; push_cast; rfl
    rw [e]
    by_cases e' : s.prev.toNat = p.val
    · rw [if_pos e', if_pos e', if_pos e', e2, add_assoc]
      push_cast
      rfl
    · rw [if_neg e', if_neg e', if_neg e']
      exact (add_zero _).symm
  · unfold step
    rw [if_neg e]
    conv_lhs => unfold tally
    show (flush oh 0 s).cnt _ + (if le.toNat = p.val then ((((1#32 : BitVec 32).toInt : ℤ) : ℝ) : EReal) else 0) = _
    rw [flush_cnt oh hoh]
    congr 1
    have : (1#32 : BitVec 32).toInt = 1 := by decide
    rw [this]; simp

theorem run_rc_le (E : Edges Ideal) (s : St Ideal) (n : ℕ) (hn : n < 1000000) (hs : s.rc.toNat = 0) : (run oh h E s n).rc.toNat ≤ n := by
  induction n with
  | zero => exact hs.le
  | succ n ih =>
    have ih := ih (by omega)
    show (step oh h (E.le n) (E.row n) (run oh h E s n)).rc.toNat ≤ n + 1
    unfold step
    split
    · show ((run oh h E s n).rc + 1#32).toNat ≤ _
      rw [BitVec.toNat_add]; show ((run oh h E s n).rc.toNat + 1) % 4294967296 ≤ _; omega
    · show (1#32 : BitVec 32).toNat ≤ _
      show 1 ≤ n + 1
      omega

theorem total_run (E : Edges Ideal) (s : St Ideal) (x : S328x128.Idx) (n : ℕ) :
    total (run oh h E s n) (x 0).val x = total s (x 0).val x + ∑ k ∈ Finset.range n, if (E.le k).toNat = (x 0).val then E.row k (x 1) else 0 := by
  induction n with
  | zero => rw [Finset.range_zero, Finset.sum_empty, add_zero]; rfl
  | succ n ih =>
    rw [Finset.sum_range_succ, ← add_assoc, ← ih]
    exact total_step oh h (E.le n) (E.row n) _ x

theorem tally_run (hoh : oh (ix1 (n0 := 16) 0) = (1 : EReal)) (E : Edges Ideal) (s : St Ideal) (hs : s.rc.toNat = 0) (p : Fin 328) (n : ℕ) (hn : n < 1000000) :
    tally (run oh 0 E s n) p.val (ix2 (n0 := 328) (n1 := 16) p 0)
      = tally s p.val (ix2 (n0 := 328) (n1 := 16) p 0) + ∑ k ∈ Finset.range n, if (E.le k).toNat = p.val then 1 else 0 := by
  induction n with
  | zero => rw [Finset.range_zero, Finset.sum_empty, add_zero]; rfl
  | succ n ih =>
    rw [Finset.sum_range_succ, ← add_assoc, ← ih (by omega)]
    exact tally_step oh hoh (E.le n) (E.row n) _ (lt_of_le_of_lt (run_rc_le oh 0 E s n (by omega) hs) (by omega)) p

theorem zero32_ideal : (zero32 : Ideal .f32) = (0 : EReal) := by
  show Ideal.ofBits .f32 0x00000000#32 = 0
  simp [Ideal.ofBits, Ideal.ieee]
theorem one32_ideal : (one32 : Ideal .f32) = (1 : EReal) := by
  show Ideal.ofBits .f32 0x3F800000#32 = 1
  simp [Ideal.ofBits, Ideal.ieee, -EReal.coe_mul]; norm_num

theorem oh_zero : (k0_pay2 (F := Ideal)) (ix1 (n0 := 16) 0) = (1 : EReal) := one32_ideal

/-- The row's sum and count over a window. -/
theorem closed_acc (E : Edges Ideal) (n : ℕ) (A : FVec Ideal S328x128 .f32) (C : FVec Ideal S328x16 .f32) (x : S328x128.Idx) (hx : (x 0).val < 320) :
    (closed h E n A C).acc x = ∑ k ∈ Finset.range n, if (E.le k).toNat = (x 0).val then E.row k (x 1) else 0 := by
  unfold closed
  rw [flush_acc, total_run]
  have : total (init h A C) (x 0).val x = 0 := by
    show (if (x 0).val < 321 then (zero32 : Ideal .f32) else A x) + (if 320 = (x 0).val then (zero32 : Ideal .f32) else 0) = (0 : EReal)
    rw [if_pos (by omega), if_neg (by omega), zero32_ideal, add_zero]
  rw [this, zero_add]

theorem closed_cnt (E : Edges Ideal) (n : ℕ) (hn : n < 1000000) (A : FVec Ideal S328x128 .f32) (C : FVec Ideal S328x16 .f32) (p : Fin 328) (hp : p.val < 320) :
    (closed 0 E n A C).cnt (ix2 (n0 := 328) (n1 := 16) p 0) = ∑ k ∈ Finset.range n, if (E.le k).toNat = p.val then (1 : EReal) else 0 := by
  unfold closed
  rw [flush_cnt _ oh_zero, tally_run _ oh_zero _ _ rfl _ _ hn]
  have : tally (init 0 A C) p.val (ix2 (n0 := 328) (n1 := 16) p 0) = 0 := by
    show (if p.val < 321 then (zero32 : Ideal .f32) else C _) + (if 320 = p.val then _ else 0) = (0 : EReal)
    rw [if_pos (by omega), if_neg (by omega), zero32_ideal, add_zero]
  rw [this, zero_add]

theorem closed_one_cnt (E : Edges Ideal) (n : ℕ) (A : FVec Ideal S328x128 .f32) (C : FVec Ideal S328x16 .f32) : (closed 1 E n A C).cnt = C := by
  have key : ∀ n, (run (k0_pay2 (F := Ideal)) 1 E (init 1 A C) n).cnt = C := by
    intro n
    induction n with
    | zero => rfl
    | succ n ih =>
      show (step _ 1 (E.le n) (E.row n) (run _ 1 E (init 1 A C) n)).cnt = C
      unfold step
      split
      · exact ih
      · exact ih
  exact key n

/-- What a half writes, from the row's sum and the counter. -/
theorem quot_of (s : St Ideal) (x : S320x128.Idx) (v w : EReal)
    (hv : s.acc (ix2 (n0 := 328) (n1 := 128) ⟨(x 0).val, by have h : (x 0).val < 320 := (x 0).isLt; omega⟩ (x 1)) = v)
    (hw : s.cnt (ix2 (n0 := 328) (n1 := 16) ⟨(x 0).val, by have h : (x 0).val < 320 := (x 0).isLt; omega⟩ 0) = w) :
    quot s x = Ideal.div v (max w 1) := by
  have hx : (x 0).val < 320 := (x 0).isLt
  unfold quot divided
  refine (if_pos hx).trans ?_
  show (s.acc _ : EReal) * Ideal.div (one32 : Ideal .f32) (max (s.cnt _ : EReal) (one32 : Ideal .f32)) = _
  rw [one32_ideal]
  refine (Ideal.mul_one_div ?_).trans ?_
  · exact ne_of_gt (lt_of_lt_of_le zero_lt_one (le_max_right _ _))
  · exact congrArg₂ Ideal.div hv (congrArg (fun t => max t 1) hw)

end Cert.Proof.Run

end
-- ==== Proof.Cover.lean ====
/-
  The window the searches find holds every edge of the tile's rows, so a row's sum over the window is its sum over all the
  edges.
-/
module

public import proofs.«01_k».proof.Proof.Tile

@[expose] public section

noncomputable section

namespace Cert.Proof.Run

open Cert.KernelIdeal Cert.KernelIdeal.Gen

open Idealize.ShloMosaic

/-- The segment ids, in order, and the large id that follows them. -/
structure Sorted (S : ℕ → BitVec 32) : Prop where
  mono : ∀ i j, i ≤ j → j < 160000 → (S i).toInt ≤ (S j).toInt
  pad : ∀ j, 160000 ≤ j → j < 161024 → S j = 1073741823#32

variable {S : ℕ → BitVec 32}

theorem Sorted.rising (hS : Sorted S) : Rising S := by
  intro g a b hab hb h
  rw [BitVec.slt_eq_decide, decide_eq_false_iff_not] at h ⊢
  have := hS.mono a b hab hb
  omega

theorem slt_nat {s g : BitVec 32} (hg : g.toNat ≤ 1073741823) : s.slt g = decide (s.toInt < g.toNat) := by
  rw [BitVec.slt_eq_decide, BitVec.toInt_eq_toNat_cond (x := g), if_pos (by omega)]

theorem lane_iff {lo hi s : BitVec 32} (hl : lo.toNat ≤ 1000000) (hh : hi.toNat = lo.toNat + 320) {p : ℕ} (hp : p < 320) :
    (laneOf lo hi s).toNat = p ↔ s.toInt = (lo.toNat + p : ℕ) := by
  unfold laneOf
  rw [slt_nat (by omega), slt_nat (by omega)]
  have hs := BitVec.toInt_eq_toNat_cond s
  have hlt := s.isLt
  split <;> rename_i h <;> rw [decide_eq_false_iff_not, decide_eq_true_eq] at h
  · rw [BitVec.toNat_sub]
    split at hs <;> omega
  · show 320 = p ↔ _
    omega

theorem quads_fit {a b : ℕ} (ha : a ≤ 20000) (hb : b ≤ 20000) : est a + 512 * quads a b ≤ 161024 := by
  unfold quads est; omega

theorem quads_reach {a b : ℕ} : 8 * b ≤ est a + 512 * quads a b := by
  unfold quads est; omega

theorem window_sum {M : Type} [AddCommMonoid M] (hS : Sorted S) {lo hi v5 v7 : BitVec 32} (hl : lo.toNat ≤ 1000000) (hh : hi.toNat = lo.toNat + 320)
    (h5 : probe lo S 15 v5) (h7 : probe hi S 15 v7) (f : ℕ → M) {p : ℕ} (hp : p < 320) :
    (∑ k ∈ Finset.range (512 * quads v5.toNat v7.toNat), if (laneOf lo hi (S (est v5.toNat + k))).toNat = p then f (est v5.toNat + k) else 0)
      = ∑ j ∈ Finset.range 160000, if (S j).toInt = (lo.toNat + p : ℕ) then f j else 0 := by
  have hfit := quads_fit h5.1 h7.1
  have hreach : 8 * v7.toNat ≤ _ := quads_reach (a := v5.toNat)
  generalize hN : 512 * quads v5.toNat v7.toNat = N at hfit hreach ⊢
  have e5 : est v5.toNat = 8 * (v5.toNat - 1) := rfl
  generalize hn : est v5.toNat = n0 at hfit hreach e5 ⊢
  have e1 : (∑ k ∈ Finset.range N, if (laneOf lo hi (S (n0 + k))).toNat = p then f (n0 + k) else 0)
      = ∑ j ∈ Finset.Ico n0 (n0 + N), if (S j).toInt = (lo.toNat + p : ℕ) then f j else 0 := by
    rw [Finset.sum_Ico_eq_sum_range, Nat.add_sub_cancel_left]
    refine Finset.sum_congr rfl fun k hk => ?_
    rw [Finset.mem_range] at hk
    exact if_congr (lane_iff hl hh hp) rfl rfl
  rw [e1]
  have out : ∀ j, j < 161024 → (S j).toInt = (lo.toNat + p : ℕ) → j < 160000 ∧ n0 ≤ j ∧ j < n0 + N := by
    intro j hj e
    have h0 : j < 160000 := by
      by_contra h
      rw [hS.pad j (by omega) hj, show (1073741823#32 : BitVec 32).toInt = 1073741823 by decide] at e
      omega
    refine ⟨h0, ?_, ?_⟩
    · by_contra h
      rcases h5.2.1 with h' | h'
      · omega
      · have h8 := h5.1
        rw [← e5, slt_nat (by omega), decide_eq_true_eq] at h'
        have := hS.mono j n0 (by omega) (by omega)
        omega
    · by_contra h
      have h8 := h7.1
      have h9 := h7.2.2 hS.rising (v7.toNat + 1) (le_refl _) (by omega)
      rw [Nat.add_sub_cancel, slt_nat (by omega), decide_eq_false_iff_not] at h9
      have := hS.mono (8 * v7.toNat) j (by omega) h0
      omega
  have b1 : (∑ j ∈ Finset.Ico n0 (n0 + N), if (S j).toInt = (lo.toNat + p : ℕ) then f j else 0) = ∑ j ∈ Finset.range 161024, if (S j).toInt = (lo.toNat + p : ℕ) then f j else 0 := by
    refine Finset.sum_subset (fun j hj => ?_) (fun j hj hj' => if_neg fun e => hj' ?_)
    · rw [Finset.mem_Ico] at hj; rw [Finset.mem_range]; omega
    · rw [Finset.mem_range] at hj; rw [Finset.mem_Ico]; exact (out j hj e).2
  have b2 : (∑ j ∈ Finset.range 160000, if (S j).toInt = (lo.toNat + p : ℕ) then f j else 0) = ∑ j ∈ Finset.range 161024, if (S j).toInt = (lo.toNat + p : ℕ) then f j else 0 := by
    refine Finset.sum_subset (fun j hj => ?_) (fun j hj hj' => if_neg fun e => hj' ?_)
    · rw [Finset.mem_range] at hj ⊢; omega
    · rw [Finset.mem_range] at hj ⊢; exact (out j hj e).1
  rw [b1, b2]

end Cert.Proof.Run

end
-- ==== Proof.Value.lean ====
/-
  The program's result over the extended reals: each entry is the sum of the rows of its segment over how many there are.
-/
module

public import proofs.«01_k».proof.Proof.Sums
public import proofs.«01_k».proof.Proof.Cover
public import proofs.«01_k».proof.Proof.Task
public import Idealize.ShloMosaic.Lib.ValueLayout

@[expose] public section

noncomputable section

namespace Cert.Proof.Run

open Cert.KernelIdeal Cert.KernelIdeal.Gen

open Idealize.ShloMosaic

/-- The sum of `f` over the positions of segment `v`. -/
def segTotal (S : ℕ → BitVec 32) (f : ℕ → EReal) (v : ℕ) : EReal := ∑ j ∈ Finset.range 160000, if (S j).toInt = (v : ℤ) then f j else 0

/-- The values row that position `j` names, over the columns of half `a`. -/
def rowAt (X : S20000x128.Idx → EReal) (G : ℕ → BitVec 32) (a : BitVec 32) (c : Fin 128) (j : ℕ) : EReal :=
  X (ix2 (n0 := 20000) ⟨min (rowWord a (G j)).toNat 19999, by omega⟩ c)

/-- The two halves' results from the sums over the window. -/
theorem halves_value (E : ℕ → Edges Ideal) (N : ℕ) (hN : N < 1000000) (A : FVec Ideal S328x128 .f32) (C0 : FVec Ideal S328x16 .f32) (A1 : FVec Ideal S328x128 .f32)
    {r0 r1 : S320x128.Idx → Ideal .f32} (x : S320x128.Idx) (V0 V1 W : EReal)
    (e0 : ∀ x, r0 x = quot (closed 0 (E 0) N A C0) x) (e1 : ∀ x, r1 x = quot (closed 1 (E 1) N A1 (closed 0 (E 0) N A C0).cnt) x)
    (wr0 : (∑ k ∈ Finset.range N, if ((E 0).le k).toNat = (x 0).val then ((E 0).row k (x 1) : EReal) else 0) = V0)
    (wr1 : (∑ k ∈ Finset.range N, if ((E 1).le k).toNat = (x 0).val then ((E 1).row k (x 1) : EReal) else 0) = V1)
    (wc : (∑ k ∈ Finset.range N, if ((E 0).le k).toNat = (x 0).val then (1 : EReal) else 0) = W) :
    r0 x = Ideal.div V0 (max W 1) ∧ r1 x = Ideal.div V1 (max W 1) := by
  have hx : (x 0).val < 320 := (x 0).isLt
  have hc := (closed_cnt (E 0) N hN A C0 ⟨(x 0).val, by omega⟩ hx).trans wc
  have ha0 := (closed_acc 0 (E 0) N A C0 (ix2 (n0 := 328) (n1 := 128) ⟨(x 0).val, by omega⟩ (x 1)) hx).trans wr0
  have ha1 := (closed_acc 1 (E 1) N A1 (closed 0 (E 0) N A C0).cnt (ix2 (n0 := 328) (n1 := 128) ⟨(x 0).val, by omega⟩ (x 1)) hx).trans wr1
  have hc1 := (congrFun (closed_one_cnt (E 1) N A1 (closed 0 (E 0) N A C0).cnt) (ix2 (n0 := 328) (n1 := 16) ⟨(x 0).val, by omega⟩ 0)).trans hc
  exact ⟨(e0 x).trans (quot_of _ x _ _ ha0 hc), (e1 x).trans (quot_of _ x _ _ ha1 hc1)⟩

/-- What a tile leaves, as a quotient of sums over all the edges. -/
theorem tile_value (d : Dev nD) (L : grid0.Coords) (fx : Buf (Elt Ideal) (xW.view.loc (thr d L))) (fg : Buf (Elt Ideal) (gW.view.loc (thr d L)))
    (fs : Buf (Elt Ideal) (sW.view.loc (thr d L))) (r0 r1 : S320x128.Idx → Ideal .f32) (hS : Sorted (segAt d L fs)) (h : TileOut d L fx fg fs r0 r1) (x : S320x128.Idx) :
    r0 x = Ideal.div (segTotal (segAt d L fs) (rowAt (xW.view.read (Elt Ideal) fx) (gidAt d L fg) (Scf.iv 0#32 1#32 0) (x 1)) ((lowId L).toNat + (x 0).val))
        (max (segTotal (segAt d L fs) (fun _ => 1) ((lowId L).toNat + (x 0).val)) 1)
    ∧ r1 x = Ideal.div (segTotal (segAt d L fs) (rowAt (xW.view.read (Elt Ideal) fx) (gidAt d L fg) (Scf.iv 0#32 1#32 1) (x 1)) ((lowId L).toNat + (x 0).val))
        (max (segTotal (segAt d L fs) (fun _ => 1) ((lowId L).toNat + (x 0).val)) 1) := by
  obtain ⟨v5, v7, h5, h7, C, A, C0, A1, e0, e1⟩ := h
  have hx : (x 0).val < 320 := (x 0).isLt
  have hl : (lowId L).toNat ≤ 1000000 := by
    have h0 : (L 0).val < 2 := (L 0).isLt
    have h1 : (L 1).val < 16 := (L 1).isLt
    rw [lowId_nat]; omega
  have hN : 512 * quads v5.toNat v7.toNat < 1000000 := by have := quads_fit h5.1 h7.1; omega
  have wr : ∀ a : ℕ, (∑ k ∈ Finset.range (512 * quads v5.toNat v7.toNat), if ((tileEdges d L fx fg fs v5 a).le k).toNat = (x 0).val then ((tileEdges d L fx fg fs v5 a).row k (x 1) : EReal) else 0)
      = segTotal (segAt d L fs) (rowAt (xW.view.read (Elt Ideal) fx) (gidAt d L fg) (Scf.iv 0#32 1#32 a) (x 1)) ((lowId L).toNat + (x 0).val) :=
    fun a => window_sum hS hl (highId_nat L) h5 h7 (rowAt (xW.view.read (Elt Ideal) fx) (gidAt d L fg) (Scf.iv 0#32 1#32 a) (x 1)) hx
  have wc : (∑ k ∈ Finset.range (512 * quads v5.toNat v7.toNat), if ((tileEdges d L fx fg fs v5 0).le k).toNat = (x 0).val then (1 : EReal) else 0)
      = segTotal (segAt d L fs) (fun _ => 1) ((lowId L).toNat + (x 0).val) :=
    window_sum hS hl (highId_nat L) h5 h7 (fun _ => (1 : EReal)) hx
  generalize 512 * quads v5.toNat v7.toNat = N at hN wr wc e0 e1
  have wr0 := wr 0
  have wr1 := wr 1
  generalize segTotal (segAt d L fs) (rowAt (xW.view.read (Elt Ideal) fx) (gidAt d L fg) (Scf.iv 0#32 1#32 0) (x 1)) ((lowId L).toNat + (x 0).val) = V0 at wr0 ⊢
  generalize segTotal (segAt d L fs) (rowAt (xW.view.read (Elt Ideal) fx) (gidAt d L fg) (Scf.iv 0#32 1#32 1) (x 1)) ((lowId L).toNat + (x 0).val) = V1 at wr1 ⊢
  generalize segTotal (segAt d L fs) (fun _ => 1) ((lowId L).toNat + (x 0).val) = W at wc ⊢
  exact halves_value (tileEdges d L fx fg fs v5) N hN A C0 A1 x V0 V1 W e0 e1 wr0 wr1 wc

variable (m : (ℓ : Loc nD τ sig) → Buf (Elt Ideal) ℓ)

theorem segAt_lt (d : Dev nD) (L : grid0.Coords) (j : ℕ) (hj : j < 160000) :
    segAt (F := Ideal) d L (Vh m d (dref main_v4)) j = m (hLoc d main_arg2) (ix1 (n0 := 160000) ⟨j, hj⟩) := by
  unfold segAt
  rw [dif_pos (by omega), Vh_s]
  exact padded_lt _ _ (ix1 (n0 := 161024) ⟨j, by omega⟩) hj

theorem segAt_ge (d : Dev nD) (L : grid0.Coords) (j : ℕ) (h0 : 160000 ≤ j) (h1 : j < 161024) :
    segAt (F := Ideal) d L (Vh m d (dref main_v4)) j = 1073741823#32 := by
  unfold segAt
  rw [dif_pos h1, Vh_s]
  exact padded_ge _ _ (ix1 (n0 := 161024) ⟨j, h1⟩) h0

theorem gidAt_lt (d : Dev nD) (L : grid0.Coords) (j : ℕ) (hj : j < 160000) :
    gidAt (F := Ideal) d L (Vh m d (dref main_v2)) j = m (hLoc d main_arg1) (ix1 (n0 := 160000) ⟨j, hj⟩) := by
  unfold gidAt
  rw [dif_pos (by omega), Vh_g]
  exact padded_lt _ _ (ix1 (n0 := 161024) ⟨j, by omega⟩) hj

/-- The segment ids of every device in order. -/
def InOrder : Prop := ∀ (d : Dev nD) (i j : Fin 160000), i ≤ j →
  (m (hLoc d main_arg2) (ix1 (n0 := 160000) i) : BitVec 32).toInt ≤ (m (hLoc d main_arg2) (ix1 (n0 := 160000) j) : BitVec 32).toInt

theorem sorted_of (hs : InOrder m) (d : Dev nD) (L : grid0.Coords) : Sorted (segAt (F := Ideal) d L (Vh m d (dref main_v4))) where
  mono i j hij hj := by
    rw [segAt_lt m d L i (by omega), segAt_lt m d L j hj]
    exact hs d ⟨i, by omega⟩ ⟨j, hj⟩ hij
  pad j h0 h1 := segAt_ge m d L j h0 h1

theorem slab_row (x : S10000x256.Idx → EReal) (g : ℕ) (hg : g < 10000) (a : Fin 2) (c : Fin 128) :
    shapeCast S20000x128 x shapeCasts_S10000x256_S20000x128 (ix2 (n0 := 20000) (n1 := 128) ⟨2 * g + a.val, by omega⟩ c)
      = x (ix2 (n0 := 10000) (n1 := 256) ⟨g, hg⟩ ⟨128 * a.val + c.val, by omega⟩) := by
  refine shapeCast_apply x _ _ _ ?_
  rw [Shape.rowMajor_val_two, Shape.rowMajor_val_two]
  show g * 256 + (128 * a.val + c.val) = (2 * g + a.val) * 128 + c.val
  ring

theorem rowAt_lt (hpre : PreOK m) (d : Dev nD) (L : grid0.Coords) (a : Fin 2) (c : Fin 128) (j : ℕ) (hj : j < 160000) :
    rowAt (xW.view.read (Elt Ideal) (Vh m d (dref main_v0) : Buf (Elt Ideal) (xW.view.loc (thr d L)))) (gidAt (F := Ideal) d L (Vh m d (dref main_v2))) (Scf.iv 0#32 1#32 a.val) c j
      = m (hLoc d main_arg0) (ix2 (n0 := 10000) (n1 := 256) ⟨(m (hLoc d main_arg1) (ix1 (n0 := 160000) ⟨j, hj⟩) : BitVec 32).toNat, hpre d _⟩ ⟨128 * a.val + c.val, by omega⟩) := by
  have hg := hpre d (ix1 (n0 := 160000) ⟨j, hj⟩)
  have hw : (rowWord (Scf.iv 0#32 1#32 a.val) (gidAt (F := Ideal) d L (Vh m d (dref main_v2)) j)).toNat = 2 * (m (hLoc d main_arg1) (ix1 (n0 := 160000) ⟨j, hj⟩) : BitVec 32).toNat + a.val := by
    rw [gidAt_lt m d L j hj]
    unfold rowWord
    have ha : (Scf.iv 0#32 1#32 a.val : BitVec 32).toNat = a.val := by revert a; decide
    rw [BitVec.toNat_add, BitVec.toNat_mul, ha]
    show (((m (hLoc d main_arg1) (ix1 (n0 := 160000) ⟨j, hj⟩) : BitVec 32).toNat * 2) % 4294967296 + a.val) % 4294967296 = _
    omega
  unfold rowAt
  show Vh m d (dref main_v0) _ = _
  rw [Vh_x]
  refine Eq.trans ?_ (slab_row _ _ hg a c)
  congr 2
  refine congrArg (fun t => ix2 (n0 := 20000) (n1 := 128) t c) (Fin.ext ?_)
  show min _ 19999 = 2 * _ + a.val
  rw [hw]
  exact Nat.min_eq_left (by omega)

/-- The result read at an entry of either half of the columns. -/
theorem result_at (d : Dev nD) (g : Buf (Elt Ideal) (hLoc d main_v5)) (i : Fin 10000) (a : Fin 2) (c : Fin 128) :
    Vf m d g (dref main_v10) (ix2 (n0 := 10000) (n1 := 256) i ⟨128 * a.val + c.val, by omega⟩)
      = g (ix3 (n0 := 2) (n1 := 10240) (n2 := 128) a ⟨i.val, by omega⟩ c) := by
  have e : Vf m d g (dref main_v10)
      = concatenate S10000x256 1 [⟨S10000x128, shapeCast S10000x128 (extractStridedSlice S1x10000x128 ![0, 0, 0] (g : S2x10240x128.Idx → EReal) slices_S2x10240x128_S1x10000x128_0_0_0) shapeCasts_S1x10000x128_S10000x128⟩,
          ⟨S10000x128, shapeCast S10000x128 (extractStridedSlice S1x10000x128 ![1, 0, 0] (g : S2x10240x128.Idx → EReal) slices_S2x10240x128_S1x10000x128_1_0_0) shapeCasts_S1x10000x128_S10000x128⟩]
          concatenates_S10000x128_S10000x128_S10000x256_d1 := by
    unfold Vf postOps Vc dref; after_results; rfl
  rw [e]
  match a with
  | ⟨0, _⟩ =>
    refine (concatenate_pair_apply_left (s₁ := S10000x128) (s₂ := S10000x128) (t := S10000x256) 1 _ _ _ _ rfl (ix2 (n0 := 10000) (n1 := 128) i c) fun b => ?_).trans ?_
    · match b with
      | ⟨0, _⟩ => rfl
      | ⟨1, _⟩ => exact (Nat.zero_add _).symm
    · refine (ValueIdx.shapeCast_1ab_ab_apply _ _ i c).trans ?_
      unfold extractStridedSlice
      congr 1
      funext b
      match b with
      | ⟨0, _⟩ => rfl
      | ⟨1, _⟩ => exact Fin.ext (Nat.zero_add _)
      | ⟨2, _⟩ => exact Fin.ext (Nat.zero_add _)
  | ⟨1, _⟩ =>
    refine (concatenate_pair_apply_right (s₁ := S10000x128) (s₂ := S10000x128) (t := S10000x256) 1 _ _ _ _ rfl rfl (ix2 (n0 := 10000) (n1 := 128) i c) (fun b hb => ?_) ?_).trans ?_
    · match b with
      | ⟨0, _⟩ => rfl
      | ⟨1, _⟩ => exact absurd rfl hb
    · exact Nat.add_comm _ _
    · refine (ValueIdx.shapeCast_1ab_ab_apply _ _ i c).trans ?_
      unfold extractStridedSlice
      congr 1
      funext b
      match b with
      | ⟨0, _⟩ => rfl
      | ⟨1, _⟩ => exact Fin.ext (Nat.zero_add _)
      | ⟨2, _⟩ => exact Fin.ext (Nat.zero_add _)

end Cert.Proof.Run

end
-- ==== Proof.Meaning.lean ====
/-
  The reference read at one entry, over the extended reals: the sum of the rows whose segment it is, over how many there are.
-/
module

public import proofs.«01_k».proof.Proof.Ref
public import Idealize.ShloMosaic.Lib.IdealHost
public import Idealize.ShloMosaic.Lib.ReduceAll
public import Idealize.ShloMosaic.Lib.ValueIdx
public import Idealize.ShloMosaic.Lib.ValueIdxRank1
public import Idealize.ShloMosaic.Lib.Routing.OpsPair

@[expose] public section

noncomputable section

namespace Cert.Proof.Ref

open Idealize.ShloMosaic Idealize.SL.Sem Cert.ReferenceIdeal Cert.ReferenceIdeal.Facts Cert.ReferenceIdeal.Gen
open Idealize.ShloMosaic.ValueIdx

/-- A column of words, read. -/
theorem column_at {α : Type} (x : S160000.Idx → α) (j : S160000x1.Idx) :
    broadcastInDim S160000x1 ![0] bcast_S160000_S160000x1_0 x j = x (ix1 (n := 160000) (j 0)) := by
  unfold broadcastInDim
  congr 1
  funext a
  match a with
  | ⟨0, _⟩ => rfl

/-- A value per row, read at an entry. -/
theorem perRow_at {α : Type} (x : S10000.Idx → α) (i : Fin 10000) (c : Fin 256) :
    broadcastInDim S10000x256 ![0, 1] bcast_S10000x1_S10000x256_0_1 (broadcastInDim S10000x1 ![0] bcast_S10000_S10000x1_0 x) (ix2 (n0 := 10000) (n1 := 256) i c) = x (ix1 (n := 10000) i) := by
  unfold broadcastInDim
  congr 1
  funext a
  match a with
  | ⟨0, _⟩ => rfl

/-- A value per row taken, read at an entry. -/
theorem perTaken_at {α : Type} (x : S160000.Idx → α) (j : Fin 160000) (c : Fin 256) :
    broadcastInDim S160000x256 ![0] bcast_S160000_S160000x256_0 x (ix2 (n0 := 160000) (n1 := 256) j c) = x (ix1 (n := 160000) j) := by
  unfold broadcastInDim
  congr 1
  funext a
  match a with
  | ⟨0, _⟩ => rfl

theorem quotient_at {s : Shape} (a b : FVec Ideal s .f32) (i : s.Idx) : Host.divf a b i = Ideal.div (a i) (b i) := rfl
theorem max_at {s : Shape} (a b : FVec Ideal s .f32) (i : s.Idx) : maximumf a b i = max (a i : EReal) (b i) := rfl
theorem select_at {α : Type} {s : Shape} (b : IVec s 1) (x y : s.Idx → α) (i : s.Idx) (h : b i = 1#1) : select b x y i = x i := by
  show Scalar.select (b i) (x i) (y i) = _
  rw [h]; rfl

theorem scatterAdd_at {s si u : Shape} {w : ℕ} (d : ScatterDims s si u) (x : FVec Ideal s .f32) (idx : IVec si w) (upd : FVec Ideal u .f32) (i : s.Idx) (z : EReal) (hz : x i = z) :
    Host.scatterAdd d x idx upd i = z + ∑ j, if d.resultIdx? j idx = some i then (upd j : EReal) else 0 := by
  subst hz
  rw [← Finset.sum_filter]
  rfl

/-- The segments as the scatter reads them. -/
abbrev segCol (s : IVec S160000 32) : IVec S160000x1 32 := broadcastInDim S160000x1 ![0] bcast_S160000_S160000x1_0 s

theorem segCol_at (s : IVec S160000 32) (j : Fin 160000) : segCol s (ix2 (n0 := 160000) (n1 := 1) j 0) = s (ix1 (n := 160000) j) :=
  column_at s _

theorem lands2 (s : IVec S160000 32) (j : Fin 160000) (c' : Fin 256) (i : Fin 10000) (c : Fin 256) :
    scatter_S10000x256_S160000x1_S160000x256_1_0_0_1.resultIdx? (ix2 (n0 := 160000) (n1 := 256) j c') (segCol s) = some (ix2 (n0 := 10000) (n1 := 256) i c)
      ↔ (s (ix1 (n := 160000) j)).toInt = i.val ∧ c' = c := by
  refine (Routing.resultIdx?_ix2 _ _ _ _ _).trans ?_
  have e0 : scatter_S10000x256_S160000x1_S160000x256_1_0_0_1.start (ix2 (n0 := 160000) (n1 := 256) j c') (segCol s) 0 = (s (ix1 (n := 160000) j)).toInt := by
    rw [← segCol_at s j]
    unfold ScatterDims.start
    rw [dif_pos (show (0 : Fin 2) ∈ scatter_S10000x256_S160000x1_S160000x256_1_0_0_1.scatterDimsToOperandDims from List.mem_singleton.mpr rfl)]
    congr 1
    congr 1
    funext a
    match a with
    | ⟨0, _⟩ => rfl
    | ⟨1, _⟩ => rfl
  have e1 : scatter_S10000x256_S160000x1_S160000x256_1_0_0_1.start (ix2 (n0 := 160000) (n1 := 256) j c') (segCol s) 1 = 0 := rfl
  have e2 : scatter_S10000x256_S160000x1_S160000x256_1_0_0_1.window (ix2 (n0 := 160000) (n1 := 256) j c') 0 = 0 := rfl
  have e3 : scatter_S10000x256_S160000x1_S160000x256_1_0_0_1.window (ix2 (n0 := 160000) (n1 := 256) j c') 1 = c'.val := rfl
  rw [e0, e1, e2, e3, Fin.ext_iff]
  omega

theorem lands1 (s : IVec S160000 32) (j : Fin 160000) (i : Fin 10000) :
    scatter_S10000_S160000x1_S160000_n_0_0_1.resultIdx? (ix1 (n := 160000) j) (segCol s) = some (ix1 (n := 10000) i)
      ↔ (s (ix1 (n := 160000) j)).toInt = i.val := by
  refine (Routing.resultIdx?_ix1 _ _ _ _).trans ?_
  have e0 : scatter_S10000_S160000x1_S160000_n_0_0_1.start (ix1 (n := 160000) j) (segCol s) 0 = (s (ix1 (n := 160000) j)).toInt := by
    rw [← segCol_at s j]
    unfold ScatterDims.start
    rw [dif_pos (show (0 : Fin 1) ∈ scatter_S10000_S160000x1_S160000_n_0_0_1.scatterDimsToOperandDims from List.mem_singleton.mpr rfl)]
    congr 1
    congr 1
    funext a
    match a with
    | ⟨0, _⟩ => rfl
    | ⟨1, _⟩ => rfl
  have e2 : scatter_S10000_S160000x1_S160000_n_0_0_1.window (ix1 (n := 160000) j) 0 = 0 := rfl
  rw [e0, e2]
  omega

theorem zero_ideal : Ideal.ofBits .f32 0x00000000#32 = 0 := by simp [Ideal.ofBits, Ideal.ieee]
theorem one_ideal : Ideal.ofBits .f32 0x3F800000#32 = 1 := by simp [Ideal.ofBits, Ideal.ieee, -EReal.coe_mul]; norm_num

/-- The sum of a segment's entries. -/
def segSum (s : IVec S160000 32) (f : Fin 160000 → EReal) (i : Fin 10000) : EReal :=
  ∑ j : Fin 160000, if (s (ix1 (n := 160000) j)).toInt = (i.val : ℤ) then f j else 0

theorem sums_at (X : FVec Ideal S160000x256 .f32) (s : IVec S160000 32) (i : Fin 10000) (c : Fin 256) :
    Host.scatterAdd (F := Ideal) (φ := .f32) scatter_S10000x256_S160000x1_S160000x256_1_0_0_1 (broadcastInDim S10000x256 ![] bcast_S_S10000x256 (constant S_ .f32 0x00000000#32)) (segCol s) X
      (ix2 (n0 := 10000) (n1 := 256) i c) = segSum s (fun j => X (ix2 (n0 := 160000) (n1 := 256) j c)) i := by
  rw [scatterAdd_at _ _ _ _ _ 0 zero_ideal, zero_add, sum_idx2]
  unfold segSum
  refine Finset.sum_congr rfl fun j _ => ?_
  have h : ∀ c' : Fin 256, (if scatter_S10000x256_S160000x1_S160000x256_1_0_0_1.resultIdx? (ix2 (n0 := 160000) (n1 := 256) j c') (segCol s) = some (ix2 (n0 := 10000) (n1 := 256) i c)
        then (X (ix2 (n0 := 160000) (n1 := 256) j c') : EReal) else 0)
      = if c' = c then (if (s (ix1 (n := 160000) j)).toInt = (i.val : ℤ) then (X (ix2 (n0 := 160000) (n1 := 256) j c') : EReal) else 0) else 0 := by
    intro c'
    have := lands2 s j c' i c
    by_cases h1 : (s (ix1 (n := 160000) j)).toInt = (i.val : ℤ)
    · by_cases h2 : c' = c
      · rw [if_pos h2, if_pos h1]; exact if_pos (this.mpr ⟨h1, h2⟩)
      · rw [if_neg h2]; exact if_neg fun e => h2 (this.mp e).2
    · rw [if_neg h1, ite_self]; exact if_neg fun e => h1 (this.mp e).1
  rw [Finset.sum_congr rfl fun c' _ => h c', Finset.sum_ite_eq', if_pos (Finset.mem_univ _)]

theorem counts_at (s : IVec S160000 32) (i : Fin 10000) :
    Host.scatterAdd (F := Ideal) (φ := .f32) scatter_S10000_S160000x1_S160000_n_0_0_1 (broadcastInDim S10000 ![] bcast_S_S10000 (constant S_ .f32 0x00000000#32)) (segCol s)
        (broadcastInDim S160000 ![] bcast_S_S160000 (constant S_ .f32 0x3F800000#32))
      (ix1 (n := 10000) i) = segSum s (fun _ => 1) i := by
  rw [scatterAdd_at _ _ _ _ _ 0 zero_ideal, zero_add, ← (idxEquiv1 (n := 160000)).symm.sum_comp]
  unfold segSum
  exact Finset.sum_congr rfl fun j _ => if_congr (lands1 s j i) one_ideal rfl

/-- The reference's result at an entry. -/
theorem means_at (X : FVec Ideal S160000x256 .f32) (s : IVec S160000 32) (i : Fin 10000) (c : Fin 256) :
    means X s (ix2 (n0 := 10000) (n1 := 256) i c)
      = Ideal.div (segSum s (fun j => X (ix2 (n0 := 160000) (n1 := 256) j c)) i) (max (segSum s (fun _ => 1) i) 1) := by
  unfold means
  rw [quotient_at, sums_at, perRow_at, max_at, counts_at]
  exact congrArg (fun t => Ideal.div _ (max _ t)) one_ideal

/-- A row number in range is read as it is. -/
theorem rowIds_at (g : IVec S160000 32) (hg : ∀ j, (g j).toNat < 10000) (j : S160000x1.Idx) : rowIds g j = g (ix1 (n := 160000) (j 0)) := by
  refine (column_at _ j).trans ?_
  have := hg (ix1 (n := 160000) (j 0))
  exact Routing.wrap_of_lt _ _ (lt_trans this (by norm_num))

theorem taken_at (x : FVec Ideal S10000x256 .f32) (g : IVec S160000 32) (hg : ∀ j, (g j).toNat < 10000) (j : Fin 160000) (c : Fin 256) :
    taken x g (ix2 (n0 := 160000) (n1 := 256) j c) = x (ix2 (n0 := 10000) (n1 := 256) ⟨(g (ix1 (n := 160000) j)).toNat, hg _⟩ c) := by
  have hall : ∀ k, Host.reduce IntOp.andi (andi (cmpi .sge (rowIds g) (broadcastInDim S160000x1 ![] bcast_S_S160000x1 (constantI S_ 32 0#32)))
        (cmpi .sle (rowIds g) (broadcastInDim S160000x1 ![0, 1] bcast_S1x1_S160000x1_0_1 (broadcastInDim S1x1 ![1] bcast_S1_S1x1_1 (constantI S1 32 9999#32)))))
        (constantI S_ 1 1#1) reducesTo_S160000x1_S160000_d1 h_S_ k = 1#1 := by
    intro k
    refine Host.reduce_andi_one _ _ _ _ _ rfl fun i => ?_
    have hi := hg (ix1 (n := 160000) (i 0))
    have hn : (rowIds g i).toInt = (g (ix1 (n := 160000) (i 0))).toNat := by
      rw [rowIds_at g hg, BitVec.toInt_eq_toNat_cond, if_pos (by omega)]
    refine IntOp.andi_eq_one.2 ⟨IntOp.cmpi_sge.2 ?_, IntOp.cmpi_sle.2 ?_⟩
    · show (0#32 : BitVec 32).toInt ≤ _
      rw [hn]; simp
    · show _ ≤ (9999#32 : BitVec 32).toInt
      rw [hn, show (9999#32 : BitVec 32).toInt = 9999 by decide]; omega
  unfold taken
  rw [select_at _ _ _ _ ((perTaken_at _ j c).trans (hall _))]
  unfold Host.gather
  congr 1
  have e0 : gather_S10000x256_S160000x1_S160000x256_1_0_n_n_0_1_1256.start (ix2 (n0 := 160000) (n1 := 256) j c) (rowIds g) 0 = (g (ix1 (n := 160000) j)).toNat := by
    have hj := hg (ix1 (n := 160000) j)
    have hr : rowIds g (ix2 (n0 := 160000) (n1 := 1) j 0) = g (ix1 (n := 160000) j) := rowIds_at g hg _
    have hs : gather_S10000x256_S160000x1_S160000x256_1_0_n_n_0_1_1256.start (ix2 (n0 := 160000) (n1 := 256) j c) (rowIds g) 0
        = min (rowIds g (ix2 (n0 := 160000) (n1 := 1) j 0)).toInt.toNat (10000 - 1) := by
      unfold GatherDims.start
      rw [dif_pos (show (0 : Fin 2) ∈ gather_S10000x256_S160000x1_S160000x256_1_0_n_n_0_1_1256.startIndexMap from List.mem_singleton.mpr rfl)]
      congr 1
      congr 1
      congr 1
      congr 1
      funext a
      match a with
      | ⟨0, _⟩ => rfl
      | ⟨1, _⟩ => rfl
    rw [hs, hr, BitVec.toInt_eq_toNat_cond, if_pos (by omega)]
    omega
  funext a
  refine Fin.ext ?_
  match a with
  | ⟨0, _⟩ => exact e0
  | ⟨1, _⟩ => exact (Nat.zero_add _)

end Cert.Proof.Ref

end
-- ==== Proof.Equal.lean ====
/- The program's result and the reference's, entry by entry. -/
module

public import proofs.«01_k».proof.Proof.Value
public import proofs.«01_k».proof.Proof.Meaning
public import proofs.«01_k».proof.Proof.Main
public import proofs.«01_k».proof.Proof.Frames

@[expose] public section

noncomputable section

namespace Cert.Proof.Run

open Cert.KernelIdeal Cert.KernelIdeal.Gen

open Idealize.ShloMosaic

variable (m : (ℓ : Loc nD τ sig) → Buf (Elt Ideal) ℓ)

theorem ix1_eq {n : ℕ} (a : Fin n) : (ix1 a : (⟨1, ![n]⟩ : Shape).Idx) = ValueIdx.ix1 a := by
  funext b; match b with | ⟨0, _⟩ => rfl
theorem ix2_eq {n0 n1 : ℕ} (a : Fin n0) (b : Fin n1) : (ix2 a b : (⟨2, ![n0, n1]⟩ : Shape).Idx) = ValueIdx.ix2 a b := by
  funext b; match b with | ⟨0, _⟩ => rfl | ⟨1, _⟩ => rfl

/-- The reference's result at the program's arguments. -/
abbrev expected (d : Dev nD) : S10000x256.Idx → EReal := Ref.means (F := Ideal) (Ref.taken (m (hLoc d main_arg0)) (m (hLoc d main_arg1))) (m (hLoc d main_arg2))

theorem segTotal_eq (d : Dev nD) (L : grid0.Coords) (f : ℕ → EReal) (f' : Fin 160000 → EReal) (hf : ∀ j : Fin 160000, f j.val = f' j) (i : Fin 10000) :
    segTotal (segAt (F := Ideal) d L (Vh m d (dref main_v4))) f i.val = Ref.segSum (m (hLoc d main_arg2)) f' i := by
  unfold segTotal Ref.segSum
  rw [Finset.sum_range]
  refine Finset.sum_congr rfl fun j _ => ?_
  rw [segAt_lt m d L j.val j.isLt, hf]
  exact if_congr (by rw [ix1_eq]) rfl rfl

/-- The tile whose rows hold row `i`. -/
theorem tile_of (i : Fin 10000) : ∃ q : Fin 2 × Fin 16, (lowId (coordsP q)).toNat ≤ i.val ∧ i.val < (lowId (coordsP q)).toNat + 320 := by
  have hi := i.isLt
  refine ⟨(⟨i.val / 320 / 16, by omega⟩, ⟨i.val / 320 % 16, by omega⟩), ?_⟩
  rw [lowId_coords]
  show 320 * (16 * (i.val / 320 / 16) + i.val / 320 % 16) ≤ i.val ∧ i.val < 320 * (16 * (i.val / 320 / 16) + i.val / 320 % 16) + 320
  generalize i.val = n
  omega

theorem block_at (d : Dev nD) (L : grid0.Coords) (t : Fin k0_t3_loop.trips) (g : Buf (Elt Ideal) (hLoc d main_v5)) (i : Fin 10000) (a : Fin 2) (c : Fin 128) (ha : t.val = a.val)
    (h0 : (lowId L).toNat ≤ i.val) (h1 : i.val < (lowId L).toNat + 320) :
    g (ix3 (n0 := 2) (n1 := 10240) (n2 := 128) a ⟨i.val, by omega⟩ c)
      = (oH L t).view.read (Elt Ideal) (g : Buf (Elt Ideal) ((oH L t).view.loc (thr d L))) (ix2 (n0 := 320) (n1 := 128) ⟨i.val - (lowId L).toNat, by omega⟩ c) := by
  rw [oH_read]
  obtain ⟨⟨e0, e1⟩, e2⟩ := oH_emb L t (ix2 (n0 := 320) (n1 := 128) ⟨i.val - (lowId L).toNat, by omega⟩ c)
  refine congrArg g (funext fun b => Fin.ext ?_)
  match b with
  | ⟨0, _⟩ => exact (e0.trans ha).symm
  | ⟨1, _⟩ => exact ((Nat.add_sub_of_le h0).symm.trans e1.symm)
  | ⟨2, _⟩ => exact e2.symm

theorem entry_eq (hpre : PreOK m) (hs : InOrder m) (d : Dev nD) (g : Buf (Elt Ideal) (hLoc d main_v5)) (hg : ∀ q : Fin 2 × Fin 16, TileDone m d (coordsP q) g)
    (i : Fin 10000) (a : Fin 2) (c : Fin 128) :
    Vf m d g (dref main_v10) (ix2 (n0 := 10000) (n1 := 256) i ⟨128 * a.val + c.val, by omega⟩)
      = expected m d (ix2 (n0 := 10000) (n1 := 256) i ⟨128 * a.val + c.val, by omega⟩) := by
  rw [result_at]
  refine Eq.trans ?_ (Ref.means_at _ _ i _).symm
  obtain ⟨q, h0, h1⟩ := tile_of i
  have hv := tile_value d (coordsP q) _ _ _ _ _ (sorted_of m hs d (coordsP q)) (hg q) (ix2 (n0 := 320) (n1 := 128) ⟨i.val - (lowId (coordsP q)).toNat, by omega⟩ c)
  have hi : (lowId (coordsP q)).toNat + (i.val - (lowId (coordsP q)).toNat) = i.val := Nat.add_sub_of_le h0
  have hn : segTotal (segAt (F := Ideal) d (coordsP q) (Vh m d (dref main_v4))) (fun _ => 1) i.val = Ref.segSum (m (hLoc d main_arg2)) (fun _ => 1) i :=
    segTotal_eq m d (coordsP q) _ _ (fun _ => rfl) i
  have hr : segTotal (segAt (F := Ideal) d (coordsP q) (Vh m d (dref main_v4)))
        (rowAt (xW.view.read (Elt Ideal) (Vh m d (dref main_v0) : Buf (Elt Ideal) (xW.view.loc (thr d (coordsP q))))) (gidAt (F := Ideal) d (coordsP q) (Vh m d (dref main_v2))) (Scf.iv 0#32 1#32 a.val) c) i.val
      = Ref.segSum (m (hLoc d main_arg2)) (fun j => Ref.taken (F := Ideal) (m (hLoc d main_arg0)) (m (hLoc d main_arg1)) (ValueIdx.ix2 (n0 := 160000) (n1 := 256) j ⟨128 * a.val + c.val, by omega⟩)) i :=
    segTotal_eq m d (coordsP q) _ _ (fun j => (rowAt_lt m hpre d (coordsP q) a c j.val j.isLt).trans ((by simp only [ix1_eq, ix2_eq] : _ = _).trans (Ref.taken_at _ _ (hpre d) j _).symm)) i
  rw [← hn, ← hr]
  match a with
  | ⟨0, _⟩ =>
    refine (block_at d (coordsP q) half0 g i ⟨0, by decide⟩ c rfl h0 h1).trans (hv.1.trans ?_)
    show Ideal.div (segTotal _ _ ((lowId (coordsP q)).toNat + (i.val - (lowId (coordsP q)).toNat))) (max (segTotal _ _ ((lowId (coordsP q)).toNat + (i.val - (lowId (coordsP q)).toNat))) 1) = _
    rw [hi]
    rfl
  | ⟨1, _⟩ =>
    refine (block_at d (coordsP q) half1 g i ⟨1, by decide⟩ c rfl h0 h1).trans (hv.2.trans ?_)
    show Ideal.div (segTotal _ _ ((lowId (coordsP q)).toNat + (i.val - (lowId (coordsP q)).toNat))) (max (segTotal _ _ ((lowId (coordsP q)).toNat + (i.val - (lowId (coordsP q)).toNat))) 1) = _
    rw [hi]
    rfl

/-- The whole result. -/
theorem result_eq (hpre : PreOK m) (hs : InOrder m) (d : Dev nD) (g : Buf (Elt Ideal) (hLoc d main_v5)) (hg : ∀ q : Fin 2 × Fin 16, TileDone m d (coordsP q) g) :
    Vf m d g (dref main_v10) = expected m d := by
  funext p
  have hp1 : (p 1).val < 256 := (p 1).isLt
  have e : p = ix2 (n0 := 10000) (n1 := 256) (p 0) ⟨128 * ((p 1).val / 128) + (p 1).val % 128, by omega⟩ := by
    funext b
    match b with
    | ⟨0, _⟩ => rfl
    | ⟨1, _⟩ => exact Fin.ext (Nat.div_add_mod _ _).symm
  rw [e]
  exact entry_eq m hpre hs d g hg (p 0) ⟨(p 1).val / 128, by omega⟩ ⟨(p 1).val % 128, by omega⟩

end Cert.Proof.Run

end
-- ==== Proof.Algebra.lean ====
/- The program and the reference leave the same result, over the extended reals, where the segment ids are in order. -/
module

public import proofs.«01_k».proof.Proof.Equal

@[expose] public section

noncomputable section

namespace Cert.Proof

open Idealize.ShloMosaic Idealize.SL.Sem

theorem segments_adjacent {F : FTy → Type} [FloatOps F] (x : FVec F ⟨2, ![10000, 256]⟩ .f32) (a b : IVec ⟨1, ![160000]⟩ 32)
    (h : Cert.Pre_sorted_segments.fn (F := F) x a b = fun _ => 1#1) (n : ℕ) (hn : n + 1 < 160000) :
    (b (ix1 (n0 := 160000) ⟨n, by omega⟩)).toInt ≤ (b (ix1 (n0 := 160000) ⟨n + 1, hn⟩)).toInt := by
  have e := congrFun h (fun i => i.elim0)
  have e := (IntOp.andi_eq_one.1 e).2
  have e := IntOp.cmpi_sle.1 (Host.reduce_andi_all _ _ _ _ _ e (ix1 (n0 := 159999) ⟨n, by omega⟩))
  refine le_of_eq_of_le ?_ (le_of_le_of_eq e ?_)
  · refine congrArg (fun i => (b i).toInt) (funext fun c => Fin.ext ?_)
    match c with
    | ⟨0, _⟩ => exact (Nat.zero_add n).symm
  · refine congrArg (fun i => (b i).toInt) (funext fun c => Fin.ext ?_)
    match c with
    | ⟨0, _⟩ => exact Nat.add_comm 1 n

/-- `sorted_segments` of the arguments: the ids never fall. -/
theorem segments_rise {F : FTy → Type} [FloatOps F] (x : FVec F ⟨2, ![10000, 256]⟩ .f32) (a b : IVec ⟨1, ![160000]⟩ 32)
    (h : Cert.Pre_sorted_segments.fn (F := F) x a b = fun _ => 1#1) (i j : Fin 160000) (hij : i ≤ j) :
    (b (ix1 (n0 := 160000) i)).toInt ≤ (b (ix1 (n0 := 160000) j)).toInt := by
  have key : ∀ (k : ℕ) (hk : i.val + k < 160000), (b (ix1 (n0 := 160000) i)).toInt ≤ (b (ix1 (n0 := 160000) ⟨i.val + k, hk⟩)).toInt := by
    intro k
    induction k with
    | zero => exact fun _ => le_refl _
    | succ k ih => exact fun hk => (ih (by omega)).trans (segments_adjacent x a b h (i.val + k) hk)
  have hj := j.isLt
  have hle : i.val ≤ j.val := hij
  refine (key (j.val - i.val) (by omega)).trans (le_of_eq ?_)
  refine congrArg (fun t => (b (ix1 (n0 := 160000) t)).toInt) (Fin.ext (Nat.add_sub_of_le hle))

/-- and every gather index is below 10000. -/
theorem rows_lt {F : FTy → Type} [FloatOps F] (x : FVec F ⟨2, ![10000, 256]⟩ .f32) (a b : IVec ⟨1, ![160000]⟩ 32)
    (h : Cert.Pre_sorted_segments.fn (F := F) x a b = fun _ => 1#1) (j : Shape.Idx ⟨1, ![160000]⟩) : (a j).toNat < 10000 := by
  have e := congrFun h (fun i => i.elim0)
  have e := (IntOp.andi_eq_one.1 e).1
  have e := Host.reduce_andi_all _ _ _ _ _ e j
  obtain ⟨e0, e1⟩ := IntOp.andi_eq_one.1 e
  exact word_lt _ (IntOp.cmpi_sge.1 e0) (IntOp.cmpi_slt.1 e1)

theorem frame_ideal_sorted : Cert.quiescent_KernelIdeal_pre_sorted_segments := fun m ρ hpre =>
  (θ_run Cert.KernelIdeal.defs _ _).mono (fun _ h => ⟨fun c => ⟨(h.1 c).1.1.1, (h.1 c).1.1.2, (h.1 c).1.2⟩, h.2⟩)
    (Run.run_main (F := Ideal) m ρ fun d => rows_lt _ _ _ (hpre d))

theorem frame_reference_sorted : Cert.quiescent_ReferenceIdeal_pre_sorted_segments := fun m ρ _ => frame_reference m ρ trivial

namespace Ref

open Cert.ReferenceIdeal Cert.ReferenceIdeal.Facts Cert.ReferenceIdeal.Gen

variable {F : FTy → Type} [FloatOps F]

theorem after_two (l₁ l₂ : List (HloOp τ sig (Elt F))) (V : Valuation τ sig (Elt F)) : StableHlo.after (l₁ ++ l₂) V = StableHlo.after l₂ (StableHlo.after l₁ V) := by
  induction l₁ generalizing V with
  | nil => rfl
  | cons op l ih => exact ih _

theorem take_keeps (V : Valuation τ sig (Elt F)) : StableHlo.after takeOps V (rref main_arg2) = V (rref main_arg2) := by
  have h : (takeOps : List (HloOp τ sig (Elt F))).Forall fun op => op.writes ⊆ (([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0] : List (Ref sig .tc)).map (Proc.devRef (τ := τ) .tc)).toFinset :=
    StableHlo.forall_writes_sub_of_map rfl
  exact StableHlo.after_of_writes_sub _ _ h (by decide)

theorem all_out (V : Valuation τ sig (Elt F)) : StableHlo.after (takeOps ++ sumOps) V (rref main_v12)
    = means (taken (V (rref main_arg0)) (V (rref main_arg1))) (V (rref main_arg2)) := by
  rw [after_two, sum_out, take_out, take_keeps]

end Ref

theorem algebraic : Cert.algebraic_KernelIdeal_ReferenceIdeal_pre_sorted_segments := by
  intro m g m' g' hpre hagree
  refine ⟨fun c => Run.expected m c, ?_, ?_⟩
  · refine (θ_run Cert.KernelIdeal.defs _ _).mono (fun r h c => ?_) (Run.run_main (F := Ideal) m g fun d => rows_lt _ _ _ (hpre d))
    obtain ⟨hargs, f, hf, hout⟩ := h.1 c
    exact ⟨hout.trans (Run.result_eq m (fun d => rows_lt _ _ _ (hpre d)) (fun d => segments_rise _ _ _ (hpre d)) c f hf), hargs.1.1, hargs.1.2, hargs.2⟩
  · refine (θ_run Cert.ReferenceIdeal.defs _ _).mono (fun r h c => ?_) (Ref.run_main (F := Ideal) m' g')
    obtain ⟨h0, h1, h2⟩ := hagree c
    refine ⟨(h c Cert.ReferenceIdeal.main_v12).trans ((Ref.all_out _).trans ?_), (h c Cert.ReferenceIdeal.main_arg0).trans (Ref.keep _).1.1,
      (h c Cert.ReferenceIdeal.main_arg1).trans (Ref.keep _).1.2, (h c Cert.ReferenceIdeal.main_arg2).trans (Ref.keep _).2⟩
    exact congr (congrArg Ref.means (congr (congrArg Ref.taken h0) h1)) h2

end Cert.Proof

end
-- ==== Proof.lean ====
module

public import proofs.«01_k».proof.Defs
public import proofs.«01_k».proof.Proof.Frames
public import proofs.«01_k».proof.Proof.Ref
public import proofs.«01_k».proof.Proof.Algebra

@[expose] public section

noncomputable section

namespace Cert.Proof

/-- `Cert.Claim` (Defs.lean). -/
theorem claim : Cert.Claim :=
  ⟨Cert.Kernel.Gen.facts, Cert.KernelIdeal.Gen.facts, Cert.ReferenceIdeal.Gen.facts, Cert.Pre_gather_in_range.Gen.facts,
    Cert.Pre_sorted_segments.Gen.facts, frame_kernel, frame_ideal, frame_ideal_sorted, frame_reference, frame_reference_sorted, trivial,
    algebraic⟩

end Cert.Proof

end
